-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v39_1)) (v2 : (c : Dev Cert.Kernel5Ideal.nD) → Buf (Elt Ideal) ((c.tc : Thread Cert.Kernel5Ideal.nD Cert.Kernel5Ideal.τ).loc Cert.Kernel5Ideal.main_v39_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v39_1) = v1 c
          ∧ r.2.mem ((c.tc : Thread Cert.Kernel5Ideal.nD Cert.Kernel5Ideal.τ).loc Cert.Kernel5Ideal.main_v39_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v65) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v36_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v36_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v63) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v106) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4x8192x3072 : Shape := ⟨3, ![4, 8192, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S4x8192x3072 : S_.BroadcastsInDim S4x8192x3072 (![] : Fin 0 → Fin S4x8192x3072.rank)
  reducesTo_S4x8192x3072_S_d0_1_2 : S4x8192x3072.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v14 : IVec S_ 1) (main_v15 : FVec F S1x64 .f32) (main_v16 : FVec F S1x64 .f32) : IVec S_ 1 :=
  let main_v17 : IVec S1x64 1 := cmpf .olt main_v15 main_v16
  let main_c_5 : IVec S_ 1 := constantI S_ 1 1#1
  let main_v18 : IVec S_ 1 := (fun x v => Host.reduce IntOp.andi x v reducesTo_S1x64_S_d0_1 h_S_) main_v17 main_c_5
  let main_v19 : IVec S_ 1 := andi main_v14 main_v18
  let main_v20 : FVec F S1x64 .f32 := Host.absf main_arg4
  let main_cst_6 : FVec F S_ .f32 := constant S_ .f32 0x7F800000#32
  let main_v21 : FVec F S1x64 .f32 := broadcastInDim S1x64 ![] bcast_S_S1x64 main_cst_6
  let main_v22 : IVec S1x64 1 := cmpf .olt main_v20 main_v21
  let main_c_7 : IVec S_ 1 := constantI S_ 1 1#1
  let main_v23 : IVec S_ 1 := (fun x v => Host.reduce IntOp.andi x v reducesTo_S1x64_S_d0_1 h_S_) main_v22 main_c_7
  let main_v24 : IVec S_ 1 := andi main_v19 main_v23
  main_v24

def fn {F : FTy → Type} [FloatOps F] (main_arg0 : FVec F S4x8192x3072 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S4x8192x3072 .f32 := (extf .f32 · bitsLt_bf16_f32) main_arg0
  let main_v1 : FVec F S4x8192x3072 .f32 := Host.absf main_v0
  let main_cst : FVec F S_ .f32 := constant S_ .f32 0x7F800000#32
  let main_v2 : FVec F S4x8192x3072 .f32 := broadcastInDim S4x8192x3072 ![] bcast_S_S4x8192x3072 main_cst
  let main_v3 : IVec S4x8192x3072 1 := cmpf .olt main_v1 main_v2
  let main_c : IVec S_ 1 := constantI S_ 1 1#1
  let main_v4 : IVec S_ 1 := (fun x v => Host.reduce IntOp.andi x v reducesTo_S4x8192x3072_S_d0_1_2 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : IVec S_ 1 := andi main_v4 main_v8
  let main_v10 : FVec F S1x64 .f32 := Host.absf main_arg2
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v9 main_v13
  let main_v15 : FVec F S1x64 .f32 := Host.absf main_arg3
  let main_cst_4 : FVec F S_ .f32 := constant S_ .f32 0x7F800000#32
  let main_v16 : FVec F S1x64 .f32 := broadcastInDim S1x64 ![] bcast_S_S1x64 main_cst_4
  fn_part1 (F := F) main_arg4 main_v14 main_v15 main_v16
-- ==== Pre_finite2.lean ====
abbrev S4x8192x3584 : Shape := ⟨3, ![4, 8192, 3584]⟩
abbrev S_ : Shape := ⟨0, ![]⟩

class Facts : Prop where
  bitsLt_bf16_f32 : FTy.bits .bf16 < FTy.bits .f32
  bcast_S_S4x8192x3584 : S_.BroadcastsInDim S4x8192x3584 (![] : Fin 0 → Fin S4x8192x3584.rank)
  reducesTo_S4x8192x3584_S_d0_1_2 : S4x8192x3584.ReducesTo [0, 1, 2] S_
  h_S_ : 0 < S_.numel

variable [Facts]

def fn {F : FTy → Type} [FloatOps F] (main_arg0 : FVec F S4x8192x3584 .bf16) : IVec S_ 1 :=
  let main_v0 : FVec F S4x8192x3584 .f32 := (extf .f32 · bitsLt_bf16_f32) main_arg0
  let main_v1 : FVec F S4x8192x3584 .f32 := Host.absf main_v0
  let main_cst : FVec F S_ .f32 := constant S_ .f32 0x7F800000#32
  let main_v2 : FVec F S4x8192x3584 .f32 := broadcastInDim S4x8192x3584 ![] bcast_S_S4x8192x3584 main_cst
  let main_v3 : IVec S4x8192x3584 1 := cmpf .olt main_v1 main_v2
  let main_c : IVec S_ 1 := constantI S_ 1 1#1
  let main_v4 : IVec S_ 1 := (fun x v => Host.reduce IntOp.andi x v reducesTo_S4x8192x3584_S_d0_1_2 h_S_) main_v3 main_c
  main_v4
-- ==== Pre_finite8.lean ====
abbrev S4x8192x3584 : Shape := ⟨3, ![4, 8192, 3584]⟩
abbrev S1x512 : Shape := ⟨2, ![1, 512]⟩
abbrev S_ : Shape := ⟨0, ![]⟩

class Facts : Prop where
  bitsLt_bf16_f32 : FTy.bits .bf16 < FTy.bits .f32
  bcast_S_S4x8192x3584 : S_.BroadcastsInDim S4x8192x3584 (![] : Fin 0 → Fin S4x8192x3584.rank)
  reducesTo_S4x8192x3584_S_d0_1_2 : S4x8192x3584.ReducesTo [0, 1, 2] S_
  h_S_ : 0 < S_.numel

variable [Facts]

def fn {F : FTy → Type} [FloatOps F] (main_arg0 : FVec F S4x8192x3584 .bf16) (main_arg1 : FVec F S1x512 .f32) : IVec S_ 1 :=
  let main_v0 : FVec F S4x8192x3584 .f32 := (extf .f32 · bitsLt_bf16_f32) main_arg0
  let main_v1 : FVec F S4x8192x3584 .f32 := Host.absf main_v0
  let main_cst : FVec F S_ .f32 := constant S_ .f32 0x7F800000#32
  let main_v2 : FVec F S4x8192x3584 .f32 := broadcastInDim S4x8192x3584 ![] bcast_S_S4x8192x3584 main_cst
  let main_v3 : IVec S4x8192x3584 1 := cmpf .olt main_v1 main_v2
  let main_c : IVec S_ 1 := constantI S_ 1 1#1
  let main_v4 : IVec S_ 1 := (fun x v => Host.reduce IntOp.andi x v reducesTo_S4x8192x3584_S_d0_1_2 h_S_) main_v3 main_c
  main_v4
-- ==== Kernel.lean ====
abbrev S4x8192x3072 : Shape := ⟨3, ![4, 8192, 3072]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S8 : Shape := ⟨1, ![8]⟩
abbrev S_ : Shape := ⟨0, ![]⟩
abbrev S4x8192x1024 : Shape := ⟨3, ![4, 8192, 1024]⟩
abbrev S1x256x128 : Shape := ⟨3, ![1, 256, 128]⟩
abbrev S1x8192x128 : Shape := ⟨3, ![1, 8192, 128]⟩
abbrev S512x1 : Shape := ⟨2, ![512, 1]⟩
abbrev S512x128 : Shape := ⟨2, ![512, 128]⟩
abbrev S1 : Shape := ⟨1, ![1]⟩
abbrev S256x128 : Shape := ⟨2, ![256, 128]⟩
abbrev S256x256 : Shape := ⟨2, ![256, 256]⟩
abbrev S512x256 : Shape := ⟨2, ![512, 256]⟩
abbrev S512 : Shape := ⟨1, ![512]⟩
abbrev S1x256 : Shape := ⟨2, ![1, 256]⟩
abbrev S1x1 : Shape := ⟨2, ![1, 1]⟩
abbrev S256 : Shape := ⟨1, ![256]⟩
abbrev S256x1 : Shape := ⟨2, ![256, 1]⟩

abbrev nBuf : Space → Nat
  | .hbm => 29
  | .vmem => 13
  | .smem => 1
  | _ => 0

abbrev bufTy : (tb : Table) → Fin (tcTables nBuf tb) → BufTy
  | .hbm, ⟨0, _⟩ => ⟨S4x8192x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S128, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S1x128, .f32⟩
  | .hbm, ⟨28, _⟩ => ⟨S4x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x256x128, .bf16⟩
  | .local _ .vmem, ⟨9, _⟩ => ⟨S1x256x128, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .smem, ⟨0, _⟩ => ⟨S8, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 8, 32], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c256_i32 : BitVec 32 := 256#32
  let v92 : BitVec 32 := Scalar.muli arg2 c256_i32
  v92
def k0_off2 (i : grid0.Coords) : Fin 3 → Nat :=
  let c0_25 : Index := 0#32
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_26 : Index := 0#32
  ![0, v94.toNat, 0]
@[reducible] def k0_t1_loop (i : grid0.Coords) : Scf.Loop 32 :=
  let c0_i32_46 : BitVec 32 := 0#32
  let arg2 : BitVec 32 := BitVec.ofNat 32 (i 2).val
  let v134 : BitVec 32 := Scalar.subi arg2 c0_i32_46
  let c1_i32_48 : BitVec 32 := 1#32
  let v136 : BitVec 32 := Scalar.divsi v134 c1_i32_48
  let v137 : BitVec 32 := Scalar.muli v136 c1_i32_48
  let v138 : BitVec 32 := Scalar.addi c0_i32_46 v137
  let c1_i32_49 : BitVec 32 := 1#32
  ⟨c0_i32_46, v138, c1_i32_49⟩
def k0_mult2 (i : grid0.Coords) (k0_t1 : Fin (k0_t1_loop i).trips) : BitVec 32 :=
  let c0_i32_46 : BitVec 32 := 0#32
  let c1_i32_49 : BitVec 32 := 1#32
  let arg13 : BitVec 32 := Scf.iv c0_i32_46 c1_i32_49 k0_t1
  let c256_i32_70 : BitVec 32 := 256#32
  let v194 : BitVec 32 := Scalar.muli arg13 c256_i32_70
  v194
def k0_off3 (i : grid0.Coords) (k0_t1 : Fin (k0_t1_loop i).trips) : Fin 3 → Nat :=
  let c0_71 : Index := 0#32
  let c0_i32_46 : BitVec 32 := 0#32
  let c1_i32_49 : BitVec 32 := 1#32
  let arg13 : BitVec 32 := Scf.iv c0_i32_46 c1_i32_49 k0_t1
  let c256_i32_70 : BitVec 32 := 256#32
  let v194 : BitVec 32 := Scalar.muli arg13 c256_i32_70
  let v195 : BitVec 32 := v194
  let v196 : Index := Scalar.indexCast v195
  let c0_72 : Index := 0#32
  ![0, v196.toNat, 0]
@[reducible] def k0_t2_loop (i : grid0.Coords) : Scf.Loop 32 :=
  let c0_i32_46 : BitVec 32 := 0#32
  let arg2 : BitVec 32 := BitVec.ofNat 32 (i 2).val
  let v134 : BitVec 32 := Scalar.subi arg2 c0_i32_46
  let c1_i32_48 : BitVec 32 := 1#32
  let v136 : BitVec 32 := Scalar.divsi v134 c1_i32_48
  let v137 : BitVec 32 := Scalar.muli v136 c1_i32_48
  let v138 : BitVec 32 := Scalar.addi c0_i32_46 v137
  let v135 : BitVec 32 := Scalar.addi c0_i32_46 v134
  let c1_i32_50 : BitVec 32 := 1#32
  ⟨v138, v135, c1_i32_50⟩
def k0_mult3 (i : grid0.Coords) (k0_t2 : Fin (k0_t2_loop i).trips) : BitVec 32 :=
  let c0_i32_46 : BitVec 32 := 0#32
  let arg2 : BitVec 32 := BitVec.ofNat 32 (i 2).val
  let v134 : BitVec 32 := Scalar.subi arg2 c0_i32_46
  let c1_i32_48 : BitVec 32 := 1#32
  let v136 : BitVec 32 := Scalar.divsi v134 c1_i32_48
  let v137 : BitVec 32 := Scalar.muli v136 c1_i32_48
  let v138 : BitVec 32 := Scalar.addi c0_i32_46 v137
  let c1_i32_50 : BitVec 32 := 1#32
  let arg13 : BitVec 32 := Scf.iv v138 c1_i32_50 k0_t2
  let c256_i32_70 : BitVec 32 := 256#32
  let v194 : BitVec 32 := Scalar.muli arg13 c256_i32_70
  v194
def k0_off4 (i : grid0.Coords) (k0_t2 : Fin (k0_t2_loop i).trips) : Fin 3 → Nat :=
  let c0_71 : Index := 0#32
  let c0_i32_46 : BitVec 32 := 0#32
  let arg2 : BitVec 32 := BitVec.ofNat 32 (i 2).val
  let v134 : BitVec 32 := Scalar.subi arg2 c0_i32_46
  let c1_i32_48 : BitVec 32 := 1#32
  let v136 : BitVec 32 := Scalar.divsi v134 c1_i32_48
  let v137 : BitVec 32 := Scalar.muli v136 c1_i32_48
  let v138 : BitVec 32 := Scalar.addi c0_i32_46 v137
  let c1_i32_50 : BitVec 32 := 1#32
  let arg13 : BitVec 32 := Scf.iv v138 c1_i32_50 k0_t2
  let c256_i32_70 : BitVec 32 := 256#32
  let v194 : BitVec 32 := Scalar.muli arg13 c256_i32_70
  let v195 : BitVec 32 := v194
  let v196 : Index := Scalar.indexCast v195
  let c0_72 : Index := 0#32
  ![0, v196.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x8192x3072 : Shape := ⟨3, ![4, 8192, 3072]⟩
abbrev S1x64 : Shape := ⟨2, ![1, 64]⟩
abbrev S1x128 : Shape := ⟨2, ![1, 128]⟩
abbrev S4x8192x1024 : Shape := ⟨3, ![4, 8192, 1024]⟩
abbrev S4x8192x8x2x64 : Shape := ⟨5, ![4, 8192, 8, 2, 64]⟩
abbrev S4x8192x8x128 : Shape := ⟨4, ![4, 8192, 8, 128]⟩
abbrev S64 : Shape := ⟨1, ![64]⟩
abbrev S_ : Shape := ⟨0, ![]⟩
abbrev S4x8x2x8192x64 : Shape := ⟨5, ![4, 8, 2, 8192, 64]⟩
abbrev S4x8x8192x128 : Shape := ⟨4, ![4, 8, 8192, 128]⟩
abbrev S8 : Shape := ⟨1, ![8]⟩
abbrev S8192 : Shape := ⟨1, ![8192]⟩
abbrev S4x8x2x8192x8192 : Shape := ⟨5, ![4, 8, 2, 8192, 8192]⟩
abbrev S8192x1 : Shape := ⟨2, ![8192, 1]⟩
abbrev S1x8192 : Shape := ⟨2, ![1, 8192]⟩
abbrev S8192x8192 : Shape := ⟨2, ![8192, 8192]⟩
abbrev S8x1x1x1 : Shape := ⟨4, ![8, 1, 1, 1]⟩
abbrev S1x1x8192x8192 : Shape := ⟨4, ![1, 1, 8192, 8192]⟩
abbrev S8x1x8192x8192 : Shape := ⟨4, ![8, 1, 8192, 8192]⟩
abbrev S1x8x1x8192x8192 : Shape := ⟨5, ![1, 8, 1, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x8192 : Shape := ⟨3, ![4, 8, 8192]⟩
abbrev S4x8x8192x1 : Shape := ⟨4, ![4, 8, 8192, 1]⟩
abbrev S128 : Shape := ⟨1, ![128]⟩
abbrev S1x1x1x128 : Shape := ⟨4, ![1, 1, 1, 128]⟩

abbrev nBuf : Space → Nat
  | .hbm => 135
  | .vmem => 0
  | .smem => 0
  | _ => 0

abbrev hbmTy0_0 (i : Nat) : BufTy := match i % 128 with
  | 0 => ⟨S4x8192x3072, .bf16⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S4x8192x3072, .f32⟩
  | 7 => ⟨S4x8192x1024, .f32⟩
  | 8 => ⟨S4x8192x8x2x64, .f32⟩
  | 9 => ⟨S4x8192x1024, .f32⟩
  | 10 => ⟨S4x8192x8x2x64, .f32⟩
  | 11 => ⟨S4x8192x1024, .f32⟩
  | 12 => ⟨S4x8192x8x128, .f32⟩
  | 13 => ⟨S64, .f32⟩
  | 14 => ⟨S64, .f32⟩
  | 15 => ⟨S64, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4x8x2x8192x64, .f32⟩
  | 29 => ⟨S4x8x2x8192x64, .f32⟩
  | 30 => ⟨S4x8x8192x128, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S8192, .i32⟩
  | 43 => ⟨S_, .i32⟩
  | 44 => ⟨S_, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i1⟩
  | 51 => ⟨S8192, .i32⟩
  | 52 => ⟨S8192, .i32⟩
  | 53 => ⟨S_, .i32⟩
  | 54 => ⟨S8192, .i32⟩
  | 55 => ⟨S8192, .i1⟩
  | 56 => ⟨S8192, .i1⟩
  | 57 => ⟨S_, .i32⟩
  | 58 => ⟨S8192, .i32⟩
  | 59 => ⟨S8192, .i32⟩
  | 60 => ⟨S8192, .i32⟩
  | 61 => ⟨S4x8x2x8192x8192, .f32⟩
  | 62 => ⟨S_, .f32⟩
  | 63 => ⟨S4x8x2x8192x8192, .f32⟩
  | 64 => ⟨S4x8x2x8192x8192, .f32⟩
  | 65 => ⟨S8192x1, .i32⟩
  | 66 => ⟨S1x8192, .i32⟩
  | 67 => ⟨S8192x8192, .i32⟩
  | 68 => ⟨S8192x8192, .i32⟩
  | 69 => ⟨S8192x8192, .i32⟩
  | 70 => ⟨S8192x8192, .i32⟩
  | 71 => ⟨S8192x8192, .f32⟩
  | 72 => ⟨S8x1x1x1, .f32⟩
  | 73 => ⟨S1x1x8192x8192, .f32⟩
  | 74 => ⟨S8x1x8192x8192, .f32⟩
  | 75 => ⟨S8x1x8192x8192, .f32⟩
  | 76 => ⟨S8x1x8192x8192, .f32⟩
  | 77 => ⟨S1x8x1x8192x8192, .f32⟩
  | 78 => ⟨S4x8x2x8192x8192, .f32⟩
  | 79 => ⟨S4x8x2x8192x8192, .f32⟩
  | 80 => ⟨S1x8192, .i32⟩
  | 81 => ⟨S8192x1, .i32⟩
  | 82 => ⟨S8192x8192, .i32⟩
  | 83 => ⟨S8192x8192, .i32⟩
  | 84 => ⟨S8192x8192, .i1⟩
  | 85 => ⟨S_, .f32⟩
  | 86 => ⟨S_, .f32⟩
  | 87 => ⟨S4x8x2x8192x8192, .i1⟩
  | 88 => ⟨S4x8x2x8192x8192, .f32⟩
  | 89 => ⟨S4x8x2x8192x8192, .f32⟩
  | 90 => ⟨S_, .f32⟩
  | 91 => ⟨S4x8x2x8192, .f32⟩
  | 92 => ⟨S_, .f32⟩
  | 93 => ⟨S4x8x2x8192, .f32⟩
  | 94 => ⟨S4x8x2x8192, .f32⟩
  | 95 => ⟨S4x8x2x8192x1, .f32⟩
  | 96 => ⟨S4x8x2x8192x8192, .f32⟩
  | 97 => ⟨S4x8x2x8192x8192, .f32⟩
  | 98 => ⟨S4x8x2x8192x8192, .f32⟩
  | 99 => ⟨S_, .f32⟩
  | 100 => ⟨S4x8x2x8192, .f32⟩
  | 101 => ⟨S4x8x2x8192x1, .f32⟩
  | 102 => ⟨S4x8x2x8192x8192, .f32⟩
  | 103 => ⟨S4x8x2x8192x8192, .f32⟩
  | 104 => ⟨S4x8x1x8192x8192, .f32⟩
  | 105 => ⟨S4x8x8192x8192, .f32⟩
  | 106 => ⟨S4x8x1x8192x8192, .f32⟩
  | 107 => ⟨S4x8x8192x8192, .f32⟩
  | 108 => ⟨S4x8x8192x8192, .f32⟩
  | 109 => ⟨S4x8x8192x8192, .f32⟩
  | 110 => ⟨S4x8x8192x8192, .f32⟩
  | 111 => ⟨S4x8x8192x128, .f32⟩
  | 112 => ⟨S4x8x8192x128, .f32⟩
  | 113 => ⟨S_, .f32⟩
  | 114 => ⟨S4x8x8192, .f32⟩
  | 115 => ⟨S4x8x8192x1, .f32⟩
  | 116 => ⟨S_, .f32⟩
  | 117 => ⟨S4x8x8192x1, .f32⟩
  | 118 => ⟨S4x8x8192x1, .f32⟩
  | 119 => ⟨S_, .f32⟩
  | 120 => ⟨S4x8x8192x1, .f32⟩
  | 121 => ⟨S4x8x8192x1, .f32⟩
  | 122 => ⟨S4x8x8192x1, .f32⟩
  | 123 => ⟨S4x8x8192x128, .f32⟩
  | 124 => ⟨S4x8x8192x128, .f32⟩
  | 125 => ⟨S128, .f32⟩
  | 126 => ⟨S1x1x1x128, .f32⟩
  | 127 => ⟨S4x8x8192x128, .f32⟩
  | _ => ⟨S4x8192x3072, .bf16⟩

abbrev hbmTy0_1 (i : Nat) : BufTy := match i % 128 with
  | 0 => ⟨S4x8x8192x128, .f32⟩
  | 1 => ⟨S_, .f32⟩
  | 2 => ⟨S4x8x8192x128, .f32⟩
  | 3 => ⟨S4x8x8192x128, .f32⟩
  | 4 => ⟨S4x8192x8x128, .f32⟩
  | 5 => ⟨S4x8192x1024, .f32⟩
  | 6 => ⟨S4x8192x1024, .bf16⟩
  | _ => ⟨S4x8192x3072, .bf16⟩

abbrev hbmTy (i : Nat) : BufTy := match i / 128 with
  | 0 => hbmTy0_0 i
  | 1 => hbmTy0_1 i
  | _ => ⟨S4x8192x3072, .bf16⟩

abbrev bufTy : (tb : Table) → Fin (tcTables nBuf tb) → BufTy
  | .hbm, ⟨i, _⟩ => hbmTy i
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_10 : Ref sig .tc := ⟨.hbm, 113, rfl⟩
abbrev main_v76 : Ref sig .tc := ⟨.hbm, 114, rfl⟩
abbrev main_v77 : Ref sig .tc := ⟨.hbm, 115, rfl⟩
abbrev main_cst_11 : Ref sig .tc := ⟨.hbm, 116, rfl⟩
abbrev main_v78 : Ref sig .tc := ⟨.hbm, 117, rfl⟩
abbrev main_v79 : Ref sig .tc := ⟨.hbm, 118, rfl⟩
abbrev main_cst_12 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_13 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== Kernel2.lean ====
abbrev S4x8192x3584 : Shape := ⟨3, ![4, 8192, 3584]⟩
abbrev S4x8192x512 : Shape := ⟨3, ![4, 8192, 512]⟩
abbrev S1x256x128 : Shape := ⟨3, ![1, 256, 128]⟩
abbrev S1x8192x128 : Shape := ⟨3, ![1, 8192, 128]⟩
abbrev S256x128 : Shape := ⟨2, ![256, 128]⟩
abbrev S1x128 : Shape := ⟨2, ![1, 128]⟩
abbrev S256x256 : Shape := ⟨2, ![256, 256]⟩

abbrev nBuf : Space → Nat
  | .hbm => 2
  | .vmem => 10
  | .smem => 0
  | _ => 0

abbrev bufTy : (tb : Table) → Fin (tcTables nBuf tb) → BufTy
  | .hbm, ⟨0, _⟩ => ⟨S4x8192x3584, .bf16⟩
  | .hbm, ⟨1, _⟩ => ⟨S4x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x128, .f32⟩
  | .local _ .vmem, ⟨9, _⟩ => ⟨S256x128, .f32⟩
  | _, _ => ⟨S4x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c256_i32 : BitVec 32 := 256#32
  let v54 : BitVec 32 := Scalar.muli arg2 c256_i32
  v54
def k0_off1 (i : grid0.Coords) : Fin 3 → Nat :=
  let c0_17 : Index := 0#32
  let arg2 : BitVec 32 := BitVec.ofNat 32 (i 2).val
  let c256_i32 : BitVec 32 := 256#32
  let v54 : BitVec 32 := Scalar.muli arg2 c256_i32
  let v55 : BitVec 32 := v54
  let v56 : Index := Scalar.indexCast v55
  let c0_18 : Index := 0#32
  ![0, v56.toNat, 0]
@[reducible] def k0_t1_loop (i : grid0.Coords) : Scf.Loop 32 :=
  let c0_i32_38 : BitVec 32 := 0#32
  let arg2 : BitVec 32 := BitVec.ofNat 32 (i 2).val
  let v97 : BitVec 32 := Scalar.subi arg2 c0_i32_38
  let c1_i32_40 : BitVec 32 := 1#32
  let v99 : BitVec 32 := Scalar.divsi v97 c1_i32_40
  let v100 : BitVec 32 := Scalar.muli v99 c1_i32_40
  let v101 : BitVec 32 := Scalar.addi c0_i32_38 v100
  let c1_i32_41 : BitVec 32 := 1#32
  ⟨c0_i32_38, v101, c1_i32_41⟩
def k0_mult2 (i : grid0.Coords) (k0_t1 : Fin (k0_t1_loop i).trips) : BitVec 32 :=
  let arg2 : BitVec 32 := BitVec.ofNat 32 (i 2).val
  let c1_i32_94 : BitVec 32 := 1#32
  let v207 : BitVec 32 := Scalar.subi arg2 c1_i32_94
  let c0_i32_38 : BitVec 32 := 0#32
  let c1_i32_41 : BitVec 32 := 1#32
  let arg9 : BitVec 32 := Scf.iv c0_i32_38 c1_i32_41 k0_t1
  let v208 : BitVec 32 := Scalar.subi v207 arg9
  let c256_i32_95 : BitVec 32 := 256#32
  let v209 : BitVec 32 := Scalar.muli v208 c256_i32_95
  v209
def k0_off2 (i : grid0.Coords) (k0_t1 : Fin (k0_t1_loop i).trips) : Fin 3 → Nat :=
  let c0_96 : Index := 0#32
  let arg2 : BitVec 32 := BitVec.ofNat 32 (i 2).val
  let c1_i32_94 : BitVec 32 := 1#32
  let v207 : BitVec 32 := Scalar.subi arg2 c1_i32_94
  let c0_i32_38 : BitVec 32 := 0#32
  let c1_i32_41 : BitVec 32 := 1#32
  let arg9 : BitVec 32 := Scf.iv c0_i32_38 c1_i32_41 k0_t1
  let v208 : BitVec 32 := Scalar.subi v207 arg9
  let c256_i32_95 : BitVec 32 := 256#32
  let v209 : BitVec 32 := Scalar.muli v208 c256_i32_95
  let v210 : BitVec 32 := v209
  let v211 : Index := Scalar.indexCast v210
  let c0_97 : Index := 0#32
  ![0, v211.toNat, 0]
@[reducible] def k0_t2_loop (i : grid0.Coords) : Scf.Loop 32 :=
  let c0_i32_38 : BitVec 32 := 0#32
  let arg2 : BitVec 32 := BitVec.ofNat 32 (i 2).val
  let v97 : BitVec 32 := Scalar.subi arg2 c0_i32_38
  let c1_i32_40 : BitVec 32 := 1#32
  let v99 : BitVec 32 := Scalar.divsi v97 c1_i32_40
  let v100 : BitVec 32 := Scalar.muli v99 c1_i32_40
  let v101 : BitVec 32 := Scalar.addi c0_i32_38 v100
  let v98 : BitVec 32 := Scalar.addi c0_i32_38 v97
  let c1_i32_42 : BitVec 32 := 1#32
  ⟨v101, v98, c1_i32_42⟩
def k0_mult3 (i : grid0.Coords) (k0_t2 : Fin (k0_t2_loop i).trips) : BitVec 32 :=
  let arg2 : BitVec 32 := BitVec.ofNat 32 (i 2).val
  let c1_i32_94 : BitVec 32 := 1#32
  let v207 : BitVec 32 := Scalar.subi arg2 c1_i32_94
  let c0_i32_38 : BitVec 32 := 0#32
  let v97 : BitVec 32 := Scalar.subi arg2 c0_i32_38
  let c1_i32_40 : BitVec 32 := 1#32
  let v99 : BitVec 32 := Scalar.divsi v97 c1_i32_40
  let v100 : BitVec 32 := Scalar.muli v99 c1_i32_40
  let v101 : BitVec 32 := Scalar.addi c0_i32_38 v100
  let c1_i32_42 : BitVec 32 := 1#32
  let arg9 : BitVec 32 := Scf.iv v101 c1_i32_42 k0_t2
  let v208 : BitVec 32 := Scalar.subi v207 arg9
  let c256_i32_95 : BitVec 32 := 256#32
  let v209 : BitVec 32 := Scalar.muli v208 c256_i32_95
  v209
def k0_off3 (i : grid0.Coords) (k0_t2 : Fin (k0_t2_loop i).trips) : Fin 3 → Nat :=
  let c0_96 : Index := 0#32
  let arg2 : BitVec 32 := BitVec.ofNat 32 (i 2).val
  let c1_i32_94 : BitVec 32 := 1#32
  let v207 : BitVec 32 := Scalar.subi arg2 c1_i32_94
  let c0_i32_38 : BitVec 32 := 0#32
  let v97 : BitVec 32 := Scalar.subi arg2 c0_i32_38
  let c1_i32_40 : BitVec 32 := 1#32
  let v99 : BitVec 32 := Scalar.divsi v97 c1_i32_40
  let v100 : BitVec 32 := Scalar.muli v99 c1_i32_40
  let v101 : BitVec 32 := Scalar.addi c0_i32_38 v100
  let c1_i32_42 : BitVec 32 := 1#32
  let arg9 : BitVec 32 := Scf.iv v101 c1_i32_42 k0_t2
  let v208 : BitVec 32 := Scalar.subi v207 arg9
  let c256_i32_95 : BitVec 32 := 256#32
  let v209 : BitVec 32 := Scalar.muli v208 c256_i32_95
  let v210 : BitVec 32 := v209
  let v211 : Index := Scalar.indexCast v210
  let c0_97 : Index := 0#32
  ![0, v211.toNat, 0]
def k0_mult4 (i : grid0.Coords) : BitVec 32 :=
  let arg2 : BitVec 32 := BitVec.ofNat 32 (i 2).val
  let c256_i32_61 : BitVec 32 := 256#32
  let v147 : BitVec 32 := Scalar.muli arg2 c256_i32_61
  v147
@[reducible] def k0_t3_loop (i : grid0.Coords) : Scf.Loop 32 :=
  let c0_i32_83 : BitVec 32 := 0#32
  let arg2 : BitVec 32 := BitVec.ofNat 32 (i 2).val
  let v190 : BitVec 32 := Scalar.subi arg2 c0_i32_83
  let c1_i32_85 : BitVec 32 := 1#32
  let v192 : BitVec 32 := Scalar.divsi v190 c1_i32_85
  let v193 : BitVec 32 := Scalar.muli v192 c1_i32_85
  let v194 : BitVec 32 := Scalar.addi c0_i32_83 v193
  let c1_i32_86 : BitVec 32 := 1#32
  ⟨c0_i32_83, v194, c1_i32_86⟩
def k0_mult5 (i : grid0.Coords) (k0_t3 : Fin (k0_t3_loop i).trips) : BitVec 32 :=
  let arg2 : BitVec 32 := BitVec.ofNat 32 (i 2).val
  let c1_i32_94 : BitVec 32 := 1#32
  let v207 : BitVec 32 := Scalar.subi arg2 c1_i32_94
  let c0_i32_83 : BitVec 32 := 0#32
  let c1_i32_86 : BitVec 32 := 1#32
  let arg9 : BitVec 32 := Scf.iv c0_i32_83 c1_i32_86 k0_t3
  let v208 : BitVec 32 := Scalar.subi v207 arg9
  let c256_i32_95 : BitVec 32 := 256#32
  let v209 : BitVec 32 := Scalar.muli v208 c256_i32_95
  v209
def k0_off4 (i : grid0.Coords) (k0_t3 : Fin (k0_t3_loop i).trips) : Fin 3 → Nat :=
  let c0_96 : Index := 0#32
  let arg2 : BitVec 32 := BitVec.ofNat 32 (i 2).val
  let c1_i32_94 : BitVec 32 := 1#32
  let v207 : BitVec 32 := Scalar.subi arg2 c1_i32_94
  let c0_i32_83 : BitVec 32 := 0#32
  let c1_i32_86 : BitVec 32 := 1#32
  let arg9 : BitVec 32 := Scf.iv c0_i32_83 c1_i32_86 k0_t3
  let v208 : BitVec 32 := Scalar.subi v207 arg9
  let c256_i32_95 : BitVec 32 := 256#32
  let v209 : BitVec 32 := Scalar.muli v208 c256_i32_95
  let v210 : BitVec 32 := v209
  let v211 : Index := Scalar.indexCast v210
  let c0_97 : Index := 0#32
  ![0, v211.toNat, 0]
@[reducible] def k0_t4_loop (i : grid0.Coords) : Scf.Loop 32 :=
  let c0_i32_83 : BitVec 32 := 0#32
  let arg2 : BitVec 32 := BitVec.ofNat 32 (i 2).val
  let v190 : BitVec 32 := Scalar.subi arg2 c0_i32_83
  let c1_i32_85 : BitVec 32 := 1#32
  let v192 : BitVec 32 := Scalar.divsi v190 c1_i32_85
  let v193 : BitVec 32 := Scalar.muli v192 c1_i32_85
  let v194 : BitVec 32 := Scalar.addi c0_i32_83 v193
  let v191 : BitVec 32 := Scalar.addi c0_i32_83 v190
  let c1_i32_87 : BitVec 32 := 1#32
  ⟨v194, v191, c1_i32_87⟩
def k0_mult6 (i : grid0.Coords) (k0_t4 : Fin (k0_t4_loop i).trips) : BitVec 32 :=
  let arg2 : BitVec 32 := BitVec.ofNat 32 (i 2).val
  let c1_i32_94 : BitVec 32 := 1#32
  let v207 : BitVec 32 := Scalar.subi arg2 c1_i32_94
  let c0_i32_83 : BitVec 32 := 0#32
  let v190 : BitVec 32 := Scalar.subi arg2 c0_i32_83
  let c1_i32_85 : BitVec 32 := 1#32
  let v192 : BitVec 32 := Scalar.divsi v190 c1_i32_85
  let v193 : BitVec 32 := Scalar.muli v192 c1_i32_85
  let v194 : BitVec 32 := Scalar.addi c0_i32_83 v193
  let c1_i32_87 : BitVec 32 := 1#32
  let arg9 : BitVec 32 := Scf.iv v194 c1_i32_87 k0_t4
  let v208 : BitVec 32 := Scalar.subi v207 arg9
  let c256_i32_95 : BitVec 32 := 256#32
  let v209 : BitVec 32 := Scalar.muli v208 c256_i32_95
  v209
def k0_off5 (i : grid0.Coords) (k0_t4 : Fin (k0_t4_loop i).trips) : Fin 3 → Nat :=
  let c0_96 : Index := 0#32
  let arg2 : BitVec 32 := BitVec.ofNat 32 (i 2).val
  let c1_i32_94 : BitVec 32 := 1#32
  let v207 : BitVec 32 := Scalar.subi arg2 c1_i32_94
  let c0_i32_83 : BitVec 32 := 0#32
  let v190 : BitVec 32 := Scalar.subi arg2 c0_i32_83
  let c1_i32_85 : BitVec 32 := 1#32
  let v192 : BitVec 32 := Scalar.divsi v190 c1_i32_85
  let v193 : BitVec 32 := Scalar.muli v192 c1_i32_85
  let v194 : BitVec 32 := Scalar.addi c0_i32_83 v193
  let c1_i32_87 : BitVec 32 := 1#32
  let arg9 : BitVec 32 := Scf.iv v194 c1_i32_87 k0_t4
  let v208 : BitVec 32 := Scalar.subi v207 arg9
  let c256_i32_95 : BitVec 32 := 256#32
  let v209 : BitVec 32 := Scalar.muli v208 c256_i32_95
  let v210 : BitVec 32 := v209
  let v211 : Index := Scalar.indexCast v210
  let c0_97 : Index := 0#32
  ![0, v211.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S4x8192x3584 : Shape := ⟨3, ![4, 8192, 3584]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x3584, .bf16⟩
  | .hbm, ⟨1, _⟩ => ⟨S4x8192x512, .bf16⟩
  | .hbm, ⟨2, _⟩ => ⟨S4x8192x512, .f32⟩
  | .hbm, ⟨3, _⟩ => ⟨S4x8192x8x64, .f32⟩
  | .hbm, ⟨4, _⟩ => ⟨S4x8x8192x64, .f32⟩
  | .hbm, ⟨5, _⟩ => ⟨S4x8192x512, .bf16⟩
  | .hbm, ⟨6, _⟩ => ⟨S4x8192x512, .f32⟩
  | .hbm, ⟨7, _⟩ => ⟨S4x8192x8x64, .f32⟩
  | .hbm, ⟨8, _⟩ => ⟨S4x8x8192x64, .f32⟩
  | .hbm, ⟨9, _⟩ => ⟨S4x8192x512, .bf16⟩
  | .hbm, ⟨10, _⟩ => ⟨S4x8192x512, .f32⟩
  | .hbm, ⟨11, _⟩ => ⟨S4x8192x8x64, .f32⟩
  | .hbm, ⟨12, _⟩ => ⟨S4x8x8192x64, .f32⟩
  | .hbm, ⟨13, _⟩ => ⟨S4x8x8192x8192, .f32⟩
  | .hbm, ⟨14, _⟩ => ⟨S_, .f32⟩
  | .hbm, ⟨15, _⟩ => ⟨S4x8x8192x8192, .f32⟩
  | .hbm, ⟨16, _⟩ => ⟨S4x8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S4x8x8192x8192, .f32⟩
  | .hbm, ⟨24, _⟩ => ⟨S4x8x8192x8192, .f32⟩
  | .hbm, ⟨25, _⟩ => ⟨S_, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .i1⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S_, .f32⟩
  | .hbm, ⟨41, _⟩ => ⟨S_, .f32⟩
  | .hbm, ⟨42, _⟩ => ⟨S4x8x8192x8192, .i1⟩
  | .hbm, ⟨43, _⟩ => ⟨S4x8x8192x8192, .f32⟩
  | .hbm, ⟨44, _⟩ => ⟨S4x8x8192x8192, .f32⟩
  | .hbm, ⟨45, _⟩ => ⟨S_, .f32⟩
  | .hbm, ⟨46, _⟩ => ⟨S_, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .f32⟩
  | .hbm, ⟨50, _⟩ => ⟨S_, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .i1⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x8192x8192, .f32⟩
  | .hbm, ⟨67, _⟩ => ⟨S_, .f32⟩
  | .hbm, ⟨68, _⟩ => ⟨S_, .f32⟩
  | .hbm, ⟨69, _⟩ => ⟨S4x8x8192x8192, .i1⟩
  | .hbm, ⟨70, _⟩ => ⟨S4x8x8192x8192, .f32⟩
  | .hbm, ⟨71, _⟩ => ⟨S4x8x8192x8192, .f32⟩
  | .hbm, ⟨72, _⟩ => ⟨S4x8x8192x64, .f32⟩
  | .hbm, ⟨73, _⟩ => ⟨S4x8192x8x64, .f32⟩
  | .hbm, ⟨74, _⟩ => ⟨S4x8192x512, .f32⟩
  | .hbm, ⟨75, _⟩ => ⟨S4x8192x512, .bf16⟩
  | _, _ => ⟨S4x8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S1x1024x3584 : Shape := ⟨3, ![1, 1024, 3584]⟩
abbrev S_ : Shape := ⟨0, ![]⟩
abbrev S1024x3584 : Shape := ⟨2, ![1024, 3584]⟩
abbrev S4x8192x3584 : Shape := ⟨3, ![4, 8192, 3584]⟩
abbrev S1x512x1024 : Shape := ⟨3, ![1, 512, 1024]⟩
abbrev S1x1x1024 : Shape := ⟨3, ![1, 1, 1024]⟩
abbrev S1x512x3584 : Shape := ⟨3, ![1, 512, 3584]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 10
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024x3584, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S1024x3584, .f32⟩
  | .hbm, ⟨8, _⟩ => ⟨S1024x3584, .bf16⟩
  | .hbm, ⟨9, _⟩ => ⟨S4x8192x3584, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3584, .bf16⟩
  | .local _ .vmem, ⟨7, _⟩ => ⟨S1x512x3584, .bf16⟩
  | .local _ .vmem, ⟨8, _⟩ => ⟨S1x512x3584, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S1x1024x3584 : Shape := ⟨3, ![1, 1024, 3584]⟩
abbrev S_ : Shape := ⟨0, ![]⟩
abbrev S1024x3584 : Shape := ⟨2, ![1024, 3584]⟩
abbrev S4x8192x3584 : Shape := ⟨3, ![4, 8192, 3584]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024x3584, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S1024x3584, .f32⟩
  | .hbm, ⟨12, _⟩ => ⟨S4x8192x3584, .f32⟩
  | .hbm, ⟨13, _⟩ => ⟨S4x8192x3584, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1x1024x3072 : Shape := ⟨3, ![1, 1024, 3072]⟩
abbrev S_ : Shape := ⟨0, ![]⟩
abbrev S1024x3072 : Shape := ⟨2, ![1024, 3072]⟩
abbrev S4x8192x3072 : Shape := ⟨3, ![4, 8192, 3072]⟩
abbrev S1x512x1024 : Shape := ⟨3, ![1, 512, 1024]⟩
abbrev S1x1x1024 : Shape := ⟨3, ![1, 1, 1024]⟩
abbrev S1x512x3072 : Shape := ⟨3, ![1, 512, 3072]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 10
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024x3072, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S1024x3072, .f32⟩
  | .hbm, ⟨8, _⟩ => ⟨S1024x3072, .bf16⟩
  | .hbm, ⟨9, _⟩ => ⟨S4x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x512x3072, .bf16⟩
  | .local _ .vmem, ⟨8, _⟩ => ⟨S1x512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1x1024x3072 : Shape := ⟨3, ![1, 1024, 3072]⟩
abbrev S_ : Shape := ⟨0, ![]⟩
abbrev S1024x3072 : Shape := ⟨2, ![1024, 3072]⟩
abbrev S4x8192x3072 : Shape := ⟨3, ![4, 8192, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024x3072, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S1024x3072, .f32⟩
  | .hbm, ⟨12, _⟩ => ⟨S4x8192x3072, .f32⟩
  | .hbm, ⟨13, _⟩ => ⟨S4x8192x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4x8192x512 : Shape := ⟨3, ![4, 8192, 512]⟩
abbrev S4x8192x1024 : Shape := ⟨3, ![4, 8192, 1024]⟩
abbrev S4x1x1024 : Shape := ⟨3, ![4, 1, 1024]⟩
abbrev S2x1024 : Shape := ⟨2, ![2, 1024]⟩
abbrev S1x1024x1024 : Shape := ⟨3, ![1, 1024, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1024x1024 : Shape := ⟨2, ![1024, 1024]⟩
abbrev S512x1024 : Shape := ⟨2, ![512, 1024]⟩
abbrev S_ : Shape := ⟨0, ![]⟩
abbrev S40x1024 : Shape := ⟨2, ![40, 1024]⟩
abbrev S1x1024x32 : Shape := ⟨3, ![1, 1024, 32]⟩
abbrev S1024x32 : Shape := ⟨2, ![1024, 32]⟩
abbrev S32x1024 : Shape := ⟨2, ![32, 1024]⟩
abbrev S1 : Shape := ⟨1, ![1]⟩
abbrev S1x1024x4 : Shape := ⟨3, ![1, 1024, 4]⟩
abbrev S1024x4 : Shape := ⟨2, ![1024, 4]⟩
abbrev S4x1024 : Shape := ⟨2, ![4, 1024]⟩
abbrev S40x1 : Shape := ⟨2, ![40, 1]⟩
abbrev S1x32 : Shape := ⟨2, ![1, 32]⟩
abbrev S32 : Shape := ⟨1, ![32]⟩
abbrev S2 : Shape := ⟨1, ![2]⟩
abbrev S1x4 : Shape := ⟨2, ![1, 4]⟩
abbrev S4 : Shape := ⟨1, ![4]⟩
abbrev S1x1024 : Shape := ⟨2, ![1, 1024]⟩
abbrev S1024 : Shape := ⟨1, ![1024]⟩
abbrev S40x32768 : Shape := ⟨2, ![40, 32768]⟩
abbrev S1x256x512 : Shape := ⟨3, ![1, 256, 512]⟩
abbrev S1x256x1024 : Shape := ⟨3, ![1, 256, 1024]⟩
abbrev S1x1x1024 : Shape := ⟨3, ![1, 1, 1024]⟩
abbrev S40x256 : Shape := ⟨2, ![40, 256]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 65
  | .vmem => 24
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S2x1024, .f32⟩
  | .hbm, ⟨7, _⟩ => ⟨S2x1024, .f32⟩
  | .hbm, ⟨8, _⟩ => ⟨S1x1024x1024, .f32⟩
  | .hbm, ⟨9, _⟩ => ⟨S2x1024x4, .f32⟩
  | .hbm, ⟨10, _⟩ => ⟨S2x4, .f32⟩
  | .hbm, ⟨11, _⟩ => ⟨S2x1024x32, .f32⟩
  | .hbm, ⟨12, _⟩ => ⟨S2x32, .f32⟩
  | .hbm, ⟨13, _⟩ => ⟨S1024x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S40x1024, .f32⟩
  | .hbm, ⟨18, _⟩ => ⟨S1x1024x32, .f32⟩
  | .hbm, ⟨19, _⟩ => ⟨S1024x32, .f32⟩
  | .hbm, ⟨20, _⟩ => ⟨S32x1024, .f32⟩
  | .hbm, ⟨21, _⟩ => ⟨S_, .i32⟩
  | .hbm, ⟨22, _⟩ => ⟨S1, .i32⟩
  | .hbm, ⟨23, _⟩ => ⟨S40x1024, .f32⟩
  | .hbm, ⟨24, _⟩ => ⟨S1x1024x4, .f32⟩
  | .hbm, ⟨25, _⟩ => ⟨S1024x4, .f32⟩
  | .hbm, ⟨26, _⟩ => ⟨S4x1024, .f32⟩
  | .hbm, ⟨27, _⟩ => ⟨S_, .i32⟩
  | .hbm, ⟨28, _⟩ => ⟨S1, .i32⟩
  | .hbm, ⟨29, _⟩ => ⟨S40x1024, .f32⟩
  | .hbm, ⟨30, _⟩ => ⟨S_, .f32⟩
  | .hbm, ⟨31, _⟩ => ⟨S40x1, .f32⟩
  | .hbm, ⟨32, _⟩ => ⟨S1x32, .f32⟩
  | .hbm, ⟨33, _⟩ => ⟨S32, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S40x1, .f32⟩
  | .hbm, ⟨40, _⟩ => ⟨S1x4, .f32⟩
  | .hbm, ⟨41, _⟩ => ⟨S4, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S40x1, .f32⟩
  | .hbm, ⟨48, _⟩ => ⟨S_, .f32⟩
  | .hbm, ⟨49, _⟩ => ⟨S4x1x1024, .f32⟩
  | .hbm, ⟨50, _⟩ => ⟨S4x1x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S_, .f32⟩
  | .hbm, ⟨56, _⟩ => ⟨S4x1x1024, .f32⟩
  | .hbm, ⟨57, _⟩ => ⟨S4x1x1024, .f32⟩
  | .hbm, ⟨58, _⟩ => ⟨S512x1024, .bf16⟩
  | .hbm, ⟨59, _⟩ => ⟨S512x1024, .bf16⟩
  | .hbm, ⟨60, _⟩ => ⟨S1x1024, .f32⟩
  | .hbm, ⟨61, _⟩ => ⟨S1x1024, .f32⟩
  | .hbm, ⟨62, _⟩ => ⟨S4x8192x1024, .f32⟩
  | .hbm, ⟨63, _⟩ => ⟨S4x8192x1024, .f32⟩
  | .hbm, ⟨64, _⟩ => ⟨S40x32768, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S512x1024, .bf16⟩
  | .local _ .vmem, ⟨5, _⟩ => ⟨S512x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S40x1024, .f32⟩
  | .local _ .vmem, ⟨17, _⟩ => ⟨S40x1, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S40x256, .f32⟩
  | .local _ .vmem, ⟨23, _⟩ => ⟨S40x256, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_v39_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S40x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S40x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S4x8192x512 : Shape := ⟨3, ![4, 8192, 512]⟩
abbrev S4x8192x1024 : Shape := ⟨3, ![4, 8192, 1024]⟩
abbrev S4x1x1024 : Shape := ⟨3, ![4, 1, 1024]⟩
abbrev S2x1024 : Shape := ⟨2, ![2, 1024]⟩
abbrev S1x1024x1024 : Shape := ⟨3, ![1, 1024, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1024x1024 : Shape := ⟨2, ![1024, 1024]⟩
abbrev S1x1024 : Shape := ⟨2, ![1, 1024]⟩
abbrev S1024 : Shape := ⟨1, ![1024]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x4 : Shape := ⟨2, ![32768, 4]⟩
abbrev S32768x32 : Shape := ⟨2, ![32768, 32]⟩
abbrev S32768x40 : Shape := ⟨2, ![32768, 40]⟩
abbrev S40x32768 : Shape := ⟨2, ![40, 32768]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S2x1024, .f32⟩
  | .hbm, ⟨7, _⟩ => ⟨S2x1024, .f32⟩
  | .hbm, ⟨8, _⟩ => ⟨S1x1024x1024, .f32⟩
  | .hbm, ⟨9, _⟩ => ⟨S2x1024x4, .f32⟩
  | .hbm, ⟨10, _⟩ => ⟨S2x4, .f32⟩
  | .hbm, ⟨11, _⟩ => ⟨S2x1024x32, .f32⟩
  | .hbm, ⟨12, _⟩ => ⟨S2x32, .f32⟩
  | .hbm, ⟨13, _⟩ => ⟨S4x8192x512, .f32⟩
  | .hbm, ⟨14, _⟩ => ⟨S4x8192x512, .f32⟩
  | .hbm, ⟨15, _⟩ => ⟨S4x8192x1024, .f32⟩
  | .hbm, ⟨16, _⟩ => ⟨S1024x1024, .f32⟩
  | .hbm, ⟨17, _⟩ => ⟨S4x8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024x4, .f32⟩
  | .hbm, ⟨23, _⟩ => ⟨S1024x4, .f32⟩
  | .hbm, ⟨24, _⟩ => ⟨S1x4, .f32⟩
  | .hbm, ⟨25, _⟩ => ⟨S4, .f32⟩
  | .hbm, ⟨26, _⟩ => ⟨S1x1024x32, .f32⟩
  | .hbm, ⟨27, _⟩ => ⟨S1024x32, .f32⟩
  | .hbm, ⟨28, _⟩ => ⟨S1x32, .f32⟩
  | .hbm, ⟨29, _⟩ => ⟨S32, .f32⟩
  | .hbm, ⟨30, _⟩ => ⟨S_, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | .hbm, ⟨68, _⟩ => ⟨S_, .f32⟩
  | .hbm, ⟨69, _⟩ => ⟨S4x1x1024, .f32⟩
  | .hbm, ⟨70, _⟩ => ⟨S4x1x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S32768x1024, .f32⟩
  | .hbm, ⟨76, _⟩ => ⟨S32768x4, .f32⟩
  | .hbm, ⟨77, _⟩ => ⟨S1x4, .f32⟩
  | .hbm, ⟨78, _⟩ => ⟨S32768x4, .f32⟩
  | .hbm, ⟨79, _⟩ => ⟨S32768x4, .f32⟩
  | .hbm, ⟨80, _⟩ => ⟨S32768x32, .f32⟩
  | .hbm, ⟨81, _⟩ => ⟨S1x32, .f32⟩
  | .hbm, ⟨82, _⟩ => ⟨S32768x32, .f32⟩
  | .hbm, ⟨83, _⟩ => ⟨S32768x32, .f32⟩
  | .hbm, ⟨84, _⟩ => ⟨S_, .f32⟩
  | .hbm, ⟨85, _⟩ => ⟨S32768x4, .f32⟩
  | .hbm, ⟨86, _⟩ => ⟨S32768x40, .f32⟩
  | .hbm, ⟨87, _⟩ => ⟨S40x32768, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x1x1024 : Shape := ⟨3, ![4, 1, 1024]⟩
abbrev S2x1024 : Shape := ⟨2, ![2, 1024]⟩
abbrev S1x1024x1024 : Shape := ⟨3, ![1, 1024, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1024x1024 : Shape := ⟨2, ![1024, 1024]⟩
abbrev S_ : Shape := ⟨0, ![]⟩
abbrev S40x1024 : Shape := ⟨2, ![40, 1024]⟩
abbrev S1x1024x32 : Shape := ⟨3, ![1, 1024, 32]⟩
abbrev S1024x32 : Shape := ⟨2, ![1024, 32]⟩
abbrev S32x1024 : Shape := ⟨2, ![32, 1024]⟩
abbrev S1 : Shape := ⟨1, ![1]⟩
abbrev S1x1024x4 : Shape := ⟨3, ![1, 1024, 4]⟩
abbrev S1024x4 : Shape := ⟨2, ![1024, 4]⟩
abbrev S4x1024 : Shape := ⟨2, ![4, 1024]⟩
abbrev S40x1 : Shape := ⟨2, ![40, 1]⟩
abbrev S1x32 : Shape := ⟨2, ![1, 32]⟩
abbrev S32 : Shape := ⟨1, ![32]⟩
abbrev S2 : Shape := ⟨1, ![2]⟩
abbrev S1x4 : Shape := ⟨2, ![1, 4]⟩
abbrev S4 : Shape := ⟨1, ![4]⟩
abbrev S1x1024 : Shape := ⟨2, ![1, 1024]⟩
abbrev S1024 : Shape := ⟨1, ![1024]⟩
abbrev S40x32768 : Shape := ⟨2, ![40, 32768]⟩
abbrev S1x256x1024 : Shape := ⟨3, ![1, 256, 1024]⟩
abbrev S1x1x1024 : Shape := ⟨3, ![1, 1, 1024]⟩
abbrev S40x256 : Shape := ⟨2, ![40, 256]⟩
abbrev S256x1024 : Shape := ⟨2, ![256, 1024]⟩
abbrev S256 : Shape := ⟨1, ![256]⟩
abbrev S256x1 : Shape := ⟨2, ![256, 1]⟩

abbrev nBuf : Space → Nat
  | .hbm => 61
  | .vmem => 21
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S2x1024, .f32⟩
  | .hbm, ⟨6, _⟩ => ⟨S2x1024, .f32⟩
  | .hbm, ⟨7, _⟩ => ⟨S1x1024x1024, .f32⟩
  | .hbm, ⟨8, _⟩ => ⟨S2x1024x4, .f32⟩
  | .hbm, ⟨9, _⟩ => ⟨S2x4, .f32⟩
  | .hbm, ⟨10, _⟩ => ⟨S2x1024x32, .f32⟩
  | .hbm, ⟨11, _⟩ => ⟨S2x32, .f32⟩
  | .hbm, ⟨12, _⟩ => ⟨S1024x1024, .f32⟩
  | .hbm, ⟨13, _⟩ => ⟨S_, .f32⟩
  | .hbm, ⟨14, _⟩ => ⟨S40x1024, .f32⟩
  | .hbm, ⟨15, _⟩ => ⟨S1x1024x32, .f32⟩
  | .hbm, ⟨16, _⟩ => ⟨S1024x32, .f32⟩
  | .hbm, ⟨17, _⟩ => ⟨S32x1024, .f32⟩
  | .hbm, ⟨18, _⟩ => ⟨S_, .i32⟩
  | .hbm, ⟨19, _⟩ => ⟨S1, .i32⟩
  | .hbm, ⟨20, _⟩ => ⟨S40x1024, .f32⟩
  | .hbm, ⟨21, _⟩ => ⟨S1x1024x4, .f32⟩
  | .hbm, ⟨22, _⟩ => ⟨S1024x4, .f32⟩
  | .hbm, ⟨23, _⟩ => ⟨S4x1024, .f32⟩
  | .hbm, ⟨24, _⟩ => ⟨S_, .i32⟩
  | .hbm, ⟨25, _⟩ => ⟨S1, .i32⟩
  | .hbm, ⟨26, _⟩ => ⟨S40x1024, .f32⟩
  | .hbm, ⟨27, _⟩ => ⟨S_, .f32⟩
  | .hbm, ⟨28, _⟩ => ⟨S40x1, .f32⟩
  | .hbm, ⟨29, _⟩ => ⟨S1x32, .f32⟩
  | .hbm, ⟨30, _⟩ => ⟨S32, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S40x1, .f32⟩
  | .hbm, ⟨37, _⟩ => ⟨S1x4, .f32⟩
  | .hbm, ⟨38, _⟩ => ⟨S4, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S40x1, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S1024x1024, .bf16⟩
  | .hbm, ⟨56, _⟩ => ⟨S1x1024, .f32⟩
  | .hbm, ⟨57, _⟩ => ⟨S1x1024, .f32⟩
  | .hbm, ⟨58, _⟩ => ⟨S4x8192x1024, .f32⟩
  | .hbm, ⟨59, _⟩ => ⟨S4x8192x1024, .f32⟩
  | .hbm, ⟨60, _⟩ => ⟨S40x32768, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S40x1024, .f32⟩
  | .local _ .vmem, ⟨14, _⟩ => ⟨S40x1, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S40x256, .f32⟩
  | .local _ .vmem, ⟨20, _⟩ => ⟨S40x256, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_v36_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S40x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S40x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S40x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S4x8192x1024 : Shape := ⟨3, ![4, 8192, 1024]⟩
abbrev S4x1x1024 : Shape := ⟨3, ![4, 1, 1024]⟩
abbrev S2x1024 : Shape := ⟨2, ![2, 1024]⟩
abbrev S1x1024x1024 : Shape := ⟨3, ![1, 1024, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1024x1024 : Shape := ⟨2, ![1024, 1024]⟩
abbrev S1x1024 : Shape := ⟨2, ![1, 1024]⟩
abbrev S1024 : Shape := ⟨1, ![1024]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x4 : Shape := ⟨2, ![32768, 4]⟩
abbrev S32768x32 : Shape := ⟨2, ![32768, 32]⟩
abbrev S32768x40 : Shape := ⟨2, ![32768, 40]⟩
abbrev S40x32768 : Shape := ⟨2, ![40, 32768]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S2x1024, .f32⟩
  | .hbm, ⟨6, _⟩ => ⟨S2x1024, .f32⟩
  | .hbm, ⟨7, _⟩ => ⟨S1x1024x1024, .f32⟩
  | .hbm, ⟨8, _⟩ => ⟨S2x1024x4, .f32⟩
  | .hbm, ⟨9, _⟩ => ⟨S2x4, .f32⟩
  | .hbm, ⟨10, _⟩ => ⟨S2x1024x32, .f32⟩
  | .hbm, ⟨11, _⟩ => ⟨S2x32, .f32⟩
  | .hbm, ⟨12, _⟩ => ⟨S4x8192x1024, .f32⟩
  | .hbm, ⟨13, _⟩ => ⟨S1024x1024, .f32⟩
  | .hbm, ⟨14, _⟩ => ⟨S4x8192x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024x4, .f32⟩
  | .hbm, ⟨20, _⟩ => ⟨S1024x4, .f32⟩
  | .hbm, ⟨21, _⟩ => ⟨S1x4, .f32⟩
  | .hbm, ⟨22, _⟩ => ⟨S4, .f32⟩
  | .hbm, ⟨23, _⟩ => ⟨S1x1024x32, .f32⟩
  | .hbm, ⟨24, _⟩ => ⟨S1024x32, .f32⟩
  | .hbm, ⟨25, _⟩ => ⟨S1x32, .f32⟩
  | .hbm, ⟨26, _⟩ => ⟨S32, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x1x1024, .f32⟩
  | .hbm, ⟨67, _⟩ => ⟨S4x1x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S32768x1024, .f32⟩
  | .hbm, ⟨73, _⟩ => ⟨S32768x4, .f32⟩
  | .hbm, ⟨74, _⟩ => ⟨S1x4, .f32⟩
  | .hbm, ⟨75, _⟩ => ⟨S32768x4, .f32⟩
  | .hbm, ⟨76, _⟩ => ⟨S32768x4, .f32⟩
  | .hbm, ⟨77, _⟩ => ⟨S32768x32, .f32⟩
  | .hbm, ⟨78, _⟩ => ⟨S1x32, .f32⟩
  | .hbm, ⟨79, _⟩ => ⟨S32768x32, .f32⟩
  | .hbm, ⟨80, _⟩ => ⟨S32768x32, .f32⟩
  | .hbm, ⟨81, _⟩ => ⟨S_, .f32⟩
  | .hbm, ⟨82, _⟩ => ⟨S32768x4, .f32⟩
  | .hbm, ⟨83, _⟩ => ⟨S32768x40, .f32⟩
  | .hbm, ⟨84, _⟩ => ⟨S40x32768, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Kernel7.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S2x6144x8, .f32⟩
  | .hbm, ⟨16, _⟩ => ⟨S2x8x6144, .f32⟩
  | .hbm, ⟨17, _⟩ => ⟨S2x1x6144, .f32⟩
  | .hbm, ⟨18, _⟩ => ⟨S2x8x6144, .f32⟩
  | .hbm, ⟨19, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel8.lean ====
abbrev S4x8192x3584 : Shape := ⟨3, ![4, 8192, 3584]⟩
abbrev S1x512 : Shape := ⟨2, ![1, 512]⟩
abbrev S512 : Shape := ⟨1, ![512]⟩
abbrev S4 : Shape := ⟨1, ![4]⟩
abbrev S_ : Shape := ⟨0, ![]⟩
abbrev S4x1x128 : Shape := ⟨3, ![4, 1, 128]⟩
abbrev S4x8192x512 : Shape := ⟨3, ![4, 8192, 512]⟩
abbrev S1x256x128 : Shape := ⟨3, ![1, 256, 128]⟩
abbrev S1x1x128 : Shape := ⟨3, ![1, 1, 128]⟩
abbrev S128x128 : Shape := ⟨2, ![128, 128]⟩
abbrev S1 : Shape := ⟨1, ![1]⟩
abbrev S256x128 : Shape := ⟨2, ![256, 128]⟩
abbrev S256x256 : Shape := ⟨2, ![256, 256]⟩
abbrev S256x1 : Shape := ⟨2, ![256, 1]⟩
abbrev S1x128 : Shape := ⟨2, ![1, 128]⟩
abbrev S256 : Shape := ⟨1, ![256]⟩

abbrev nBuf : Space → Nat
  | .hbm => 15
  | .vmem => 13
  | .smem => 1
  | _ => 0

abbrev bufTy : (tb : Table) → Fin (tcTables nBuf tb) → BufTy
  | .hbm, ⟨0, _⟩ => ⟨S4x8192x3584, .bf16⟩
  | .hbm, ⟨1, _⟩ => ⟨S1x512, .f32⟩
  | .hbm, ⟨2, _⟩ => ⟨S512, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4x1x128, .f32⟩
  | .hbm, ⟨14, _⟩ => ⟨S4x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x128, .f32⟩
  | .local _ .vmem, ⟨9, _⟩ => ⟨S1x1x128, .f32⟩
  | .local _ .vmem, ⟨10, _⟩ => ⟨S1x256x128, .bf16⟩
  | .local _ .vmem, ⟨11, _⟩ => ⟨S1x256x128, .bf16⟩
  | .local _ .vmem, ⟨12, _⟩ => ⟨S128x128, .f32⟩
  | .local _ .smem, ⟨0, _⟩ => ⟨S4, .f32⟩
  | _, _ => ⟨S4x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 32], ![false, false, false]⟩

def k0_off1 (i : grid0.Coords) : Fin 1 → Nat :=
  let arg1 : BitVec 32 := BitVec.ofNat 32 (i 1).val
  let v3 : Index := Scalar.indexCast arg1
  ![v3.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference8Ideal.lean ====
abbrev S4x8192x3584 : Shape := ⟨3, ![4, 8192, 3584]⟩
abbrev S1x512 : Shape := ⟨2, ![1, 512]⟩
abbrev S4x8192x512 : Shape := ⟨3, ![4, 8192, 512]⟩
abbrev S4x8192x4x128 : Shape := ⟨4, ![4, 8192, 4, 128]⟩
abbrev S4x4x8192x128 : Shape := ⟨4, ![4, 4, 8192, 128]⟩
abbrev S4x4x128x64x128 : Shape := ⟨5, ![4, 4, 128, 64, 128]⟩
abbrev S_ : Shape := ⟨0, ![]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x4x128x64x64 : Shape := ⟨5, ![4, 4, 128, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S128x4x4x128x128 : Shape := ⟨5, ![128, 4, 4, 128, 128]⟩
abbrev S1x4x1x1 : Shape := ⟨4, ![1, 4, 1, 1]⟩
abbrev S4x4x128x128 : Shape := ⟨4, ![4, 4, 128, 128]⟩
abbrev S1x4x4x128x128 : Shape := ⟨5, ![1, 4, 4, 128, 128]⟩
abbrev S4x4x8192 : Shape := ⟨3, ![4, 4, 8192]⟩
abbrev S4x4x8192x1 : Shape := ⟨4, ![4, 4, 8192, 1]⟩
abbrev S512 : Shape := ⟨1, ![512]⟩
abbrev S1x1x512 : Shape := ⟨3, ![1, 1, 512]⟩

abbrev nBuf : Space → Nat
  | .hbm => 154
  | .vmem => 0
  | .smem => 0
  | _ => 0

abbrev hbmTy0_0 (i : Nat) : BufTy := match i % 128 with
  | 0 => ⟨S4x8192x3584, .bf16⟩
  | 1 => ⟨S1x512, .f32⟩
  | 2 => ⟨S4x8192x512, .bf16⟩
  | 3 => ⟨S4x8192x512, .f32⟩
  | 4 => ⟨S4x8192x4x128, .f32⟩
  | 5 => ⟨S4x4x8192x128, .f32⟩
  | 6 => ⟨S4x4x128x64x128, .f32⟩
  | 7 => ⟨S4x8192x512, .bf16⟩
  | 8 => ⟨S4x8192x512, .f32⟩
  | 9 => ⟨S4x8192x4x128, .f32⟩
  | 10 => ⟨S4x4x8192x128, .f32⟩
  | 11 => ⟨S4x4x128x64x128, .f32⟩
  | 12 => ⟨S_, .f32⟩
  | 13 => ⟨S4x4x128x64x128, .f32⟩
  | 14 => ⟨S4x4x128x64x128, .f32⟩
  | 15 => ⟨S4x8192x512, .bf16⟩
  | 16 => ⟨S4x8192x512, .f32⟩
  | 17 => ⟨S4x8192x4x128, .f32⟩
  | 18 => ⟨S4x4x8192x128, .f32⟩
  | 19 => ⟨S4x4x128x64x128, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S4, .f32⟩
  | 28 => ⟨S4, .f32⟩
  | 29 => ⟨S4, .f32⟩
  | 30 => ⟨S64, .f32⟩
  | 31 => ⟨S4x1x1, .f32⟩
  | 32 => ⟨S64x1, .f32⟩
  | 33 => ⟨S1x64, .f32⟩
  | 34 => ⟨S64x64, .f32⟩
  | 35 => ⟨S64x64, .f32⟩
  | 36 => ⟨S64x64, .f32⟩
  | 37 => ⟨S64x64, .f32⟩
  | 38 => ⟨S1x64x64, .f32⟩
  | 39 => ⟨S4x64x64, .f32⟩
  | 40 => ⟨S4x64x64, .f32⟩
  | 41 => ⟨S4x64x64, .f32⟩
  | 42 => ⟨S4x64x64, .f32⟩
  | 43 => ⟨S4x4x128x64x64, .f32⟩
  | 44 => ⟨S1x4x1x64x64, .f32⟩
  | 45 => ⟨S4x4x128x64x64, .f32⟩
  | 46 => ⟨S4x4x128x64x64, .f32⟩
  | 47 => ⟨S4x4x128x64x128, .f32⟩
  | 48 => ⟨S4x1, .f32⟩
  | 49 => ⟨S_, .f32⟩
  | 50 => ⟨S64, .f32⟩
  | 51 => ⟨S64, .f32⟩
  | 52 => ⟨S1x64, .f32⟩
  | 53 => ⟨S4x64, .f32⟩
  | 54 => ⟨S4x64, .f32⟩
  | 55 => ⟨S4x64, .f32⟩
  | 56 => ⟨S4x64, .f32⟩
  | 57 => ⟨S4x1, .f32⟩
  | 58 => ⟨S_, .f32⟩
  | 59 => ⟨S64, .f32⟩
  | 60 => ⟨S64, .f32⟩
  | 61 => ⟨S1x64, .f32⟩
  | 62 => ⟨S4x64, .f32⟩
  | 63 => ⟨S4x64, .f32⟩
  | 64 => ⟨S4x64, .f32⟩
  | 65 => ⟨S4x64, .f32⟩
  | 66 => ⟨S1x4x1x64x1, .f32⟩
  | 67 => ⟨S4x4x128x64x128, .f32⟩
  | 68 => ⟨S4x4x128x64x128, .f32⟩
  | 69 => ⟨S128x4x4x128x128, .f32⟩
  | 70 => ⟨S_, .f32⟩
  | 71 => ⟨S4, .f32⟩
  | 72 => ⟨S4, .f32⟩
  | 73 => ⟨S4, .f32⟩
  | 74 => ⟨S1x4x1x1, .f32⟩
  | 75 => ⟨S_, .f32⟩
  | 76 => ⟨S4x4x128x128, .f32⟩
  | 77 => ⟨S_, .f32⟩
  | 78 => ⟨S128x4x4x128x128, .f32⟩
  | 79 => ⟨S_, .i32⟩
  | 80 => ⟨S128x4x4x128x128, .f32⟩
  | 81 => ⟨S1x4x1x1, .f32⟩
  | 82 => ⟨S_, .i32⟩
  | 83 => ⟨S4x4x128x128, .f32⟩
  | 84 => ⟨S128x4x4x128x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x4x4x128x128, .f32⟩
  | 92 => ⟨S4x4x128x128, .f32⟩
  | 93 => ⟨S4x4x128x128, .f32⟩
  | 94 => ⟨S4x4x128x128, .f32⟩
  | 95 => ⟨S4x4x128x128, .f32⟩
  | 96 => ⟨S1x4x4x128x128, .f32⟩
  | 97 => ⟨S_, .i32⟩
  | 98 => ⟨S_, .i32⟩
  | 99 => ⟨S_, .i32⟩
  | 100 => ⟨S_, .i32⟩
  | 101 => ⟨S128x4x4x128x128, .f32⟩
  | 102 => ⟨S_, .i32⟩
  | 103 => ⟨S_, .i32⟩
  | 104 => ⟨S1x4x1x64x1, .f32⟩
  | 105 => ⟨S4x4x128x64x128, .f32⟩
  | 106 => ⟨S4x4x128x64x128, .f32⟩
  | 107 => ⟨S4x4x128x64x128, .f32⟩
  | 108 => ⟨S4x4x128x64x128, .f32⟩
  | 109 => ⟨S4x4x8192x128, .f32⟩
  | 110 => ⟨S_, .f32⟩
  | 111 => ⟨S4x4x8192, .f32⟩
  | 112 => ⟨S4x4x8192x1, .f32⟩
  | 113 => ⟨S_, .f32⟩
  | 114 => ⟨S4x4x8192x1, .f32⟩
  | 115 => ⟨S4x4x8192x1, .f32⟩
  | 116 => ⟨S4x4x8192x128, .f32⟩
  | 117 => ⟨S4x4x8192x128, .f32⟩
  | 118 => ⟨S4x4x8192x128, .f32⟩
  | 119 => ⟨S_, .f32⟩
  | 120 => ⟨S4x4x8192, .f32⟩
  | 121 => ⟨S4x4x8192x1, .f32⟩
  | 122 => ⟨S_, .f32⟩
  | 123 => ⟨S4x4x8192x1, .f32⟩
  | 124 => ⟨S4x4x8192x1, .f32⟩
  | 125 => ⟨S4x4x8192x128, .f32⟩
  | 126 => ⟨S4x4x8192x128, .f32⟩
  | 127 => ⟨S_, .f32⟩
  | _ => ⟨S4x8192x3584, .bf16⟩

abbrev hbmTy0_1 (i : Nat) : BufTy := match i % 128 with
  | 0 => ⟨S4x4x8192x1, .f32⟩
  | 1 => ⟨S4x4x8192x1, .f32⟩
  | 2 => ⟨S4x4x8192x1, .f32⟩
  | 3 => ⟨S4x4x8192x128, .f32⟩
  | 4 => ⟨S4x4x8192x128, .f32⟩
  | 5 => ⟨S4x8192x4x128, .f32⟩
  | 6 => ⟨S4x8192x512, .f32⟩
  | 7 => ⟨S512, .f32⟩
  | 8 => ⟨S1x1x512, .f32⟩
  | 9 => ⟨S4x8192x512, .f32⟩
  | 10 => ⟨S4x8192x512, .f32⟩
  | 11 => ⟨S4x8192x512, .bf16⟩
  | 12 => ⟨S4x8192x512, .f32⟩
  | 13 => ⟨S4x8192x4x128, .f32⟩
  | 14 => ⟨S4x8192x512, .f32⟩
  | 15 => ⟨S4x8192x512, .f32⟩
  | 16 => ⟨S4x8192x512, .f32⟩
  | 17 => ⟨S_, .f32⟩
  | 18 => ⟨S4x8192x512, .f32⟩
  | 19 => ⟨S4x8192x512, .f32⟩
  | 20 => ⟨S_, .f32⟩
  | 21 => ⟨S4x8192x512, .f32⟩
  | 22 => ⟨S4x8192x512, .f32⟩
  | 23 => ⟨S4x8192x512, .f32⟩
  | 24 => ⟨S4x8192x512, .f32⟩
  | 25 => ⟨S4x8192x512, .bf16⟩
  | _ => ⟨S4x8192x3584, .bf16⟩

abbrev hbmTy (i : Nat) : BufTy := match i / 128 with
  | 0 => hbmTy0_0 i
  | 1 => hbmTy0_1 i
  | _ => ⟨S4x8192x3584, .bf16⟩

abbrev bufTy : (tb : Table) → Fin (tcTables nBuf tb) → BufTy
  | .hbm, ⟨i, _⟩ => hbmTy i
  | _, _ => ⟨S4x8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_3 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_cst_4 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_5 : Ref sig .tc := ⟨.hbm, 75, rfl⟩
abbrev main_v67 : Ref sig .tc := ⟨.hbm, 76, rfl⟩
abbrev main_cst_6 : Ref sig .tc := ⟨.hbm, 77, rfl⟩
abbrev main_v68 : Ref sig .tc := ⟨.hbm, 78, rfl⟩
abbrev main_c : Ref sig .tc := ⟨.hbm, 79, rfl⟩
abbrev main_v69_0 : Ref sig .tc := ⟨.hbm, 80, rfl⟩
abbrev main_v69_1 : Ref sig .tc := ⟨.hbm, 81, rfl⟩
abbrev main_v69_2 : Ref sig .tc := ⟨.hbm, 82, rfl⟩
abbrev main_v69_3 : Ref sig .tc := ⟨.hbm, 83, rfl⟩
abbrev main_v69_4 : Ref sig .tc := ⟨.hbm, 84, rfl⟩
abbrev main_while0c_c_16 : Ref sig .tc := ⟨.hbm, 85, rfl⟩
abbrev main_while0c_v107 : Ref sig .tc := ⟨.hbm, 86, rfl⟩
abbrev main_while0b_call0_c : Ref sig .tc := ⟨.hbm, 87, rfl⟩
abbrev main_while0b_call0_c_0 : Ref sig .tc := ⟨.hbm, 88, rfl⟩
abbrev main_while0b_call0_c_1 : Ref sig .tc := ⟨.hbm, 89, rfl⟩
abbrev main_while0b_call0_c_2 : Ref sig .tc := ⟨.hbm, 90, rfl⟩
abbrev main_while0b_call0_v0 : Ref sig .tc := ⟨.hbm, 91, rfl⟩
abbrev main_while0b_v107 : Ref sig .tc := ⟨.hbm, 92, rfl⟩
abbrev main_while0b_v108 : Ref sig .tc := ⟨.hbm, 93, rfl⟩
abbrev main_while0b_v109 : Ref sig .tc := ⟨.hbm, 94, rfl⟩
abbrev main_while0b_v110 : Ref sig .tc := ⟨.hbm, 95, rfl⟩
abbrev main_while0b_call1_v0 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_c_1 : Ref sig .tc := ⟨.hbm, 99, rfl⟩
abbrev main_while0b_call1_c_2 : Ref sig .tc := ⟨.hbm, 100, rfl⟩
abbrev main_while0b_v111 : Ref sig .tc := ⟨.hbm, 101, rfl⟩
abbrev main_while0b_c_16 : Ref sig .tc := ⟨.hbm, 102, rfl⟩
abbrev main_while0b_v112 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_7 : Ref sig .tc := ⟨.hbm, 110, rfl⟩
abbrev main_v76 : Ref sig .tc := ⟨.hbm, 111, rfl⟩
abbrev main_v77 : Ref sig .tc := ⟨.hbm, 112, rfl⟩
abbrev main_cst_8 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_9 : Ref sig .tc := ⟨.hbm, 119, rfl⟩
abbrev main_v83 : Ref sig .tc := ⟨.hbm, 120, rfl⟩
abbrev main_v84 : Ref sig .tc := ⟨.hbm, 121, rfl⟩
abbrev main_cst_10 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_11 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call2_v0 : Ref sig .tc := ⟨.hbm, 143, rfl⟩
abbrev main_call2_v1 : Ref sig .tc := ⟨.hbm, 144, rfl⟩
abbrev main_call2_cst : Ref sig .tc := ⟨.hbm, 145, rfl⟩
abbrev main_call2_v2 : Ref sig .tc := ⟨.hbm, 146, rfl⟩
abbrev main_call2_v3 : Ref sig .tc := ⟨.hbm, 147, rfl⟩
abbrev main_call2_cst_0 : Ref sig .tc := ⟨.hbm, 148, rfl⟩
abbrev main_call2_v4 : Ref sig .tc := ⟨.hbm, 149, rfl⟩
abbrev main_call2_v5 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]

abbrev main_while0_count : Scf.Loop 32 := ⟨0#32, 128#32, 1#32⟩
-- ==== Proof.Fold.lean ====
module

public import proofs.«01_k».proof.Proof.Gen.KernelIdeal.Value
public import Idealize.ShloMosaic.Lib.VecWindow
public import Idealize.ShloMosaic.Lib.WholeRead
public import Idealize.ShloMosaic.Lib.LoopRemainder

/-! What one grid point of the differential attention kernel leaves in its output block, as a plain function of its
    input blocks: the state after the diagonal key block, folded over the earlier key blocks, then the last lines. -/

@[expose] public section

set_option maxRecDepth 16384

noncomputable section

namespace Cert.Diff

open Cert.KernelIdeal Cert.KernelIdeal.Gen
open Idealize.ShloMosaic Idealize.ShloMosaic.TcCoe

variable {F : FTy → Type} [FloatOps F]

/-- The running maxima, the running sums and the running accumulators of the 512 stacked rows. -/
abbrev Rows (F : FTy → Type) := FVec F S512x1 .f32 × FVec F S512x1 .f32 × FVec F S512x128 .f32

/-- The 256 key rows the loop's trip `k` reads. -/
def trunk (i : grid0.Coords) (k : Fin (k0_t1_loop i).trips) (x : Vec F S1x8192x128 .bf16) : Vec F S1x256x128 .bf16 :=
  fun y => x ((Rect.unit (s := S1x8192x128) (k0_off3 i k) S1x256x128.size (Facts₀.k0_off3_inb i k)).toLoadRect.idx y)

/-- The 256 key rows of the diagonal block. -/
def diagonal (i : grid0.Coords) (x : Vec F S1x8192x128 .bf16) : Vec F S1x256x128 .bf16 :=
  fun y => x ((Rect.unit (s := S1x8192x128) (k0_off2 i) S1x256x128.size (Facts₀.k0_off2_inb i)).toLoadRect.idx y)

/-- One trip of the loop over the earlier key blocks. -/
def trip (i : grid0.Coords) (k : Fin (k0_t1_loop i).trips) (sl : Elt F .f32) (qs : FVec F S512x128 .bf16)
    (kb vb : Vec F S1x256x128 .bf16) (s : Rows F) : Rows F :=
  (k0_pay33 (k0_pay3 i (BitVec.ofNat 32 (i 2).val) sl qs kernelRun0_A.sl.v133 0#32 1#32 k kb s.1),
   k0_pay6 i (BitVec.ofNat 32 (i 2).val) sl qs kernelRun0_A.sl.v133 0#32 1#32 k kb s.1 s.2.1,
   k0_pay32 (k0_pay7 i (BitVec.ofNat 32 (i 2).val) sl qs kernelRun0_A.sl.v133 0#32 1#32 k kb s.1 s.2.2)
     (k0_pay8 i (BitVec.ofNat 32 (i 2).val) sl qs kernelRun0_A.sl.v133 0#32 1#32 k kb vb s.1))

/-- The state after the first `n` trips. -/
def walk (i : grid0.Coords) (sl : Elt F .f32) (qs : FVec F S512x128 .bf16) (xk xv : Vec F S1x8192x128 .bf16) (s : Rows F) : ℕ → Rows F
  | 0 => s
  | n + 1 => if h : n < (k0_t1_loop i).trips then trip i ⟨n, h⟩ sl qs (trunk i ⟨n, h⟩ xk) (trunk i ⟨n, h⟩ xv) (walk i sl qs xk xv s n)
      else walk i sl qs xk xv s n

/-- The state after the diagonal key block. -/
def start (sl : Elt F .f32) (qs : FVec F S512x128 .bf16) (kb vb : Vec F S1x256x128 .bf16) : Rows F :=
  (k0_pay31 (k0_pay24 sl qs kernelRun0_A.sl.v33 kernelRun0_A.sl.v34 kernelRun0_A.sl.r_2 kb k0_pay17),
   k0_pay27 sl qs kernelRun0_A.sl.v33 kernelRun0_A.sl.v34 kernelRun0_A.sl.r_2 kb k0_pay17 k0_pay18,
   k0_pay30 (k0_pay22 vb) (k0_pay28 sl qs kernelRun0_A.sl.v33 kernelRun0_A.sl.v34 kernelRun0_A.sl.r_2 kb k0_pay17 k0_pay19)
     (k0_pay29 sl qs kernelRun0_A.sl.v33 kernelRun0_A.sl.v34 kernelRun0_A.sl.r_2 kb k0_pay17) kernelRun0_A.sl.cst_41)

/-- The head's slope, read from the table of slopes. -/
def slope (i : grid0.Coords) (x0 : Vec F S8 .f32) : Elt F .f32 :=
  x0 ((Rect.unit (s := S8) (k0_off1 i) S1.size (Facts₀.k0_off1_inb i)).toLoadRect.idx (Shape.Idx.first (s := S1) (by decide)))

/-- The state when the loop is over. -/
def last (i : grid0.Coords) (x0 : Vec F S8 .f32) (x1 : Vec F S1x256x128 .bf16) (x2 x3 : Vec F S1x8192x128 .bf16) : Rows F :=
  walk i (slope i x0) (k0_pay16 x1) x2 x3 (start (slope i x0) (k0_pay16 x1) (diagonal i x2) (diagonal i x3)) (k0_t1_loop i).trips

section Reads
variable (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole)

/-- Before trip `n` the three scratch buffers read the state after `n` trips, from any state they held at entry. -/
theorem reads_walk (sl : Elt F .f32) (qs : FVec F S512x128 .bf16) (v99 : FVec F S256x128 .bf16) (v107 : FVec F S512x1 .f32) (v123 : FVec F S512x128 .f32) (v124 : FVec F S512x256 .bf16) (cst : FVec F S512x128 .f32)
    (x2 x3 : Vec F S1x8192x128 .bf16) (g10 : BufTy.Contents (Elt F) arg10.view.ty) (g11 : BufTy.Contents (Elt F) arg11.view.ty) (g12 : BufTy.Contents (Elt F) arg12.view.ty) (init : BitVec 32)
    (s : Rows F) (h10 : arg10.view.read (Elt F) g10 = s.1) (h11 : arg11.view.read (Elt F) g11 = s.2.1) (h12 : arg12.view.read (Elt F) g12 = s.2.2) (n : ℕ) :
    let st := st_k0_t1 (F := F) Variants.none c none i arg3 harg3 arg4 harg4 arg5 harg5 arg6 harg6 arg7 harg7 arg8 harg8 arg9 harg9 arg10 harg10 arg11 harg11 arg12 harg12 (BitVec.ofNat 32 (i 2).val) sl qs v99 v107 v123 v124 cst kernelRun0_A.sl.v133 (harg5.unread x2) (harg6.unread x3) g10 g11 g12 init n
    arg10.view.read (Elt F) (arg10.view.writes (Elt F) g10 st.2.1) = (walk i sl qs x2 x3 s n).1
    ∧ arg11.view.read (Elt F) (arg11.view.writes (Elt F) g11 st.2.2.1) = (walk i sl qs x2 x3 s n).2.1
    ∧ arg12.view.read (Elt F) (arg12.view.writes (Elt F) g12 st.2.2.2) = (walk i sl qs x2 x3 s n).2.2 := by
  have e5 : ∀ k, View.readAt (Elt F) arg5.view (Rect.unit (s := S1x8192x128) (k0_off3 i k) S1x256x128.size (Facts₀.k0_off3_inb i k)).toLoadRect (harg5.unread x2) = trunk i k x2 :=
    fun k => funext fun y => harg5.readAt_unread x2 _ y
  have e6 : ∀ k, View.readAt (Elt F) arg6.view (Rect.unit (s := S1x8192x128) (k0_off3 i k) S1x256x128.size (Facts₀.k0_off3_inb i k)).toLoadRect (harg6.unread x3) = trunk i k x3 :=
    fun k => funext fun y => harg6.readAt_unread x3 _ y
  induction n with
  | zero => exact ⟨h10, h11, h12⟩
  | succ n ih =>
    intro st
    by_cases h : n < (k0_t1_loop i).trips
    · simp only [walk, dif_pos h]
      have hst := st_k0_t1_succ (F := F) Variants.none c none i arg3 harg3 arg4 harg4 arg5 harg5 arg6 harg6 arg7 harg7 arg8 harg8 arg9 harg9 arg10 harg10 arg11 harg11 arg12 harg12 (BitVec.ofNat 32 (i 2).val) sl qs v99 v107 v123 v124 cst kernelRun0_A.sl.v133 (harg5.unread x2) (harg6.unread x3) g10 g11 g12 init ⟨n, h⟩
      obtain ⟨i10, i11, i12⟩ := ih
      have f10 := (View.readAt_full arg10.view _ inb_S512x1_S512x1_0_0).trans i10
      have f11 := (View.readAt_full arg11.view _ inb_S512x1_S512x1_0_0).trans i11
      have f12 := (View.readAt_full arg12.view _ inb_S512x128_S512x128_0_0).trans i12
      simp only [st, hst, tripL_k0_t1]
      unfold trip_k0_t1
      dsimp only
      refine ⟨(View.read_writes_full _ _ _ _ _).trans ?_, (View.read_writes_full _ _ _ _ _).trans ?_, (View.read_writes_full _ _ _ _ _).trans ?_⟩
      · unfold trip_k0_t1.sl.r
        exact congrArg₂ (fun kb m => k0_pay33 (k0_pay3 i (BitVec.ofNat 32 (i 2).val) sl qs kernelRun0_A.sl.v133 0#32 1#32 ⟨n, h⟩ kb m)) (e5 _) f10
      · exact (congrArg₂ (fun kb m => k0_pay6 i (BitVec.ofNat 32 (i 2).val) sl qs kernelRun0_A.sl.v133 0#32 1#32 ⟨n, h⟩ kb m _) (e5 _) f10).trans
          (congrArg (k0_pay6 i (BitVec.ofNat 32 (i 2).val) sl qs kernelRun0_A.sl.v133 0#32 1#32 ⟨n, h⟩ _ _) f11)
      · unfold trip_k0_t1.sl.r_1 trip_k0_t1.sl.r_2
        exact congrArg₂ k0_pay32
          ((congrArg₂ (fun kb m => k0_pay7 i (BitVec.ofNat 32 (i 2).val) sl qs kernelRun0_A.sl.v133 0#32 1#32 ⟨n, h⟩ kb m _) (e5 _) f10).trans
            (congrArg (k0_pay7 i (BitVec.ofNat 32 (i 2).val) sl qs kernelRun0_A.sl.v133 0#32 1#32 ⟨n, h⟩ _ _) f12))
          ((congrArg₂ (fun kb m => k0_pay8 i (BitVec.ofNat 32 (i 2).val) sl qs kernelRun0_A.sl.v133 0#32 1#32 ⟨n, h⟩ kb _ m) (e5 _) f10).trans
            (congrArg (fun vb => k0_pay8 i (BitVec.ofNat 32 (i 2).val) sl qs kernelRun0_A.sl.v133 0#32 1#32 ⟨n, h⟩ _ vb _) (e6 _)))
    · have hst : st = st_k0_t1 (F := F) Variants.none c none i arg3 harg3 arg4 harg4 arg5 harg5 arg6 harg6 arg7 harg7 arg8 harg8 arg9 harg9 arg10 harg10 arg11 harg11 arg12 harg12 (BitVec.ofNat 32 (i 2).val) sl qs v99 v107 v123 v124 cst kernelRun0_A.sl.v133 (harg5.unread x2) (harg6.unread x3) g10 g11 g12 init n := by
        simp only [st]
        rw [st_k0_t1.eq_2]; unfold st_k0_t1Step; exact dif_neg h
      simp only [walk, dif_neg h]
      rw [hst]
      exact ih

set_option maxHeartbeats 2000000 in
/-- What the body leaves in the output block. -/
theorem block (x0 : Vec F S8 .f32) (x1 : Vec F S1x256x128 .bf16) (x2 x3 : Vec F S1x8192x128 .bf16) (x4 : Vec F S4x64 .f32) (x5 : Vec F S1x128 .f32) :
    out0_A_6 c i arg3 harg3 arg4 harg4 arg5 harg5 arg6 harg6 arg7 harg7 arg8 harg8 arg9 harg9 arg10 harg10 arg11 harg11 arg12 harg12 x0 x1 x2 x3 x4 x5
      = k0_pay1 (k0_pay37 (last i x0 x1 x2 x3).2.2 (last i x0 x1 x2 x3).2.1) (k0_pay38 (last i x0 x1 x2 x3).2.2 (last i x0 x1 x2 x3).2.1) (k0_pay39 x4) x5 := by
  have e3 : kernelRun0_A.sl.r c i arg3 harg3 x0 = slope i x0 := harg3.readAt_unread x0 _ _
  have e4 : kernelRun0_A.sl.r_1 c arg4 harg4 x1 = k0_pay16 x1 := congrArg k0_pay16 ((View.readAt_full _ _ _).trans (harg4.read_unread x1))
  have e5 : View.readAt (Elt F) arg5.view (Rect.unit (s := S1x8192x128) (k0_off2 i) S1x256x128.size (Facts₀.k0_off2_inb i)).toLoadRect (harg5.unread x2) = diagonal i x2 :=
    funext fun y => harg5.readAt_unread x2 _ y
  have e6 : kernelRun0_A.sl.r_3 c i arg6 harg6 x3 = k0_pay22 (diagonal i x3) :=
    congrArg k0_pay22 (funext fun y => harg6.readAt_unread x3 _ y)
  have e10 : kernelRun0_A.sl.v104 (F := F) c arg10 = k0_pay17 := View.readCov_full _ _ _ _ _
  have e11 : kernelRun0_A.sl.v113 (F := F) c arg11 = k0_pay18 := View.readCov_full _ _ _ _ _
  have e12 : kernelRun0_A.sl.v121 (F := F) c arg12 = k0_pay19 := View.readCov_full _ _ _ _ _
  have s10 : arg10.view.read (Elt F) (arg10.view.writes (Elt F) arg10.view.junk (kernelRun0_A.sl.HS0_2 c i arg3 harg3 arg4 harg4 arg5 harg5 arg10 x0 x1 x2))
      = (start (slope i x0) (k0_pay16 x1) (diagonal i x2) (diagonal i x3)).1 := by
    unfold kernelRun0_A.sl.HS0_2 kernelRun0_A.sl.r_4
    rw [e3, e4, e10]
    refine (View.read_writes_full _ _ _ _ _).trans ?_
    rw [e5]; rfl
  have s11 : arg11.view.read (Elt F) (arg11.view.writes (Elt F) arg11.view.junk (kernelRun0_A.sl.HS1_2 c i arg3 harg3 arg4 harg4 arg5 harg5 arg10 arg11 x0 x1 x2))
      = (start (slope i x0) (k0_pay16 x1) (diagonal i x2) (diagonal i x3)).2.1 := by
    unfold kernelRun0_A.sl.HS1_2
    rw [e3, e4, e10, e11]
    refine (View.read_writes_full _ _ _ _ _).trans ?_
    rw [e5]; rfl
  have s12 : arg12.view.read (Elt F) (arg12.view.writes (Elt F) arg12.view.junk (kernelRun0_A.sl.HS2_2 c i arg3 harg3 arg4 harg4 arg5 harg5 arg6 harg6 arg10 arg12 x0 x1 x2 x3))
      = (start (slope i x0) (k0_pay16 x1) (diagonal i x2) (diagonal i x3)).2.2 := by
    unfold kernelRun0_A.sl.HS2_2 kernelRun0_A.sl.r_5 kernelRun0_A.sl.r_6
    rw [e3, e4, e6, e10, e12]
    refine (View.read_writes_full _ _ _ _ _).trans ?_
    rw [e5]; rfl
  have ht : (k0_t2_loop i).trips = 0 := Scf.rem_trips _ _
  have e7 : kernelRun0_A.sl.r_9 c arg7 harg7 x4 = k0_pay39 x4 := congrArg k0_pay39 ((View.readAt_full _ _ _).trans (harg7.read_unread x4))
  unfold out0_A_6 kernelRun0_A
  dsimp only
  refine (View.read_writes_full _ _ _ _ _).trans ?_
  rw [e7]
  have w := reads_walk (F := F) c i arg3 harg3 arg4 harg4 arg5 harg5 arg6 harg6 arg7 harg7 arg8 harg8 arg9 harg9 arg10 harg10 arg11 harg11 arg12 harg12
    (slope i x0) (k0_pay16 x1) (kernelRun0_A.sl.r_3 c i arg6 harg6 x3) (kernelRun0_A.sl.r_4 c i arg3 harg3 arg4 harg4 arg5 harg5 arg10 x0 x1 x2)
    (kernelRun0_A.sl.r_5 c i arg3 harg3 arg4 harg4 arg5 harg5 arg10 arg12 x0 x1 x2) (kernelRun0_A.sl.r_6 c i arg3 harg3 arg4 harg4 arg5 harg5 arg10 x0 x1 x2) kernelRun0_A.sl.cst_41
    x2 x3 _ _ _ 0#32 _ s10 s11 s12 (k0_t1_loop i).trips
  have w' := w
  dsimp only at w'
  clear w
  have w12 : kernelRun0_A.sl.v158 c i arg3 harg3 arg4 harg4 arg5 harg5 arg6 harg6 arg7 harg7 arg8 harg8 arg9 harg9 arg10 harg10 arg11 harg11 arg12 harg12 x0 x1 x2 x3 = (last i x0 x1 x2 x3).2.2 := by
    unfold kernelRun0_A.sl.v158
    rw [e3, e4, show Scf.trips (k0_t2_loop i).lb (k0_t2_loop i).ub (k0_t2_loop i).st = 0 from ht, st_k0_t2.eq_1]
    refine (View.readAt_full _ _ _).trans ((congrArg _ (View.writes_append ..)).trans ?_)
    refine (congrArg (fun f => arg12.view.read (Elt F) (arg12.view.writes (Elt F) f [])) (View.writes_append ..)).trans ?_
    exact w'.2.2
  have w11 : kernelRun0_A.sl.v159 c i arg3 harg3 arg4 harg4 arg5 harg5 arg6 harg6 arg7 harg7 arg8 harg8 arg9 harg9 arg10 harg10 arg11 harg11 arg12 harg12 x0 x1 x2 x3 = (last i x0 x1 x2 x3).2.1 := by
    unfold kernelRun0_A.sl.v159
    rw [e3, e4, show Scf.trips (k0_t2_loop i).lb (k0_t2_loop i).ub (k0_t2_loop i).st = 0 from ht, st_k0_t2.eq_1]
    refine (View.readAt_full _ _ _).trans ((congrArg _ (View.writes_append ..)).trans ?_)
    refine (congrArg (fun f => arg11.view.read (Elt F) (arg11.view.writes (Elt F) f [])) (View.writes_append ..)).trans ?_
    exact w'.2.1
  unfold kernelRun0_A.sl.r_7 kernelRun0_A.sl.r_8
  rw [w12, w11]
  exact congrArg _ ((View.readAt_full _ _ _).trans (harg8.read_unread x5))

end Reads

end Cert.Diff
-- ==== Proof.Online.lean ====
module

public import Idealize.ShloMosaic.Lib.Pointwise

/-! The softmax accumulated block by block, over the extended reals: a running maximum that is only known to be real,
    a running sum and a running weighted sum that carry the same factor `exp (-maximum)`. -/

@[expose] public section

noncomputable section

namespace Cert.Diff

open Idealize.ShloMosaic

/-- The exponential of an extended real as a real number; `0` at minus infinity. -/
def E (z : EReal) : ℝ := (Ideal.exp z).toReal

/-- The exponential of minus infinity is zero. -/
theorem E_bot : E ⊥ = 0 := by simp [E]

/-- The exponential of a real number. -/
theorem E_coe (x : ℝ) : E (x : EReal) = Real.exp x := by simp [E]

/-- An exponential is not negative. -/
theorem E_nonneg (z : EReal) (hz : z ≠ ⊤) : 0 ≤ E z := by
  induction z with
  | bot => exact E_bot.ge
  | coe x => exact (E_coe x).ge.trans' (Real.exp_pos x).le
  | top => exact absurd rfl hz

/-- An exponential of a real number is positive. -/
theorem E_pos (z : EReal) (hz : z ≠ ⊤) (hb : z ≠ ⊥) : 0 < E z := by
  induction z with
  | bot => exact absurd rfl hb
  | coe x => rw [E_coe]; exact Real.exp_pos x
  | top => exact absurd rfl hz

/-- An exponential taken from below the top splits off the subtracted real. -/
theorem exp_sub (z : EReal) (hz : z ≠ ⊤) (μ : ℝ) : Ideal.exp (z - (μ : EReal)) = ((Real.exp (-μ) * E z : ℝ) : EReal) := by
  induction z with
  | bot => rw [E_bot, EReal.bot_sub]; simp
  | coe x =>
    rw [E_coe, ← EReal.coe_sub, ← Real.exp_add]
    show ((Real.exp (x - μ) : ℝ) : EReal) = _
    congr 2; ring
  | top => exact absurd rfl hz

/-- A finite sum of real numbers, each taken as an extended real. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

section Block
variable {n : ℕ} (z : Fin n → EReal) (v : Fin n → ℝ) (hz : ∀ k, z k ≠ ⊤)
include hz

/-- The maximum of a block without plus infinity is not plus infinity. -/
theorem fold_ne_top : Finset.univ.fold max ⊥ z ≠ ⊤ :=
  (Finset.fold_max_lt ⊤ |>.2 ⟨bot_lt_top, fun k _ => (hz k).lt_top⟩).ne

/-- The sum of a block's exponentials, all taken from the same real. -/
theorem sum_exp (μ : ℝ) : ∑ k, Ideal.exp (z k - (μ : EReal)) = ((Real.exp (-μ) * ∑ k, E (z k) : ℝ) : EReal) := by
  rw [Finset.mul_sum, ← sum_coe]
  exact Finset.sum_congr rfl fun k _ => exp_sub _ (hz k) μ

/-- The weighted sum of a block's exponentials, all taken from the same real. -/
theorem sum_exp_mul (μ : ℝ) : ∑ k, Ideal.exp (z k - (μ : EReal)) * ((v k : ℝ) : EReal) = ((Real.exp (-μ) * ∑ k, E (z k) * v k : ℝ) : EReal) := by
  rw [Finset.mul_sum, ← sum_coe]
  refine Finset.sum_congr rfl fun k _ => ?_
  rw [exp_sub _ (hz k) μ, ← EReal.coe_mul, mul_assoc]

end Block

/-- A running maximum, sum and weighted sum that stand for the sum `s` and the weighted sum `t` of exponentials. -/
def Good (s t : ℝ) (m l a : EReal) : Prop :=
  ∃ μ : ℝ, m = (μ : EReal) ∧ l = ((Real.exp (-μ) * s : ℝ) : EReal) ∧ a = ((Real.exp (-μ) * t : ℝ) : EReal)

/-- A value that is neither infinity is a real. -/
theorem exists_coe (x : EReal) (h : x ≠ ⊤) (h' : x ≠ ⊥) : ∃ μ : ℝ, x = (μ : EReal) := ⟨x.toReal, (EReal.coe_toReal h h').symm⟩

/-- The first block, taken into the empty state. -/
theorem Good.first {n : ℕ} (z : Fin n → EReal) (v : Fin n → ℝ) (hz : ∀ k, z k ≠ ⊤) (hb : ∃ k, z k ≠ ⊥) :
    Good (∑ k, E (z k)) (∑ k, E (z k) * v k) (max ⊥ (Finset.univ.fold max ⊥ z))
      (Ideal.exp (⊥ - max ⊥ (Finset.univ.fold max ⊥ z)) * 0 + ∑ k, Ideal.exp (z k - max ⊥ (Finset.univ.fold max ⊥ z)))
      (Ideal.exp (⊥ - max ⊥ (Finset.univ.fold max ⊥ z)) * 0 + ∑ k, Ideal.exp (z k - max ⊥ (Finset.univ.fold max ⊥ z)) * ((v k : ℝ) : EReal)) := by
  obtain ⟨k, hk⟩ := hb
  have hf : Finset.univ.fold max ⊥ z ≠ ⊥ := (Finset.lt_fold_max ⊥ |>.2 (.inr ⟨k, Finset.mem_univ _, bot_lt_iff_ne_bot.2 hk⟩)).ne'
  obtain ⟨μ, hμ⟩ := exists_coe _ (fold_ne_top z hz) hf
  rw [max_eq_right bot_le, hμ, sum_exp z hz, sum_exp_mul z v hz, mul_zero, zero_add, zero_add]
  exact ⟨μ, rfl, rfl, rfl⟩

/-- One more block. -/
theorem Good.next {n : ℕ} (z : Fin n → EReal) (v : Fin n → ℝ) (hz : ∀ k, z k ≠ ⊤) {s t : ℝ} {m l a : EReal} (h : Good s t m l a) :
    Good (s + ∑ k, E (z k)) (t + ∑ k, E (z k) * v k) (max m (Finset.univ.fold max ⊥ z))
      (Ideal.exp (m - max m (Finset.univ.fold max ⊥ z)) * l + ∑ k, Ideal.exp (z k - max m (Finset.univ.fold max ⊥ z)))
      (Ideal.exp (m - max m (Finset.univ.fold max ⊥ z)) * a + ∑ k, Ideal.exp (z k - max m (Finset.univ.fold max ⊥ z)) * ((v k : ℝ) : EReal)) := by
  obtain ⟨μ, rfl, rfl, rfl⟩ := h
  obtain ⟨ν, hν⟩ := exists_coe (max (μ : EReal) (Finset.univ.fold max ⊥ z)) (max_lt (EReal.coe_lt_top μ) (fold_ne_top z hz).lt_top).ne
    (lt_max_of_lt_left (EReal.bot_lt_coe μ)).ne'
  have e : Real.exp (-ν) * Real.exp μ * Real.exp (-μ) = Real.exp (-ν) := by rw [mul_assoc, ← Real.exp_add]; simp
  rw [hν, sum_exp z hz, sum_exp_mul z v hz, exp_sub _ (EReal.coe_ne_top μ), E_coe, ← EReal.coe_mul, ← EReal.coe_mul, ← EReal.coe_add, ← EReal.coe_add]
  refine ⟨ν, rfl, congrArg _ ?_, congrArg _ ?_⟩
  · rw [← mul_assoc, e, mul_add]
  · rw [← mul_assoc, e, mul_add]

/-- A quotient of two reals. -/
theorem div_real (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- The last division: the weighted mean. -/
theorem Good.quot {s t : ℝ} {m l a : EReal} (h : Good s t m l a) (hs : 0 < s) : Ideal.div a l = ((t / s : ℝ) : EReal) := by
  obtain ⟨μ, rfl, rfl, rfl⟩ := h
  have := Real.exp_pos (-μ)
  rw [div_real _ _ (by positivity), mul_div_mul_left _ _ this.ne']

/-- The softmax of a row: the exponentials over their sum. -/
theorem softmax {n : ℕ} (z : Fin n → EReal) (hz : ∀ k, z k ≠ ⊤) (hb : ∃ k, z k ≠ ⊥) (q : Fin n) :
    Ideal.div (Ideal.exp (z q - Finset.univ.fold max ⊥ z)) (∑ k, Ideal.exp (z k - Finset.univ.fold max ⊥ z))
      = ((E (z q) / ∑ k, E (z k) : ℝ) : EReal) := by
  obtain ⟨k, hk⟩ := hb
  have hf : Finset.univ.fold max ⊥ z ≠ ⊥ := (Finset.lt_fold_max ⊥ |>.2 (.inr ⟨k, Finset.mem_univ _, bot_lt_iff_ne_bot.2 hk⟩)).ne'
  obtain ⟨μ, hμ⟩ := exists_coe _ (fold_ne_top z hz) hf
  have hs : 0 < ∑ k, E (z k) := Finset.sum_pos' (fun k _ => E_nonneg _ (hz k)) ⟨k, Finset.mem_univ _, E_pos _ (hz k) hk⟩
  have := Real.exp_pos (-μ)
  rw [hμ, sum_exp z hz, exp_sub _ (hz q), div_real _ _ (by positivity), mul_div_mul_left _ _ this.ne']

/-- The pattern of minus infinity. -/
theorem ofBits_ninf : Ideal.ofBits .f32 0xFF800000#32 = ⊥ := by
  simp [Ideal.ofBits, Ideal.ieee]

end Cert.Diff
-- ==== Proof.Chunk.lean ====
module

public import Idealize.ShloMosaic.Lib.Pointwise
public import Idealize.ShloMosaic.Lib.WordArith
public import Idealize.ShloMosaic.Lib.Scf

/-! The chunk of a position, as the kernel's integer words compute it. -/

@[expose] public section

set_option maxRecDepth 16384

noncomputable section

namespace Cert.Diff

open Idealize.ShloMosaic

/-- The chunk of a position, at every position: the kernel's floor division by 64. -/
theorem chunk_all : ∀ n : Fin 8192, Scalar.select (IntOp.andi
      (IntOp.cmpi .ne (IntOp.subi (BitVec.setWidth 32 (IntOp.cmpi .sgt (BitVec.ofNat 32 n.val) 0#32)) (BitVec.setWidth 32 (IntOp.cmpi .slt (BitVec.ofNat 32 n.val) 0#32)))
        (Scalar.subi (Scalar.extui (Scalar.cmpi .sgt 64#32 0#32)) (Scalar.extui (Scalar.cmpi .slt 64#32 0#32))))
      (IntOp.cmpi .ne (IntOp.remsi .vector (BitVec.ofNat 32 n.val) 64#32) 0#32))
    (IntOp.subi (IntOp.divsi .vector (BitVec.ofNat 32 n.val) 64#32) 1#32) (IntOp.divsi .vector (BitVec.ofNat 32 n.val) 64#32)
    = BitVec.ofNat 32 (n.val / 64) := by
  decide +kernel

/-- The chunk of a position: the kernel's floor division by 64. -/
theorem chunk_word (n : ℕ) (h : n < 8192) : Scalar.select (IntOp.andi
      (IntOp.cmpi .ne (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32) (IntOp.divsi .vector (BitVec.ofNat 32 n) 64#32)
    = BitVec.ofNat 32 (n / 64) := chunk_all ⟨n, h⟩

end Cert.Diff
-- ==== Proof.Words.lean ====
module

public import proofs.«01_k».proof.Proof.Chunk
public import Idealize.ShloMosaic.Lib.WordArith
public import Idealize.ShloMosaic.Lib.Scf

/-! The integer words of the two programs: positions, chunks of 64 positions, differences of positions. -/

@[expose] public section

set_option maxRecDepth 16384

noncomputable section

namespace Cert.Diff

open Idealize.ShloMosaic Idealize.ShloMosaic.WordArith

/-- A small number, read back from its word. -/
theorem toInt_nat (n : ℕ) (h : n < 2 ^ 31) : (BitVec.ofNat 32 n).toInt = n := toInt_ofNat_small n h

/-- A selection on a decided proposition. -/
theorem select_ofBool {α : Type} (p : Prop) [Decidable p] (x y : α) : Scalar.select (BitVec.ofBool (decide p)) x y = if p then x else y := by
  by_cases h : p <;> simp [Scalar.select, h]

/-- A selection on a signed comparison of two small words. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : IntOp.cmpi .sle (BitVec.ofNat 32 a) (BitVec.ofNat 32 b) = BitVec.ofBool (decide (a ≤ b)) := by
    show BitVec.ofBool (decide ((BitVec.ofNat 32 a).toInt ≤ (BitVec.ofNat 32 b).toInt)) = _
    rw [toInt_nat a ha, toInt_nat b hb]; simp
  rw [e, select_ofBool]

/-- A selection on a signed strict comparison of two small words. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    show BitVec.ofBool (decide ((BitVec.ofNat 32 a).toInt < (BitVec.ofNat 32 b).toInt)) = _
    rw [toInt_nat a ha, toInt_nat b hb]; simp
  rw [e, select_ofBool]

/-- The signed difference of two small words. -/
theorem toInt_diff (a b : ℕ) (ha : a < 2 ^ 30) (hb : b < 2 ^ 30) : (IntOp.subi (BitVec.ofNat 32 a) (BitVec.ofNat 32 b)).toInt = (a : ℤ) - b := by
  have h1 := toInt_nat a (by omega)
  have h2 := toInt_nat b (by omega)
  rw [toInt_subi_of_nonneg _ _ (by omega) (by omega), h1, h2]

/-- The distance of two small positions. -/
theorem toInt_dist (a b : ℕ) (ha : a < 2 ^ 30) (hb : b < 2 ^ 30) :
    (IntOp.absi (IntOp.subi (BitVec.ofNat 32 a) (BitVec.ofNat 32 b))).toInt = |(a : ℤ) - b| := by
  have h : (IntOp.subi (BitVec.ofNat 32 a) (BitVec.ofNat 32 b)).toInt = (a : ℤ) - b := toInt_diff a b ha hb
  generalize IntOp.subi (BitVec.ofNat 32 a) (BitVec.ofNat 32 b) = w at h
  unfold IntOp.absi
  rw [BitVec.msb_eq_toInt]
  by_cases hn : w.toInt < 0
  · have h0 : (-w).toInt = -w.toInt := by
      have := toInt_sub_of_bounds 0#32 w (by simp; omega) (by simp; omega)
      simpa using this
    simp only [hn, decide_true, if_true]
    rw [h0, h, abs_of_neg (by omega)]
  · simp only [hn, decide_false]
    rw [if_neg (by simp), h, abs_of_nonneg (by omega)]

/-- A position less a distance of two small positions. -/
theorem toInt_less_dist (a b : ℕ) (ha : a < 2 ^ 20) (hb : b < 2 ^ 20) :
    (IntOp.subi (BitVec.ofNat 32 a) (IntOp.absi (IntOp.subi (BitVec.ofNat 32 a) (BitVec.ofNat 32 b)))).toInt = (a : ℤ) - |(a : ℤ) - b| := by
  have h := toInt_dist a b (by omega) (by omega)
  have hb' : |(a : ℤ) - b| < 2 ^ 20 := by rw [abs_lt]; omega
  have hb0 := abs_nonneg ((a : ℤ) - b)
  rw [toInt_subi_of_nonneg, h, toInt_nat a (by omega)]
  · rw [toInt_nat a (by omega)]; omega
  · rw [h]; exact hb0

/-- The signed offset of a key of the block `j` from the block `q`. -/
theorem toInt_key (l j q : ℕ) (hl : l < 256) (hj : j < 32) (hq : q < 32) :
    (IntOp.addi (BitVec.ofNat 32 l) (Scalar.muli (Scalar.subi (Scf.iv 0#32 1#32 j) (BitVec.ofNat 32 q)) 256#32)).toInt = (l : ℤ) + ((j : ℤ) - q) * 256 := by
  have h1 : Scf.iv 0#32 1#32 j = BitVec.ofNat 32 j := by simp [Scf.iv]
  have h2 : (IntOp.subi (BitVec.ofNat 32 j) (BitVec.ofNat 32 q)).toInt = (j : ℤ) - q := toInt_diff j q (by omega) (by omega)
  have h256 : (256#32 : BitVec 32).toInt = 256 := by decide
  have h3 : (IntOp.muli (IntOp.subi (BitVec.ofNat 32 j) (BitVec.ofNat 32 q)) 256#32).toInt = ((j : ℤ) - q) * 256 := by
    unfold IntOp.muli
    rw [toInt_mul_of_bounds] <;> rw [h2, h256] <;> omega
  rw [h1]
  show (BitVec.ofNat 32 l + IntOp.muli (IntOp.subi (BitVec.ofNat 32 j) (BitVec.ofNat 32 q)) 256#32).toInt = _
  rw [toInt_add_of_bounds] <;> rw [h3, toInt_nat l (by omega)] <;> omega

end Cert.Diff
-- ==== Proof.KRead.lean ====
module

public import proofs.«01_k».proof.Proof.Fold
public import proofs.«01_k».proof.Proof.Online
public import proofs.«01_k».proof.Proof.Words
public import Idealize.ShloMosaic.Lib.Pointwise

/-! The kernel's vector expressions read at an index. -/

@[expose] public section

set_option maxRecDepth 16384

noncomputable section

namespace Cert.Diff

open Cert.KernelIdeal Cert.KernelIdeal.Gen
open Idealize.ShloMosaic Idealize.ShloMosaic.TcCoe

/-- The scaled query of a stacked row: the row's half of the lanes, the other half zero. -/
theorem qs_read (x1 : FVec Ideal S1x256x128 .bf16) (r : Fin 512) (l : Fin 128) :
    k0_pay16 (F := Ideal) x1 (ix2 r l)
      = (if l.val / 64 = r.val / 256 then x1 (ix3 0 ⟨r.val % 256, Nat.mod_lt _ (by norm_num)⟩ l) else 0) * Ideal.ofBits .f32 0x3E000000#32 := by
  pointwise [k0_pay16]
  congr 1
  by_cases h : r.val < 256
  · have hr : (⟨r.val % 256, Nat.mod_lt _ (by norm_num)⟩ : Fin 256) = ⟨r.val, h⟩ := Fin.ext (Nat.mod_eq_of_lt h)
    rw [dif_pos h, hr, select_slt _ _ (by omega) (by omega)]
    exact if_congr (by omega) rfl rfl
  · have hr : (⟨r.val % 256, Nat.mod_lt _ (by norm_num)⟩ : Fin 256) = ⟨r.val - 256, by omega⟩ := Fin.ext (by show r.val % 256 = r.val - 256; omega)
    rw [dif_neg h, hr]
    refine (select_sle 64 l.val (by omega) (by omega) _ _).trans ?_
    exact if_congr (by omega) rfl rfl

/-- The scores of the diagonal key block. -/
theorem zdiag_read (sl : EReal) (qs : FVec Ideal S512x128 .bf16) (kb : FVec Ideal S1x256x128 .bf16) (r : Fin 512) (l : Fin 256) :
    k0_pay23 (F := Ideal) sl qs kernelRun0_A.sl.v33 kernelRun0_A.sl.v34 kernelRun0_A.sl.r_2 kb (ix2 r l)
      = if l.val / 64 ≤ r.val % 256 / 64 then ∑ x, qs (ix2 r x) * kb (ix3 0 l x) + sl * (((r.val % 256 : ℕ) - |((r.val % 256 : ℕ) : ℝ) - l.val| : ℝ) : EReal) else ⊥ := by
  pointwise [k0_pay23, kernelRun0_A.sl.v33, kernelRun0_A.sl.v34, kernelRun0_A.sl.r_2, k0_pay20, k0_pay21]
  have hr : r.val % 256 = if r.val < 256 then r.val else r.val - 256 := by split <;> omega
  have key : ∀ n : ℕ, n < 256 → (FloatOps.sitofp (F := Ideal) FTy.f32 (IntOp.subi (BitVec.ofNat 32 n) (IntOp.absi (IntOp.subi (BitVec.ofNat 32 n) (BitVec.ofNat 32 l.val)))))
      = ((n - |(n : ℝ) - l.val| : ℝ) : EReal) := fun n hn => by
    show (((IntOp.subi (BitVec.ofNat 32 n) (IntOp.absi (IntOp.subi (BitVec.ofNat 32 n) (BitVec.ofNat 32 l.val)))).toInt : ℝ) : EReal) = _
    rw [toInt_less_dist n l.val (by omega) (by omega)]; push_cast; rfl
  rw [ofBits_ninf, hr]
  by_cases h : r.val < 256
  · simp only [dif_pos h, if_pos h]
    rw [chunk_word l.val (by omega), chunk_word r.val (by omega), select_sle _ _ (by omega) (by omega), key _ (by omega)]
  · simp only [dif_neg h, if_neg h]
    rw [chunk_word l.val (by omega), chunk_word (r.val - 256) (by omega), select_sle _ _ (by omega) (by omega), key _ (by omega)]

/-- The loop has one trip per earlier key block. -/
theorem trips_eq (i : grid0.Coords) : (k0_t1_loop i).trips = (i 2).val :=
  (by decide +kernel : ∀ n : Fin 32, Scf.trips 0#32 (Scalar.addi 0#32 (Scalar.muli (Scalar.divsi (Scalar.subi (BitVec.ofNat 32 n.val) 0#32) 1#32) 1#32)) 1#32 = n.val) (i 2)

/-- A trip's number is less than the block's own. -/
theorem trip_lt (i : grid0.Coords) (k : Fin (k0_t1_loop i).trips) : k.val < (i 2).val := (trips_eq i) ▸ k.isLt

/-- The scores of an earlier key block. -/
theorem zloop_read (i : grid0.Coords) (k : Fin (k0_t1_loop i).trips) (sl : EReal) (qs : FVec Ideal S512x128 .bf16) (kb : FVec Ideal S1x256x128 .bf16) (r : Fin 512) (l : Fin 256) :
    k0_pay2 (F := Ideal) i (BitVec.ofNat 32 (i 2).val) sl qs kernelRun0_A.sl.v133 0#32 1#32 k kb (ix2 r l)
      = ∑ x, qs (ix2 r x) * kb (ix3 0 l x) + sl * (((l.val : ℝ) + ((k.val : ℝ) - (i 2).val) * 256 : ℝ) : EReal) := by
  pointwise [k0_pay2, kernelRun0_A.sl.v133]
  have hi : (i 2).val < 32 := (i 2).isLt
  have hk := trip_lt i k
  show _ + sl * (((IntOp.addi (BitVec.ofNat 32 l.val) (Scalar.muli (Scalar.subi (Scf.iv 0#32 1#32 k.val) (BitVec.ofNat 32 (i 2).val)) 256#32)).toInt : ℝ) : EReal) = _
  rw [toInt_key l.val k.val (i 2).val (by omega) (by omega) hi]
  push_cast; rfl

/-- The slope is read at the head's place. -/
theorem off1 (i : grid0.Coords) : k0_off1 i = ![(i 1).val] :=
  (by decide +kernel : ∀ n : Fin 8, ![(Scalar.indexCast (BitVec.ofNat 32 n.val)).toNat] = ![n.val]) (i 1)

/-- Where the diagonal key block begins. -/
theorem off2 (i : grid0.Coords) : k0_off2 i = ![0, (i 2).val * 256, 0] :=
  (by decide +kernel : ∀ n : Fin 32, ![0, (Scalar.indexCast (Scalar.muli (BitVec.ofNat 32 n.val) 256#32)).toNat, 0] = ![0, n.val * 256, 0]) (i 2)

/-- Where an earlier key block begins. -/
theorem off3 (i : grid0.Coords) (k) : k0_off3 i k = ![0, k.val * 256, 0] :=
  (by decide +kernel : ∀ n : Fin 32, ![0, (Scalar.indexCast (Scalar.muli (Scf.iv 0#32 1#32 n.val) 256#32)).toNat, 0] = ![0, n.val * 256, 0])
    ⟨k.val, (trip_lt i k).trans (i 2).isLt⟩

/-- The diagonal key rows, read at an index. -/
theorem diagonal_read (i : grid0.Coords) (x : FVec Ideal S1x8192x128 .bf16) (l : Fin 256) (e : Fin 128) :
    diagonal (F := Ideal) i x (ix3 0 l e) = x (ix3 0 ⟨(i 2).val * 256 + l.val, by have : (i 2).val < 32 := (i 2).isLt; omega⟩ e) := by
  refine congrArg x (funext fun a => Fin.ext ?_)
  show (k0_off2 i) a + 1 * ((ix3 0 l e : S1x256x128.Idx) a).val = _
  rw [off2]
  fin_cases a <;> simp

/-- The key rows of an earlier block, read at an index. -/
theorem trunk_read (i : grid0.Coords) (k : Fin (k0_t1_loop i).trips) (x : FVec Ideal S1x8192x128 .bf16) (l : Fin 256) (e : Fin 128) :
    trunk (F := Ideal) i k x (ix3 0 l e) = x (ix3 0 ⟨k.val * 256 + l.val, by have : (i 2).val < 32 := (i 2).isLt; have := trip_lt i k; omega⟩ e) := by
  refine congrArg x (funext fun a => Fin.ext ?_)
  show (k0_off3 i k) a + 1 * ((ix3 0 l e : S1x256x128.Idx) a).val = _
  rw [off3]
  fin_cases a <;> simp

/-- The head's slope is the table's entry. -/
theorem slope_read (i : grid0.Coords) (x : FVec Ideal S8 .f32) : slope (F := Ideal) i x = x (ix1 (i 1)) := by
  refine congrArg x (funext fun a => Fin.ext ?_)
  show (k0_off1 i) a + 1 * 0 = _
  rw [off1]
  fin_cases a; simp

end Cert.Diff
-- ==== Proof.Mean.lean ====
module

public import proofs.«01_k».proof.Proof.Online
public import Idealize.ShloMosaic.Lib.Pointwise.Sums

/-! The attention row over the reals: the weighted mean of the values, its weights the exponentials of the scores of the
    visible keys. Both programs reach it. -/

@[expose] public section

noncomputable section

namespace Cert.Diff

open Idealize.ShloMosaic

/-- The scaled dot product of a query and a key. -/
def score (q k : Fin 64 → ℝ) : ℝ := (∑ d, q d * k d) * (1 / 8)

/-- The weight of a key for the query at position `p`: zero unless the key's chunk is not later than the query's. -/
def weight (q : Fin 64 → ℝ) (K : Fin 8192 → Fin 64 → ℝ) (σ : ℝ) (p : ℕ) (k : Fin 8192) : ℝ :=
  if k.val / 64 ≤ p / 64 then Real.exp (score q (K k) - σ * |(p : ℝ) - k.val|) else 0

/-- The weighted mean of the values. -/
def mean (q : Fin 64 → ℝ) (K : Fin 8192 → Fin 64 → ℝ) (V : Fin 8192 → ℝ) (σ : ℝ) (p : ℕ) : ℝ :=
  (∑ k, weight q K σ p k * V k) / ∑ k, weight q K σ p k

/-- A weight is not negative. -/
theorem weight_nonneg (q : Fin 64 → ℝ) (K : Fin 8192 → Fin 64 → ℝ) (σ : ℝ) (p : ℕ) (k : Fin 8192) : 0 ≤ weight q K σ p k := by
  unfold weight; split
  · exact (Real.exp_pos _).le
  · exact le_rfl

/-- The first key is visible to every query, so the weights have a positive sum. -/
theorem weight_sum_pos (q : Fin 64 → ℝ) (K : Fin 8192 → Fin 64 → ℝ) (σ : ℝ) (p : ℕ) : 0 < ∑ k, weight q K σ p k := by
  refine Finset.sum_pos' (fun k _ => weight_nonneg q K σ p k) ⟨0, Finset.mem_univ _, ?_⟩
  unfold weight
  rw [if_pos (by simp)]
  exact Real.exp_pos _

/-- A function of the keys summed over the key block `j`; zero past the last block. -/
def blockSum (f : Fin 8192 → ℝ) (j : ℕ) : ℝ := if h : j < 32 then ∑ l : Fin 256, f ⟨j * 256 + l.val, by omega⟩ else 0

/-- The block sum of a block that exists. -/
theorem blockSum_of_lt (f : Fin 8192 → ℝ) (j : ℕ) (h : j < 32) : blockSum f j = ∑ l : Fin 256, f ⟨j * 256 + l.val, by omega⟩ := dif_pos h

/-- If `f` vanishes on the blocks after block `b`, the blocks up to `b` hold its whole sum. -/
theorem sum_blocks (f : Fin 8192 → ℝ) (b : ℕ) (hb : b < 32) (h0 : ∀ k : Fin 8192, (b + 1) * 256 ≤ k.val → f k = 0) :
    blockSum f b + ∑ j ∈ Finset.range b, blockSum f j = ∑ k, f k := by
  rw [add_comm, ← Finset.sum_range_succ, Fin.sum_univ_tiles 32 256 rfl f, Finset.sum_subset (Finset.range_subset_range.2 (show b + 1 ≤ 32 from hb)), Finset.sum_range]
  · exact Finset.sum_congr rfl fun j _ => blockSum_of_lt f j j.isLt
  · intro j hj hj'
    rw [Finset.mem_range] at hj hj'
    rw [blockSum_of_lt f j hj]
    exact Finset.sum_eq_zero fun l _ => h0 _ (by show (b + 1) * 256 ≤ j * 256 + l.val; nlinarith)

/-- The pattern of one eighth. -/
theorem ofBits_eighth : Ideal.ofBits .f32 0x3E000000#32 = ((1 / 8 : ℝ) : EReal) := by
  simp [Ideal.ofBits, Ideal.ieee]
  rw [← EReal.coe_mul]
  norm_num

/-- A 128-lane product with one half of the query's lanes zero is the dot product over the other half. -/
theorem half_dot (m : ℕ) (hm : m < 2) (q k : Fin 128 → ℝ) :
    ∑ x : Fin 128, ((if x.val / 64 = m then ((q x : ℝ) : EReal) else 0) * Ideal.ofBits .f32 0x3E000000#32) * ((k x : ℝ) : EReal)
      = ((score (fun d => q ⟨64 * m + d.val, by omega⟩) (fun d => k ⟨64 * m + d.val, by omega⟩) : ℝ) : EReal) := by
  have e : ∀ x : Fin 128, ((if x.val / 64 = m then ((q x : ℝ) : EReal) else 0) * Ideal.ofBits .f32 0x3E000000#32) * ((k x : ℝ) : EReal)
      = ((if x.val / 64 = m then q x * k x * (1 / 8) else 0 : ℝ) : EReal) := fun x => by
    rw [ofBits_eighth]
    by_cases h : x.val / 64 = m
    · rw [if_pos h, if_pos h, ← EReal.coe_mul, ← EReal.coe_mul]; congr 1; ring
    · rw [if_neg h, if_neg h, zero_mul, zero_mul, EReal.coe_zero]
  rw [Finset.sum_congr rfl fun x _ => e x, sum_coe, Fin.sum_univ_tiles 2 64 rfl, score, Finset.sum_mul]
  congr 1
  rw [Finset.sum_eq_single (⟨m, hm⟩ : Fin 2)]
  · refine Finset.sum_congr rfl fun t _ => ?_
    rw [if_pos (by show (m * 64 + t.val) / 64 = m; omega)]
    have : (⟨m * 64 + t.val, by omega⟩ : Fin 128) = ⟨64 * m + t.val, by omega⟩ := Fin.ext (by show m * 64 + _ = 64 * m + _; omega)
    rw [this]
  · intro j _ hj
    refine Finset.sum_eq_zero fun t _ => if_neg ?_
    show ¬ (j.val * 64 + t.val) / 64 = m
    have : j.val ≠ m := fun h => hj (Fin.ext h)
    omega
  · exact fun h => absurd (Finset.mem_univ _) h

end Cert.Diff
-- ==== Proof.KRow.lean ====
module

public import proofs.«01_k».proof.Proof.KRead
public import proofs.«01_k».proof.Proof.Mean

/-! One row of the kernel's block: the folded state divides to the weighted mean of the values. -/

@[expose] public section

set_option maxRecDepth 16384

noncomputable section

namespace Cert.Diff

open Cert.KernelIdeal Cert.KernelIdeal.Gen
open Idealize.ShloMosaic Idealize.ShloMosaic.TcCoe

/-- The state after the diagonal block stands for that block's sums. -/
theorem start_good (sl : EReal) (qs : FVec Ideal S512x128 .bf16) (kb vb : FVec Ideal S1x256x128 .bf16) (r : Fin 512) (e : Fin 128)
    (z : Fin 256 → EReal) (v : Fin 256 → ℝ)
    (hz : ∀ l, k0_pay23 (F := Ideal) sl qs kernelRun0_A.sl.v33 kernelRun0_A.sl.v34 kernelRun0_A.sl.r_2 kb (ix2 r l) = z l)
    (hv : ∀ l, vb (ix3 0 l e) = ((v l : ℝ) : EReal)) (ht : ∀ l, z l ≠ ⊤) (hb : ∃ l, z l ≠ ⊥) :
    Good (∑ l, E (z l)) (∑ l, E (z l) * v l) ((start (F := Ideal) sl qs kb vb).1 (ix2 r 0)) ((start (F := Ideal) sl qs kb vb).2.1 (ix2 r 0))
      ((start (F := Ideal) sl qs kb vb).2.2 (ix2 r e)) := by
  pointwise [start, k0_pay17, k0_pay18, k0_pay19, k0_pay24, k0_pay25, k0_pay26, k0_pay27, k0_pay28, k0_pay29, k0_pay30, k0_pay31, k0_pay22, kernelRun0_A.sl.cst_41, hz, hv]
  rw [ofBits_ninf]
  exact Good.first z v ht hb

/-- A trip of the loop adds its block's sums. -/
theorem trip_good (i : grid0.Coords) (k : Fin (k0_t1_loop i).trips) (sl : EReal) (qs : FVec Ideal S512x128 .bf16) (kb vb : FVec Ideal S1x256x128 .bf16)
    (s : Rows Ideal) (r : Fin 512) (e : Fin 128) (z : Fin 256 → EReal) (v : Fin 256 → ℝ)
    (hz : ∀ l, k0_pay2 (F := Ideal) i (BitVec.ofNat 32 (i 2).val) sl qs kernelRun0_A.sl.v133 0#32 1#32 k kb (ix2 r l) = z l)
    (hv : ∀ l, vb (ix3 0 l e) = ((v l : ℝ) : EReal)) (ht : ∀ l, z l ≠ ⊤) {S T : ℝ} (h : Good S T (s.1 (ix2 r 0)) (s.2.1 (ix2 r 0)) (s.2.2 (ix2 r e))) :
    Good (S + ∑ l, E (z l)) (T + ∑ l, E (z l) * v l) ((trip i k sl qs kb vb s).1 (ix2 r 0)) ((trip i k sl qs kb vb s).2.1 (ix2 r 0))
      ((trip i k sl qs kb vb s).2.2 (ix2 r e)) := by
  pointwise [trip, k0_pay3, k0_pay4, k0_pay5, k0_pay6, k0_pay7, k0_pay8, k0_pay32, k0_pay33, hz, hv]
  rw [ofBits_ninf]
  exact Good.next z v ht h

section Row
variable (i : grid0.Coords) (q : S1x256x128.Idx → ℝ) (kx vx : S1x8192x128.Idx → ℝ) (σ : ℝ) (r : Fin 512) (e : Fin 128)

/-- The row's query. -/
def rowQ : Fin 64 → ℝ := fun d => q (ix3 0 ⟨r.val % 256, Nat.mod_lt _ (by norm_num)⟩ ⟨64 * (r.val / 256) + d.val, by omega⟩)

/-- The keys the row meets. -/
def rowK : Fin 8192 → Fin 64 → ℝ := fun k d => kx (ix3 0 k ⟨64 * (r.val / 256) + d.val, by omega⟩)

/-- The row's position in the sequence. -/
def rowPos : ℕ := (i 2).val * 256 + r.val % 256

/-- The row's dot products with the keys. -/
theorem dot_row (kb : FVec Ideal S1x256x128 .bf16) (l : Fin 256) (p : Fin 8192) (hk : ∀ x, kb (ix3 0 l x) = ((kx (ix3 0 p x) : ℝ) : EReal)) :
    ∑ x, k0_pay16 (F := Ideal) (fun j => ((q j : ℝ) : EReal)) (ix2 r x) * kb (ix3 0 l x) = ((score (rowQ q r) (rowK kx r p) : ℝ) : EReal) := by
  rw [Finset.sum_congr rfl fun x _ => by rw [qs_read, hk]]
  exact half_dot (r.val / 256) (by omega) (fun x => q (ix3 0 ⟨r.val % 256, Nat.mod_lt _ (by norm_num)⟩ x)) (fun x => kx (ix3 0 p x))

/-- The row's weights. -/
def rowW : Fin 8192 → ℝ := weight (rowQ q r) (rowK kx r) σ (rowPos i r)

/-- The score of the diagonal block's key `l`. -/
def zd (l : Fin 256) : EReal :=
  if l.val / 64 ≤ r.val % 256 / 64 then
    ((score (rowQ q r) (rowK kx r ⟨(i 2).val * 256 + l.val, by have : (i 2).val < 32 := (i 2).isLt; omega⟩) + σ * ((r.val % 256 : ℕ) - |((r.val % 256 : ℕ) : ℝ) - l.val|) : ℝ) : EReal)
  else ⊥

/-- No score of the diagonal block is plus infinity. -/
theorem zd_ne_top (l : Fin 256) : zd i q kx σ r l ≠ ⊤ := by
  unfold zd; split
  · exact EReal.coe_ne_top _
  · exact bot_ne_top

/-- The first key of the diagonal block is visible. -/
theorem zd_zero : zd i q kx σ r 0 ≠ ⊥ := by
  unfold zd; rw [if_pos (by simp)]; exact EReal.coe_ne_bot _

/-- The diagonal block's exponentials are the row's weights times one factor. -/
theorem E_zd (l : Fin 256) : E (zd i q kx σ r l)
    = Real.exp (σ * (r.val % 256 : ℕ)) * rowW i q kx σ r ⟨(i 2).val * 256 + l.val, by have : (i 2).val < 32 := (i 2).isLt; omega⟩ := by
  unfold zd rowW weight rowPos
  by_cases h : l.val / 64 ≤ r.val % 256 / 64
  · rw [if_pos h, if_pos (by show ((i 2).val * 256 + l.val) / 64 ≤ ((i 2).val * 256 + r.val % 256) / 64; omega), E_coe, ← Real.exp_add]
    congr 1
    push_cast
    rw [show ((i 2).val : ℝ) * 256 + ((r.val % 256 : ℕ) : ℝ) - ((i 2).val * 256 + (l.val : ℝ)) = ((r.val % 256 : ℕ) : ℝ) - l.val by ring]
    ring
  · rw [if_neg h, if_neg (by show ¬ ((i 2).val * 256 + l.val) / 64 ≤ ((i 2).val * 256 + r.val % 256) / 64; omega), E_bot, mul_zero]

/-- The score of key `l` of the earlier block `j`. -/
def zl (j : Fin 32) (l : Fin 256) : ℝ :=
  score (rowQ q r) (rowK kx r ⟨j.val * 256 + l.val, by omega⟩) + σ * ((l.val : ℝ) + ((j.val : ℝ) - (i 2).val) * 256)

/-- An earlier block's exponentials are the row's weights times the same factor. -/
theorem E_zl (j : Fin 32) (hj : j.val < (i 2).val) (l : Fin 256) : E ((zl i q kx σ r j l : ℝ) : EReal)
    = Real.exp (σ * (r.val % 256 : ℕ)) * rowW i q kx σ r ⟨j.val * 256 + l.val, by omega⟩ := by
  unfold zl rowW weight rowPos
  rw [if_pos (by show (j.val * 256 + l.val) / 64 ≤ ((i 2).val * 256 + r.val % 256) / 64; omega), E_coe, ← Real.exp_add]
  congr 1
  have h : (((j.val * 256 + l.val : ℕ)) : ℝ) ≤ (((i 2).val * 256 + r.val % 256 : ℕ) : ℝ) := by exact_mod_cast (by omega)
  rw [abs_of_nonneg (by linarith)]
  push_cast
  ring

/-- One factor times a block's weights, summed. -/
theorem block_sums (f g : Fin 256 → ℝ) (w V : Fin 8192 → ℝ) (c : ℝ) (j : ℕ) (hj : j < 32) (h : ∀ l : Fin 256, f l = c * w ⟨j * 256 + l.val, by omega⟩)
    (hg : ∀ l : Fin 256, g l = V ⟨j * 256 + l.val, by omega⟩) :
    ∑ l, f l = c * blockSum w j ∧ ∑ l, f l * g l = c * blockSum (fun k => w k * V k) j := by
  rw [blockSum_of_lt _ j hj, blockSum_of_lt _ j hj, Finset.mul_sum, Finset.mul_sum]
  exact ⟨Finset.sum_congr rfl fun l _ => h l, Finset.sum_congr rfl fun l _ => by rw [h, hg, mul_assoc]⟩

/-- After `n` trips the state stands for the diagonal block and the first `n` blocks. -/
theorem walk_good (n : ℕ) (hn : n ≤ (i 2).val) :
    let X : ∀ {s : Shape}, (s.Idx → ℝ) → FVec Ideal s .bf16 := fun f j => ((f j : ℝ) : EReal)
    let c := Real.exp (σ * (r.val % 256 : ℕ))
    let w := rowW i q kx σ r
    let V : Fin 8192 → ℝ := fun k => vx (ix3 0 k e)
    let st := walk (F := Ideal) i ((σ : ℝ) : EReal) (k0_pay16 (X q)) (X kx) (X vx) (start ((σ : ℝ) : EReal) (k0_pay16 (X q)) (diagonal i (X kx)) (diagonal i (X vx))) n
    Good (c * (blockSum w (i 2).val + ∑ j ∈ Finset.range n, blockSum w j))
      (c * (blockSum (fun k => w k * V k) (i 2).val + ∑ j ∈ Finset.range n, blockSum (fun k => w k * V k) j))
      (st.1 (ix2 r 0)) (st.2.1 (ix2 r 0)) (st.2.2 (ix2 r e)) := by
  intro X c w V
  have hi : (i 2).val < 32 := (i 2).isLt
  induction n with
  | zero =>
    have hb := block_sums (fun l => E (zd i q kx σ r l)) (fun l => vx (ix3 0 ⟨(i 2).val * 256 + l.val, by omega⟩ e)) w V c (i 2).val hi (E_zd i q kx σ r) fun _ => rfl
    rw [Finset.range_zero, Finset.sum_empty, Finset.sum_empty, add_zero, add_zero, ← hb.1, ← hb.2]
    refine start_good _ _ _ _ r e (zd i q kx σ r) _ (fun l => ?_) (fun l => ?_) (zd_ne_top i q kx σ r) ⟨0, zd_zero i q kx σ r⟩
    · rw [zdiag_read, dot_row q kx r _ l ⟨(i 2).val * 256 + l.val, by omega⟩ fun x => diagonal_read i _ l x]
      unfold zd
      rw [EReal.coe_add, EReal.coe_mul]
    · exact diagonal_read i _ l e
  | succ n ih =>
    have hlt : n < (k0_t1_loop i).trips := by rw [trips_eq]; omega
    have hn32 : n < 32 := by omega
    have hb := block_sums (fun l => E ((zl i q kx σ r ⟨n, hn32⟩ l : ℝ) : EReal)) (fun l => vx (ix3 0 ⟨n * 256 + l.val, by omega⟩ e)) w V c n hn32
      (E_zl i q kx σ r ⟨n, hn32⟩ (by show n < (i 2).val; omega)) fun _ => rfl
    rw [Finset.sum_range_succ, Finset.sum_range_succ, ← add_assoc, ← add_assoc, mul_add, mul_add c (_ + _), ← hb.1, ← hb.2]
    intro st
    simp only [st, walk, dif_pos hlt]
    refine trip_good i ⟨n, hlt⟩ _ _ _ _ _ r e (fun l => ((zl i q kx σ r ⟨n, hn32⟩ l : ℝ) : EReal)) _ (fun l => ?_) (fun l => ?_) (fun l => EReal.coe_ne_top _) (ih (by omega))
    · rw [zloop_read, dot_row q kx r _ l ⟨n * 256 + l.val, by omega⟩ fun x => trunk_read i ⟨n, hlt⟩ _ l x]
      show _ = ((zl i q kx σ r ⟨n, hn32⟩ l : ℝ) : EReal)
      unfold zl
      rw [← EReal.coe_mul, ← EReal.coe_add]
    · exact trunk_read i ⟨n, hlt⟩ _ l e

/-- The kernel's quotient is the row's weighted mean of the values. -/
theorem last_row (x0 : FVec Ideal S8 .f32) (h0 : x0 (ix1 (i 1)) = ((σ : ℝ) : EReal)) :
    let X : ∀ {s : Shape}, (s.Idx → ℝ) → FVec Ideal s .bf16 := fun f j => ((f j : ℝ) : EReal)
    Ideal.div ((last (F := Ideal) i x0 (X q) (X kx) (X vx)).2.2 (ix2 r e)) ((last (F := Ideal) i x0 (X q) (X kx) (X vx)).2.1 (ix2 r 0))
      = ((mean (rowQ q r) (rowK kx r) (fun k => vx (ix3 0 k e)) σ (rowPos i r) : ℝ) : EReal) := by
  intro X
  have hi : (i 2).val < 32 := (i 2).isLt
  have hw : ∀ k : Fin 8192, ((i 2).val + 1) * 256 ≤ k.val → rowW i q kx σ r k = 0 := fun k hk => by
    unfold rowW weight rowPos
    rw [if_neg (by omega)]
  have g := walk_good i q kx vx σ r e (i 2).val le_rfl
  dsimp only at g
  rw [sum_blocks _ _ hi hw, sum_blocks _ _ hi fun k hk => by rw [hw k hk, zero_mul]] at g
  have hc : 0 < Real.exp (σ * (r.val % 256 : ℕ)) := Real.exp_pos _
  have hp : 0 < ∑ k, rowW i q kx σ r k := weight_sum_pos _ _ _ _
  unfold last
  rw [slope_read, h0, trips_eq, g.quot (mul_pos hc hp), mul_div_mul_left _ _ hc.ne']
  rfl

end Row

end Cert.Diff
-- ==== Proof.Spec.lean ====
module

public import proofs.«01_k».proof.Proof.Mean

/-! The value both programs compute, over the six arguments. -/

@[expose] public section

noncomputable section

namespace Cert.Diff

open Idealize.ShloMosaic

/-- The weight of the second softmax, from the four lambda rows. -/
def lamv (a b c d : (⟨2, ![1, 64]⟩ : Shape).Idx → EReal) : EReal :=
  Ideal.exp (∑ x : Fin 64, a (ix2 0 x) * b (ix2 0 x)) - Ideal.exp (∑ x : Fin 64, c (ix2 0 x) * d (ix2 0 x)) + Ideal.ofBits .f32 0x3EB60549#32

/-- The slope of a head. -/
def slopev (h : Fin 8) : EReal :=
  Ideal.exp (Ideal.ofBits .f32 0x3F317218#32 * (Ideal.ofBits .f32 0xBF800000#32 * (FloatOps.sitofp (F := Ideal) FTy.f32 (BitVec.ofNat 32 h.val) + 1)))

section
variable (X : (⟨3, ![4, 8192, 3072]⟩ : Shape).Idx → ℝ) (σ : Fin 8 → ℝ) (L : ℝ) (b : Fin 4) (h : Fin 8)

/-- The query of a position, in one half of a head. -/
def qrow (p : Fin 2) (s : Fin 8192) : Fin 64 → ℝ := fun d => X (ix3 b s ⟨h.val * 128 + p.val * 64 + d.val, by omega⟩)

/-- The keys of one half of a head. -/
def krow (p : Fin 2) : Fin 8192 → Fin 64 → ℝ := fun k d => X (ix3 b k ⟨1024 + (h.val * 128 + p.val * 64 + d.val), by omega⟩)

/-- One column of a head's values. -/
def vcol (e : Fin 128) : Fin 8192 → ℝ := fun k => X (ix3 b k ⟨2048 + (h.val * 128 + e.val), by omega⟩)

/-- One softmax's weighted mean of the values. -/
def part (p : Fin 2) (s : Fin 8192) (e : Fin 128) : ℝ := mean (qrow X b h p s) (krow X b h p) (vcol X b h e) (σ h) s.val

/-- The difference of the two. -/
def both (s : Fin 8192) (e : Fin 128) : ℝ := part X σ b h 0 s e - L * part X σ b h 1 s e

end

/-- The norm over a head's columns, the gain and the last scale. -/
def norm (o : Fin 128 → EReal) (g : EReal) (e : Fin 128) : EReal :=
  o e * Ideal.rsqrt (Ideal.div (∑ x, o x * o x) (Ideal.ofBits .f32 0x43000000#32) + Ideal.ofBits .f32 0x3727C5AC#32) * g * Ideal.ofBits .f32 0x3F24FD5C#32

/-- The result at an index. -/
def value (X : (⟨3, ![4, 8192, 3072]⟩ : Shape).Idx → ℝ) (σ : Fin 8 → ℝ) (L : ℝ) (g : (⟨2, ![1, 128]⟩ : Shape).Idx → EReal) (b : Fin 4) (s : Fin 8192) (c : Fin 1024) : EReal :=
  norm (fun x => ((both X σ L b ⟨c.val / 128, by omega⟩ s x : ℝ) : EReal)) (g (ix2 0 ⟨c.val % 128, by omega⟩)) ⟨c.val % 128, by omega⟩

end Cert.Diff
-- ==== Proof.KPoint.lean ====
module

public import proofs.«01_k».proof.Proof.KRow
public import proofs.«01_k».proof.Proof.Spec

/-! What one grid point of the kernel leaves in its output block. -/

@[expose] public section

set_option maxRecDepth 16384

noncomputable section

namespace Cert.Diff

open Cert.KernelIdeal Cert.KernelIdeal.Gen
open Idealize.ShloMosaic Idealize.ShloMosaic.TcCoe

/-- The block's last expression at an index, from the quotients of the two stacked rows and the lambda rows. -/
theorem tail_read (a : FVec Ideal S512x128 .f32) (l : FVec Ideal S512x1 .f32) (x4 : FVec Ideal S4x64 .f32) (x5 : FVec Ideal S1x128 .f32) (r : Fin 256) (e : Fin 128) (o : Fin 2 → Fin 128 → EReal)
    (lm : EReal) (h0 : ∀ x, Ideal.div (a (ix2 ⟨r.val, by omega⟩ x)) (l (ix2 ⟨r.val, by omega⟩ 0)) = o 0 x)
    (h1 : ∀ x, Ideal.div (a (ix2 ⟨256 + r.val, by omega⟩ x)) (l (ix2 ⟨256 + r.val, by omega⟩ 0)) = o 1 x)
    (hl : Ideal.exp (∑ x : Fin 64, x4 (ix2 0 x) * x4 (ix2 1 x)) - Ideal.exp (∑ x : Fin 64, x4 (ix2 2 x) * x4 (ix2 3 x)) + Ideal.ofBits .f32 0x3EB60549#32 = lm) :
    k0_pay1 (F := Ideal) (k0_pay37 a l) (k0_pay38 a l) (k0_pay39 x4) x5 (ix3 0 r e) = norm (fun x => o 0 x - lm * o 1 x) (x5 (ix2 0 e)) e := by
  pointwise [k0_pay1, k0_pay37, k0_pay38, k0_pay36, k0_pay39]
  simp only [h0, h1, hl, norm]

section Point
variable (i : grid0.Coords) (X : (⟨3, ![4, 8192, 3072]⟩ : Shape).Idx → ℝ) (σ : Fin 8 → ℝ) (b : Fin 4) (h : Fin 8)

/-- The queries of a block. -/
def blkQ : S1x256x128.Idx → ℝ := fun j => X (ix3 b ⟨(i 2).val * 256 + (j 1).val, by have := (i 2).isLt; have := (j 1).isLt; simp at *; omega⟩ ⟨h.val * 128 + (j 2).val, by have := (j 2).isLt; simp at *; omega⟩)

/-- The keys of a head. -/
def blkK : S1x8192x128.Idx → ℝ := fun j => X (ix3 b ⟨(j 1).val, by have := (j 1).isLt; simp at *; omega⟩ ⟨1024 + (h.val * 128 + (j 2).val), by have := (j 2).isLt; simp at *; omega⟩)

/-- The values of a head. -/
def blkV : S1x8192x128.Idx → ℝ := fun j => X (ix3 b ⟨(j 1).val, by have := (j 1).isLt; simp at *; omega⟩ ⟨2048 + (h.val * 128 + (j 2).val), by have := (j 2).isLt; simp at *; omega⟩)

/-- The query block, entry by entry. -/
theorem blkQ_at (r : Fin 256) (l : Fin 128) : blkQ i X b h (ix3 0 r l) = X (ix3 b ⟨(i 2).val * 256 + r.val, by have := (i 2).isLt; simp at *; omega⟩ ⟨h.val * 128 + l.val, by omega⟩) := rfl

/-- The keys of a head, entry by entry. -/
theorem blkK_at (r : Fin 8192) (l : Fin 128) : blkK X b h (ix3 0 r l) = X (ix3 b r ⟨1024 + (h.val * 128 + l.val), by omega⟩) := rfl

/-- The values of a head, entry by entry. -/
theorem blkV_at (r : Fin 8192) (l : Fin 128) : blkV X b h (ix3 0 r l) = X (ix3 b r ⟨2048 + (h.val * 128 + l.val), by omega⟩) := rfl

/-- A stacked row's mean is one of the two softmaxes' means at the row's position. -/
theorem mean_part (p : Fin 2) (r : Fin 256) (e : Fin 128) (R : Fin 512) (hR : R.val = p.val * 256 + r.val) :
    mean (rowQ (blkQ i X b h) R) (rowK (blkK X b h) R) (fun k => blkV X b h (ix3 0 k e)) (σ h) (rowPos i R)
      = part X σ b h p ⟨(i 2).val * 256 + r.val, by have := (i 2).isLt; simp at *; omega⟩ e := by
  have h1 : R.val % 256 = r.val := by omega
  have h2 : R.val / 256 = p.val := by omega
  have eq : rowQ (blkQ i X b h) R = qrow X b h p ⟨(i 2).val * 256 + r.val, by have := (i 2).isLt; simp at *; omega⟩ := by
    funext d
    refine congrArg X ?_
    show ix3 b _ _ = ix3 b _ _
    congr 1
    · exact Fin.ext (by show (i 2).val * 256 + R.val % 256 = (i 2).val * 256 + r.val; omega)
    · exact Fin.ext (by show h.val * 128 + (64 * (R.val / 256) + d.val) = h.val * 128 + p.val * 64 + d.val; omega)
  have ek : rowK (blkK X b h) R = krow X b h p := by
    funext k d
    refine congrArg X ?_
    show ix3 b _ _ = ix3 b _ _
    congr 1
    exact Fin.ext (by show 1024 + (h.val * 128 + (64 * (R.val / 256) + d.val)) = 1024 + (h.val * 128 + p.val * 64 + d.val); omega)
  rw [eq, ek, part]
  have ep : rowPos i R = (i 2).val * 256 + r.val := by unfold rowPos; rw [h1]
  rw [ep]
  rfl

/-- A grid point's block, at an index. -/
theorem point_read (L : ℝ) (x0 : FVec Ideal S8 .f32) (x1 : FVec Ideal S1x256x128 .bf16) (x2 x3 : FVec Ideal S1x8192x128 .bf16) (x4 : FVec Ideal S4x64 .f32) (x5 : FVec Ideal S1x128 .f32)
    (h0 : x0 (ix1 (i 1)) = ((σ h : ℝ) : EReal)) (h1 : x1 = fun j => ((blkQ i X b h j : ℝ) : EReal)) (h2 : x2 = fun j => ((blkK X b h j : ℝ) : EReal)) (h3 : x3 = fun j => ((blkV X b h j : ℝ) : EReal))
    (h4 : Ideal.exp (∑ x : Fin 64, x4 (ix2 0 x) * x4 (ix2 1 x)) - Ideal.exp (∑ x : Fin 64, x4 (ix2 2 x) * x4 (ix2 3 x)) + Ideal.ofBits .f32 0x3EB60549#32 = ((L : ℝ) : EReal))
    (r : Fin 256) (e : Fin 128) :
    k0_pay1 (F := Ideal) (k0_pay37 (last (F := Ideal) i x0 x1 x2 x3).2.2 (last (F := Ideal) i x0 x1 x2 x3).2.1) (k0_pay38 (last (F := Ideal) i x0 x1 x2 x3).2.2 (last (F := Ideal) i x0 x1 x2 x3).2.1) (k0_pay39 x4) x5 (ix3 0 r e)
      = norm (fun x => ((both X σ L b h ⟨(i 2).val * 256 + r.val, by have := (i 2).isLt; simp at *; omega⟩ x : ℝ) : EReal)) (x5 (ix2 0 e)) e := by
  subst h1 h2 h3
  rw [tail_read _ _ x4 x5 r e (fun p x => ((part X σ b h p ⟨(i 2).val * 256 + r.val, by have := (i 2).isLt; simp at *; omega⟩ x : ℝ) : EReal)) _ (fun x => ?_) (fun x => ?_) h4]
  · simp only [← EReal.coe_mul, ← EReal.coe_sub, both]
  · exact (last_row i _ _ _ _ _ x x0 h0).trans (congrArg _ (mean_part i X σ b h 0 r x _ (by simp)))
  · exact (last_row i _ _ _ _ _ x x0 h0).trans (congrArg _ (mean_part i X σ b h 1 r x _ (by simp)))

end Point

end Cert.Diff
-- ==== Proof.KValue.lean ====
module

public import proofs.«01_k».proof.Proof.KPoint
public import proofs.«01_k».proof.Proof.Gen.KernelIdeal.Value
public import Idealize.ShloMosaic.Lib.Pipeline.ValueKit
public import Idealize.ShloMosaic.Lib.Claim

/-! The kernel's output array. -/

@[expose] public section

set_option maxRecDepth 16384

noncomputable section

namespace Cert.Diff

open Cert.KernelIdeal Cert.KernelIdeal.Gen Cert.KernelIdeal.Value
open Idealize.ShloMosaic Idealize.ShloMosaic.TcCoe Idealize.SL.Sem

/-- The windows' block indices at a grid point. -/
theorem idx : ∀ t : Fin cfg0.N, win0_1.index t = ![(grid0.coords t 0).val, (grid0.coords t 2).val, (grid0.coords t 1).val]
    ∧ win0_2.index t = ![(grid0.coords t 0).val, 0, 8 + (grid0.coords t 1).val] ∧ win0_3.index t = ![(grid0.coords t 0).val, 0, 16 + (grid0.coords t 1).val]
    ∧ win0_0.index t = ![0] ∧ win0_4.index t = ![0, 0] ∧ win0_5.index t = ![0, 0]
    ∧ win0_6.index t = ![(grid0.coords t 0).val, (grid0.coords t 2).val, (grid0.coords t 1).val] :=
  (by decide +kernel : ∀ t : Fin grid0.N, _)

/-- The four lambda rows, one under the other. -/
def stack {F : FTy → Type} [FloatOps F] (p q r s : FVec F S1x64 .f32) : FVec F S4x64 .f32 :=
  concatenate S4x64 0 [⟨S1x64, broadcastInDim S1x64 ![1] bcast_S64_S1x64_1 (shapeCast S64 p shapeCasts_S1x64_S64)⟩, ⟨S1x64, broadcastInDim S1x64 ![1] bcast_S64_S1x64_1 (shapeCast S64 q shapeCasts_S1x64_S64)⟩,
    ⟨S1x64, broadcastInDim S1x64 ![1] bcast_S64_S1x64_1 (shapeCast S64 r shapeCasts_S1x64_S64)⟩, ⟨S1x64, broadcastInDim S1x64 ![1] bcast_S64_S1x64_1 (shapeCast S64 s shapeCasts_S1x64_S64)⟩]
    concatenates_S1x64_S1x64_S1x64_S1x64_S4x64_d0

/-- The stacked rows, row by row. -/
theorem stack_read (p q r s : FVec Ideal S1x64 .f32) (x : Fin 64) :
    stack p q r s (ix2 0 x) = p (ix2 0 x) ∧ stack p q r s (ix2 1 x) = q (ix2 0 x) ∧ stack p q r s (ix2 2 x) = r (ix2 0 x) ∧ stack p q r s (ix2 3 x) = s (ix2 0 x) := by
  refine ⟨?_, ?_, ?_, ?_⟩ <;> pointwise [stack]

section
variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The head of a grid point. -/
def cH : Fin 8 := ⟨(grid0.coords t 1).val, (grid0.coords t 1).isLt⟩
/-- The positions of a grid point. -/
def cS (r : Fin 256) : Fin 8192 := ⟨(grid0.coords t 2).val * 256 + r.val, by have := (grid0.coords t 2).isLt; simp at *; omega⟩

/-- The table of slopes. -/
def in0 : FVec Ideal S8 .f32 := iblk m c 0 t
/-- The query block of a grid point. -/
def in1 : FVec Ideal S1x256x128 .bf16 := iblk m c 1 t
/-- The keys of a grid point. -/
def in2 : FVec Ideal S1x8192x128 .bf16 := iblk m c 2 t
/-- The values of a grid point. -/
def in3 : FVec Ideal S1x8192x128 .bf16 := iblk m c 3 t
/-- The lambda rows. -/
def in4 : FVec Ideal S4x64 .f32 := iblk m c 4 t
/-- The gain. -/
def in5 : FVec Ideal S1x128 .f32 := iblk m c 5 t

/-- The slopes. -/
theorem in0_read (h : Fin 8) : in0 m c t (ix1 h) = slopev h := by
  show (show FVec Ideal S8 .f32 from iblk m c 0 t) (ix1 h) = slopev h
  blk_simp [iblk]
  entry_read
  pointwise [slopev]
  have e : (((View.whole main_v17).slice (win0_0.rect t)).emb (ix1 h) 0).val = h.val := by
    blk_simp [idx t]
  rw [e]

/-- The queries. -/
theorem in1_read (r : Fin 256) (l : Fin 128) : in1 m c t (ix3 0 r l)
    = m ((c : Thread nD τ).loc main_arg0) (ix3 (cB t) (cS t r)
      ⟨(cH t).val * 128 + l.val, by omega⟩) := by
  show (show FVec Ideal S1x256x128 .bf16 from iblk m c 1 t) (ix3 0 r l) = _
  blk_ext [iblk, V, idx t, cB, cH, cS]

/-- The keys. -/
theorem in2_read (r : Fin 8192) (l : Fin 128) : in2 m c t (ix3 0 r l)
    = m ((c : Thread nD τ).loc main_arg0) (ix3 (cB t) r
      ⟨1024 + ((cH t).val * 128 + l.val), by omega⟩) := by
  show (show FVec Ideal S1x8192x128 .bf16 from iblk m c 2 t) (ix3 0 r l) = _
  blk_ext [iblk, V, idx t, cB, cH, cS]

/-- The values. -/
theorem in3_read (r : Fin 8192) (l : Fin 128) : in3 m c t (ix3 0 r l)
    = m ((c : Thread nD τ).loc main_arg0) (ix3 (cB t) r
      ⟨2048 + ((cH t).val * 128 + l.val), by omega⟩) := by
  show (show FVec Ideal S1x8192x128 .bf16 from iblk m c 3 t) (ix3 0 r l) = _
  blk_ext [iblk, V, idx t, cB, cH, cS]

/-- The stacked lambda rows are the host's concatenation. -/
theorem rows_eq : V m c main_v8 = stack (F := Ideal) (m ((c : Thread nD τ).loc main_arg1)) (m ((c : Thread nD τ).loc main_arg2)) (m ((c : Thread nD τ).loc main_arg3)) (m ((c : Thread nD τ).loc main_arg4)) := by
  rfl

/-- The lambda rows. -/
theorem in4_read (r : Fin 4) (x : Fin 64) : in4 m c t (ix2 r x)
    = stack (F := Ideal) (m ((c : Thread nD τ).loc main_arg1)) (m ((c : Thread nD τ).loc main_arg2)) (m ((c : Thread nD τ).loc main_arg3)) (m ((c : Thread nD τ).loc main_arg4)) (ix2 r x) := by
  rw [← rows_eq]
  show (show FVec Ideal S4x64 .f32 from iblk m c 4 t) (ix2 r x) = (show FVec Ideal S4x64 .f32 from V m c main_v8) (ix2 r x)
  blk_ext [iblk, idx t]

/-- The gain. -/
theorem in5_read (x : Fin 128) : in5 m c t (ix2 0 x) = m ((c : Thread nD τ).loc main_arg5) (ix2 0 x) := by
  show (show FVec Ideal S1x128 .f32 from iblk m c 5 t) (ix2 0 x) = _
  blk_simp [iblk]
  entry_read
  pointwise
  blk_ext [idx t]

/-- The lambda weight from the stacked rows. -/
theorem lam_rows : Ideal.exp (∑ x : Fin 64, in4 m c t (ix2 0 x) * in4 m c t (ix2 1 x)) - Ideal.exp (∑ x : Fin 64, in4 m c t (ix2 2 x) * in4 m c t (ix2 3 x)) + Ideal.ofBits .f32 0x3EB60549#32
    = lamv (m ((c : Thread nD τ).loc main_arg1)) (m ((c : Thread nD τ).loc main_arg2)) (m ((c : Thread nD τ).loc main_arg3)) (m ((c : Thread nD τ).loc main_arg4)) := by
  have e := fun x => stack_read (m ((c : Thread nD τ).loc main_arg1)) (m ((c : Thread nD τ).loc main_arg2)) (m ((c : Thread nD τ).loc main_arg3)) (m ((c : Thread nD τ).loc main_arg4)) x
  simp only [in4_read, (e _).1, (e _).2.1, (e _).2.2.1, (e _).2.2.2, lamv]

end

section
variable (m : (ℓ : Loc nD τ sig) → Buf (Elt Ideal) ℓ) (c : Dev nD) (X : S4x8192x3072.Idx → ℝ) (hX : ∀ j, m ((c : Thread nD τ).loc main_arg0) j = ((X j : ℝ) : EReal))
    (σ : Fin 8 → ℝ) (hσ : ∀ h, slopev h = ((σ h : ℝ) : EReal)) (L : ℝ)
    (hL : lamv (m ((c : Thread nD τ).loc main_arg1)) (m ((c : Thread nD τ).loc main_arg2)) (m ((c : Thread nD τ).loc main_arg3)) (m ((c : Thread nD τ).loc main_arg4)) = ((L : ℝ) : EReal))
include hX hσ hL

/-- A grid point's block over the input blocks, at an index. -/
theorem point_at (t : Fin cfg0.N) (r : Fin 256) (e : Fin 128) :
    k0_pay1 (F := Ideal) (k0_pay37 (last (F := Ideal) (grid0.coords t) (in0 m c t) (in1 m c t) (in2 m c t) (in3 m c t)).2.2 (last (F := Ideal) (grid0.coords t) (in0 m c t) (in1 m c t) (in2 m c t) (in3 m c t)).2.1)
        (k0_pay38 (last (F := Ideal) (grid0.coords t) (in0 m c t) (in1 m c t) (in2 m c t) (in3 m c t)).2.2 (last (F := Ideal) (grid0.coords t) (in0 m c t) (in1 m c t) (in2 m c t) (in3 m c t)).2.1)
        (k0_pay39 (in4 m c t)) (in5 m c t) (ix3 0 r e)
      = value X σ L (m ((c : Thread nD τ).loc main_arg5)) (cB t)
          (cS t r) ⟨(cH t).val * 128 + e.val, by omega⟩ := by
  have h0 : in0 m c t (ix1 (grid0.coords t 1)) = ((σ (cH t) : ℝ) : EReal) := (in0_read m c t _).trans (hσ _)
  have h1 : in1 m c t = fun j => ((blkQ (grid0.coords t) X (cB t) (cH t) j : ℝ) : EReal) := by
    funext j
    idx_vars j
    obtain rfl : j0 = 0 := Subsingleton.elim _ _
    rw [in1_read, hX, blkQ_at]
    rfl
  have h2 : in2 m c t = fun j => ((blkK X (cB t) (cH t) j : ℝ) : EReal) := by
    funext j
    idx_vars j
    obtain rfl : j0 = 0 := Subsingleton.elim _ _
    rw [in2_read, hX, blkK_at]
  have h3 : in3 m c t = fun j => ((blkV X (cB t) (cH t) j : ℝ) : EReal) := by
    funext j
    idx_vars j
    obtain rfl : j0 = 0 := Subsingleton.elim _ _
    rw [in3_read, hX, blkV_at]
  refine (point_read (grid0.coords t) X σ _ _ L _ _ _ _ _ _ h0 h1 h2 h3 ((lam_rows m c t).trans hL) r e).trans ?_
  rw [in5_read, value]
  have q1 : ((cH t).val * 128 + e.val) / 128 = (cH t).val := by omega
  have q2 : ((cH t).val * 128 + e.val) % 128 = e.val := by omega
  simp only [q1, q2]
  rfl

/-- The kernel's output array is the common value of the arguments. -/
theorem final : (dats m 0 c).arrAt 6 cfg0.N = fun j : S4x8192x1024.Idx => value X σ L (m ((c : Thread nD τ).loc main_arg5)) (j 0) (j 1) (j 2) := by
  refine (dats m 0 c).arrAt_eq_of_covers 6 _ (by decide +kernel) fun t hf y => ?_
  have e := congrFun (flushed6_A m c t) y
  rw [block] at e
  refine (show _ = _ from e).trans ?_
  blk_simp
  idx_vars y
  obtain rfl : y0 = 0 := Subsingleton.elim _ _
  refine (show _ = _ from point_at m c X hX σ hσ L hL t y1 y2).trans ?_
  have e0 : ((View.whole main_v19).slice (win0_6.rect t)).emb (ix3 0 y1 y2) = ix3 (cB t) (cS t y1) ⟨(cH t).val * 128 + y2.val, by omega⟩ := by
    blk_ext [idx t, cB, cS, cH]
  rw [e0]
  rfl

end

end Cert.Diff
-- ==== Proof.Ref.lean ====
module

public import proofs.«01_k».proof.Proof.Gen.ReferenceIdeal.Run
public import proofs.«01_k».proof.Proof.Mean
public import proofs.«01_k».proof.Proof.Words
public import Idealize.ShloMosaic.Lib.Pointwise

/-! The reference's value in stages, each stage read at an index. -/

@[expose] public section

set_option maxRecDepth 16384

noncomputable section

namespace Cert.Diff.Ref

open Cert.ReferenceIdeal Cert.ReferenceIdeal.Gen Cert.ReferenceIdeal.Value
open Idealize.ShloMosaic Idealize.ShloMosaic.TcCoe

variable {F : FTy → Type} [FloatOps F]

/-- Queries, by batch, head, half, position, lane. -/
def qh (x : FVec F S4x8192x3072 .bf16) : FVec F S4x8x2x8192x64 .f32 :=
  transpose S4x8x2x8192x64 [0, 2, 3, 1, 4] (shapeCast S4x8192x8x2x64 (extractStridedSlice S4x8192x1024 ![0, 0, 0] (extf .f32 x bitsLt_bf16_f32)
    slices_S4x8192x3072_S4x8192x1024_0_0_0) shapeCasts_S4x8192x1024_S4x8192x8x2x64) transposes_S4x8192x8x2x64_S4x8x2x8192x64_0_2_3_1_4

/-- Keys, likewise. -/
def kh (x : FVec F S4x8192x3072 .bf16) : FVec F S4x8x2x8192x64 .f32 :=
  transpose S4x8x2x8192x64 [0, 2, 3, 1, 4] (shapeCast S4x8192x8x2x64 (extractStridedSlice S4x8192x1024 ![0, 0, 1024] (extf .f32 x bitsLt_bf16_f32)
    slices_S4x8192x3072_S4x8192x1024_0_0_1024) shapeCasts_S4x8192x1024_S4x8192x8x2x64) transposes_S4x8192x8x2x64_S4x8x2x8192x64_0_2_3_1_4

/-- Values, by batch, head, position, lane. -/
def vh (x : FVec F S4x8192x3072 .bf16) : FVec F S4x8x8192x128 .f32 :=
  transpose S4x8x8192x128 [0, 2, 1, 3] (shapeCast S4x8192x8x128 (extractStridedSlice S4x8192x1024 ![0, 0, 2048] (extf .f32 x bitsLt_bf16_f32)
    slices_S4x8192x3072_S4x8192x1024_0_0_2048) shapeCasts_S4x8192x1024_S4x8192x8x128) transposes_S4x8192x8x128_S4x8x8192x128_0_2_1_3

/-- The exponential of the product of two rows. -/
def edot (a b : FVec F S1x64 .f32) : FVec F S_ .f32 :=
  Host.exp (Host.reduceAdd (mulf (shapeCast S64 a shapeCasts_S1x64_S64) (shapeCast S64 b shapeCasts_S1x64_S64)) (constant S_ .f32 0x00000000#32) reducesTo_S64_S_d0 h_S_)

/-- The weight of the second softmax. -/
def lam (a b c d : FVec F S1x64 .f32) : FVec F S_ .f32 := addf (subf (edot a b) (edot c d)) (constant S_ .f32 0x3EB60549#32)

/-- The slope of each head. -/
def slopes : FVec F S8 .f32 :=
  Host.exp (mulf (broadcastInDim S8 ![] bcast_S_S8 (constant S_ .f32 0x3F317218#32)) (mulf (broadcastInDim S8 ![] bcast_S_S8 (constant S_ .f32 0xBF800000#32))
    (addf (sitofp .f32 (iotaInDim S8 32 0)) (broadcastInDim S8 ![] bcast_S_S8 (constant S_ .f32 0x3F800000#32)))))

/-- The chunk of each position. -/
def chunk : Vec F S8192 .i32 :=
  let n : Vec F S8192 .i32 := iotaInDim S8192 32 0
  let w : Vec F S8192 .i32 := broadcastInDim S8192 ![] bcast_S_S8192 (id (constantI S_ 32 64#32))
  select (andi (cmpi .ne (signi n) (broadcastInDim S8192 ![] bcast_S_S8192 (signi (id (constantI S_ 32 64#32)))))
      (cmpi .ne (Host.remsi n w) (broadcastInDim S8192 ![] bcast_S_S8192 (constantI S_ 32 0#32))))
    (subi (Host.divsi n w) (broadcastInDim S8192 ![] bcast_S_S8192 (constantI S_ 32 1#32))) (Host.divsi n w)

/-- Which keys each query sees. -/
def mask : Vec F S8192x8192 .i1 :=
  cmpi .sle (broadcastInDim S8192x8192 ![0, 1] bcast_S1x8192_S8192x8192_0_1 (broadcastInDim S1x8192 ![1] bcast_S8192_S1x8192_1 (chunk (F := F))))
    (broadcastInDim S8192x8192 ![0, 1] bcast_S8192x1_S8192x8192_0_1 (broadcastInDim S8192x1 ![0] bcast_S8192_S8192x1_0 (chunk (F := F))))

/-- The distance of each query and key. -/
def dist : FVec F S8192x8192 .f32 :=
  sitofp .f32 (absi (subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))))

/-- The slope times the distance. -/
def bias : FVec F S8x1x8192x8192 .f32 :=
  mulf (broadcastInDim S8x1x8192x8192 ![0, 1, 2, 3] bcast_S8x1x1x1_S8x1x8192x8192_0_1_2_3 (broadcastInDim S8x1x1x1 ![0] bcast_S8_S8x1x1x1_0 slopes))
    (broadcastInDim S8x1x8192x8192 ![0, 1, 2, 3] bcast_S1x1x8192x8192_S8x1x8192x8192_0_1_2_3 (broadcastInDim S1x1x8192x8192 ![2, 3] bcast_S8192x8192_S1x1x8192x8192_2_3 dist))

/-- The masked scores. -/
def zm (x : FVec F S4x8192x3072 .bf16) : FVec F S4x8x2x8192x8192 .f32 :=
  select (broadcastInDim S4x8x2x8192x8192 ![3, 4] bcast_S8192x8192_S4x8x2x8192x8192_3_4 (mask (F := F)))
    (subf (mulf (Host.dotGeneral dot_S4x8x2x8192x64_S4x8x2x8192x64_S4x8x2x8192x8192_4_4_3_3_012_012 none (qh x) (kh x))
        (broadcastInDim S4x8x2x8192x8192 ![] bcast_S_S4x8x2x8192x8192 (constant S_ .f32 0x3E000000#32)))
      (broadcastInDim S4x8x2x8192x8192 ![0, 1, 2, 3, 4] bcast_S1x8x1x8192x8192_S4x8x2x8192x8192_0_1_2_3_4 (broadcastInDim S1x8x1x8192x8192 ![1, 2, 3, 4] bcast_S8x1x8192x8192_S1x8x1x8192x8192_1_2_3_4 bias)))
    (broadcastInDim S4x8x2x8192x8192 ![] bcast_S_S4x8x2x8192x8192 (id (constant S_ .f32 0xFF800000#32)))

/-- The largest score of each row. -/
def top (z : FVec F S4x8x2x8192x8192 .f32) : FVec F S4x8x2x8192 .f32 :=
  Host.reduce FloatOps.maximumf z (constant S_ .f32 0xFF800000#32) reducesTo_S4x8x2x8192x8192_S4x8x2x8192_d4 h_S_

/-- The exponentials of the scores, each taken from its row's `t`. -/
def fromTop (z : FVec F S4x8x2x8192x8192 .f32) (t : FVec F S4x8x2x8192 .f32) : FVec F S4x8x2x8192x8192 .f32 :=
  Host.exp (subf z (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3
    (maximumf (broadcastInDim S4x8x2x8192 ![] bcast_S_S4x8x2x8192 (constant S_ .f32 0xFF800000#32)) t))))

/-- The exponentials of the scores, taken from the row's largest. -/
def ez (z : FVec F S4x8x2x8192x8192 .f32) : FVec F S4x8x2x8192x8192 .f32 := fromTop z (top z)

/-- Exponentials over their sum. -/
def over (w : FVec F S4x8x2x8192x8192 .f32) : FVec F S4x8x2x8192x8192 .f32 :=
  Host.divf w (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3
    (Host.reduceAdd w (constant S_ .f32 0x00000000#32) reducesTo_S4x8x2x8192x8192_S4x8x2x8192_d4 h_S_)))

/-- The softmax of the scores. -/
def probs (z : FVec F S4x8x2x8192x8192 .f32) : FVec F S4x8x2x8192x8192 .f32 := over (ez z)

/-- The difference of the two softmaxes. -/
def attn (p : FVec F S4x8x2x8192x8192 .f32) (l : FVec F S_ .f32) : FVec F S4x8x8192x8192 .f32 :=
  subf (shapeCast S4x8x8192x8192 (extractStridedSlice S4x8x1x8192x8192 ![0, 0, 0, 0, 0] p slices_S4x8x2x8192x8192_S4x8x1x8192x8192_0_0_0_0_0) shapeCasts_S4x8x1x8192x8192_S4x8x8192x8192)
    (mulf (broadcastInDim S4x8x8192x8192 ![] bcast_S_S4x8x8192x8192 l)
      (shapeCast S4x8x8192x8192 (extractStridedSlice S4x8x1x8192x8192 ![0, 0, 1, 0, 0] p slices_S4x8x2x8192x8192_S4x8x1x8192x8192_0_0_1_0_0) shapeCasts_S4x8x1x8192x8192_S4x8x8192x8192))

/-- The attention's output before the norm. -/
def mixed (a : FVec F S4x8x8192x8192 .f32) (v : FVec F S4x8x8192x128 .f32) : FVec F S4x8x8192x128 .f32 :=
  Host.dotGeneral dot_S4x8x8192x8192_S4x8x8192x128_S4x8x8192x128_3_2_2_3_01_01 none a v

/-- The norm, the gain and the last scale. -/
def normed (o : FVec F S4x8x8192x128 .f32) (g : FVec F S1x128 .f32) : FVec F S4x8x8192x128 .f32 :=
  mulf (mulf (mulf o (broadcastInDim S4x8x8192x128 ![0, 1, 2, 3] bcast_S4x8x8192x1_S4x8x8192x128_0_1_2_3
      (Host.rsqrt (addf (Host.divf (broadcastInDim S4x8x8192x1 ![0, 1, 2] bcast_S4x8x8192_S4x8x8192x1_0_1_2
          (Host.reduceAdd (mulf o o) (constant S_ .f32 0x00000000#32) reducesTo_S4x8x8192x128_S4x8x8192_d3 h_S_))
        (broadcastInDim S4x8x8192x1 ![] bcast_S_S4x8x8192x1 (constant S_ .f32 0x43000000#32)))
        (broadcastInDim S4x8x8192x1 ![] bcast_S_S4x8x8192x1 (constant S_ .f32 0x3727C5AC#32))))))
    (broadcastInDim S4x8x8192x128 ![0, 1, 2, 3] bcast_S1x1x1x128_S4x8x8192x128_0_1_2_3 (broadcastInDim S1x1x1x128 ![3] bcast_S128_S1x1x1x128_3 (shapeCast S128 g shapeCasts_S1x128_S128))))
    (broadcastInDim S4x8x8192x128 ![] bcast_S_S4x8x8192x128 (constant S_ .f32 0x3F24FD5C#32))

/-- Heads back to columns, rounded to the result's type. -/
def packed (o : FVec F S4x8x8192x128 .f32) : FVec F S4x8192x1024 .bf16 :=
  truncf .bf16 (shapeCast S4x8192x1024 (transpose S4x8192x8x128 [0, 2, 1, 3] o transposes_S4x8x8192x128_S4x8192x8x128_0_2_1_3) shapeCasts_S4x8192x8x128_S4x8192x1024) bitsLt_bf16_f32

/-- The reference as a function of its six arguments. -/
def whole (x : FVec F S4x8192x3072 .bf16) (a b c d : FVec F S1x64 .f32) (g : FVec F S1x128 .f32) : FVec F S4x8192x1024 .bf16 :=
  packed (normed (mixed (attn (probs (zm x)) (lam a b c d)) (vh x)) g)

set_option maxHeartbeats 4000000 in
/-- The run's result is the stages' composition. -/
theorem res_eq (m : (ℓ : Loc nD τ sig) → Buf (Elt F) ℓ) (c : Dev nD) :
    res_out0 m c = whole (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.Diff.Ref
-- ==== Proof.RRead.lean ====
module

public import proofs.«01_k».proof.Proof.Ref
public import proofs.«01_k».proof.Proof.Spec

/-! The reference's stages read at an index, up to the common value. -/

@[expose] public section

set_option maxRecDepth 16384

noncomputable section

namespace Cert.Diff.Ref

open Cert.ReferenceIdeal Cert.ReferenceIdeal.Gen Cert.ReferenceIdeal.Value
open Idealize.ShloMosaic Idealize.ShloMosaic.TcCoe

/-- A row maximum over the last of five axes, at any sizes. -/
theorem row_max {n0 n1 n2 n3 n4 : ℕ} {u : Shape} (z : FVec Ideal ⟨5, ![n0, n1, n2, n3, n4]⟩ .f32) (i : u.Idx → EReal)
    (h : (⟨5, ![n0, n1, n2, n3, n4]⟩ : Shape).ReducesTo [4] ⟨4, ![n0, n1, n2, n3]⟩) (hu : 0 < u.numel) (a : Fin n0) (b : Fin n1) (c : Fin n2) (d : Fin n3)
    (e : EReal) (he : i (Shape.Idx.first hu) = e) :
    Host.reduce (FloatOps.maximumf (F := Ideal) (φ := .f32)) z i h hu (ix4 a b c d) = Finset.univ.fold max e fun k => z (ix5 a b c d k) := by
  subst he
  simp only [pointwise]

/-- The constant of the masks. -/
theorem ninf_const (i : S_.Idx) : constant (F := Ideal) S_ .f32 0xFF800000#32 i = (⊥ : EReal) := ofBits_ninf

/-- The largest score of a row. -/
theorem top_read (z : FVec Ideal S4x8x2x8192x8192 .f32) (b : Fin 4) (h : Fin 8) (p : Fin 2) (q : Fin 8192) :
    top z (ix4 b h p q) = Finset.univ.fold max ⊥ fun k => z (ix5 b h p q k) := by
  unfold top
  exact row_max (n0 := 4) (n1 := 8) (n2 := 2) (n3 := 8192) (n4 := 8192) z _ reducesTo_S4x8x2x8192x8192_S4x8x2x8192_d4 h_S_ b h p q ⊥ (ninf_const _)

/-- An exponential of the reference, from the row's top. -/
theorem fromTop_read (z : FVec Ideal S4x8x2x8192x8192 .f32) (t : FVec Ideal S4x8x2x8192 .f32) (b : Fin 4) (h : Fin 8) (p : Fin 2) (q k : Fin 8192) :
    fromTop z t (ix5 b h p q k) = Ideal.exp (z (ix5 b h p q k) - max (Ideal.ofBits .f32 0xFF800000#32) (t (ix4 b h p q))) := by
  pointwise [fromTop]

/-- A quotient by the row's sum. -/
theorem over_read (w : FVec Ideal S4x8x2x8192x8192 .f32) (b : Fin 4) (h : Fin 8) (p : Fin 2) (q k : Fin 8192) :
    over w (ix5 b h p q k) = Ideal.div (w (ix5 b h p q k)) (∑ k, w (ix5 b h p q k)) := by
  pointwise [over]

/-- An exponential, taken from the row's largest score. -/
theorem ez_read (z : FVec Ideal S4x8x2x8192x8192 .f32) (b : Fin 4) (h : Fin 8) (p : Fin 2) (q k : Fin 8192) :
    ez z (ix5 b h p q k) = Ideal.exp (z (ix5 b h p q k) - Finset.univ.fold max ⊥ fun k => z (ix5 b h p q k)) := by
  unfold ez
  rw [fromTop_read, top_read, ofBits_ninf, max_eq_right bot_le]

/-- A softmax weight. -/
theorem probs_read (z : FVec Ideal S4x8x2x8192x8192 .f32) (b : Fin 4) (h : Fin 8) (p : Fin 2) (q k : Fin 8192)
    (hz : ∀ k, z (ix5 b h p q k) ≠ ⊤) (hb : ∃ k, z (ix5 b h p q k) ≠ ⊥) :
    probs z (ix5 b h p q k) = ((E (z (ix5 b h p q k)) / ∑ k, E (z (ix5 b h p q k)) : ℝ) : EReal) := by
  unfold probs
  rw [over_read, ez_read, Finset.sum_congr rfl fun k _ => ez_read z b h p q k]
  exact softmax (fun k => z (ix5 b h p q k)) hz hb k

/-- The chunk of a position, at every position: the reference's floor division by 64. -/
theorem chunk_all : ∀ n : Fin 8192, Scalar.select
      (IntOp.andi
        (IntOp.cmpi .ne (if BitVec.ofNat 32 n.val = 0 then (0 : BitVec 32) else if (BitVec.ofNat 32 n.val).msb = true then -1 else 1)
          (if (64#32) = 0 then (0 : BitVec 32) else if (64#32).msb = true then -1 else 1))
        (IntOp.cmpi .ne (IntOp.remsi .host (BitVec.ofNat 32 n.val) 64#32) 0#32))
      (IntOp.subi (IntOp.divsi .host (BitVec.ofNat 32 n.val) 64#32) 1#32) (IntOp.divsi .host (BitVec.ofNat 32 n.val) 64#32)
    = BitVec.ofNat 32 (n.val / 64) := by
  decide +kernel

/-- The chunk of a position. -/
theorem chunk_read (n : Fin 8192) : chunk (F := Ideal) (ix1 n) = BitVec.ofNat 32 (n.val / 64) := by
  pointwise [chunk]
  exact chunk_all n

/-- Whether a query sees a key. -/
theorem mask_read (q k : Fin 8192) : mask (F := Ideal) (ix2 q k) = IntOp.cmpi .sle (BitVec.ofNat 32 (k.val / 64)) (BitVec.ofNat 32 (q.val / 64)) := by
  pointwise [mask]
  rw [chunk_read, chunk_read]

/-- The distance of two positions. -/
theorem dist_read (q k : Fin 8192) : dist (F := Ideal) (ix2 q k) = ((|(q.val : ℝ) - k.val| : ℝ) : EReal) := by
  pointwise [dist]
  show (((IntOp.absi (IntOp.subi (BitVec.ofNat 32 q.val) (BitVec.ofNat 32 k.val))).toInt : ℝ) : EReal) = _
  rw [toInt_dist q.val k.val (by omega) (by omega)]
  push_cast
  rfl

/-- The slope of a head. -/
theorem slopes_read (h : Fin 8) : slopes (F := Ideal) (ix1 h) = slopev h := by
  pointwise [slopes, slopev]

/-- The slope times the distance. -/
theorem bias_read (h : Fin 8) (q k : Fin 8192) : bias (F := Ideal) (ix4 h 0 q k) = slopev h * ((|(q.val : ℝ) - k.val| : ℝ) : EReal) := by
  pointwise [bias]
  rw [slopes_read, dist_read]

/-- The queries, entry by entry. -/
theorem qh_read (x : FVec Ideal S4x8192x3072 .bf16) (b : Fin 4) (h : Fin 8) (p : Fin 2) (s : Fin 8192) (d : Fin 64) :
    qh x (ix5 b h p s d) = x (ix3 b s ⟨h.val * 128 + p.val * 64 + d.val, by omega⟩) := by
  pointwise [qh]

/-- The keys, entry by entry. -/
theorem kh_read (x : FVec Ideal S4x8192x3072 .bf16) (b : Fin 4) (h : Fin 8) (p : Fin 2) (s : Fin 8192) (d : Fin 64) :
    kh x (ix5 b h p s d) = x (ix3 b s ⟨1024 + (h.val * 128 + p.val * 64 + d.val), by omega⟩) := by
  pointwise [kh]

/-- The values, entry by entry. -/
theorem vh_read (x : FVec Ideal S4x8192x3072 .bf16) (b : Fin 4) (h : Fin 8) (s : Fin 8192) (e : Fin 128) :
    vh x (ix4 b h s e) = x (ix3 b s ⟨2048 + (h.val * 128 + e.val), by omega⟩) := by
  pointwise [vh]

/-- The weight of the second softmax. -/
theorem lam_read (a b c d : FVec Ideal S1x64 .f32) : lam a b c d ix0 = lamv a b c d := by
  pointwise [lam, edot, lamv]

/-- The weighted sum of the values. -/
theorem mixed_read (a : FVec Ideal S4x8x8192x8192 .f32) (v : FVec Ideal S4x8x8192x128 .f32) (b : Fin 4) (h : Fin 8) (q : Fin 8192) (e : Fin 128) :
    mixed a v (ix4 b h q e) = ∑ k : Fin 8192, a (ix4 b h q k) * v (ix4 b h k e) := by
  pointwise [mixed]

/-- The weights of the two maps, taken together. -/
theorem attn_read (p : FVec Ideal S4x8x2x8192x8192 .f32) (l : FVec Ideal S_ .f32) (b : Fin 4) (h : Fin 8) (q k : Fin 8192) :
    attn p l (ix4 b h q k) = p (ix5 b h 0 q k) - l ix0 * p (ix5 b h 1 q k) := by
  pointwise [attn]

/-- The heads, laid side by side again. -/
theorem packed_read (o : FVec Ideal S4x8x8192x128 .f32) (b : Fin 4) (s : Fin 8192) (c : Fin 1024) :
    packed o (ix3 b s c) = o (ix4 b ⟨c.val / 128, by omega⟩ s ⟨c.val % 128, by omega⟩) := by
  pointwise [packed]

section Row
variable (X : S4x8192x3072.Idx → ℝ) (σ : Fin 8 → ℝ) (hσ : ∀ h, slopev h = ((σ h : ℝ) : EReal)) (b : Fin 4) (h : Fin 8)
include hσ

/-- A masked score. -/
theorem zm_read (p : Fin 2) (q k : Fin 8192) :
    zm (F := Ideal) (fun j => ((X j : ℝ) : EReal)) (ix5 b h p q k)
      = if k.val / 64 ≤ q.val / 64 then ((score (qrow X b h p q) (krow X b h p k) - σ h * |(q.val : ℝ) - k.val| : ℝ) : EReal) else ⊥ := by
  pointwise [zm]
  rw [mask_read, bias_read, hσ, select_sle _ _ (by omega) (by omega)]
  refine if_congr Iff.rfl ?_ ofBits_ninf
  have e : ∀ x : Fin 64, qh (F := Ideal) (fun j => ((X j : ℝ) : EReal)) (ix5 b h p q x) * kh (F := Ideal) (fun j => ((X j : ℝ) : EReal)) (ix5 b h p k x)
      = ((qrow X b h p q x * krow X b h p k x : ℝ) : EReal) := fun x => by
    rw [qh_read, kh_read, ← EReal.coe_mul]
    rfl
  rw [Finset.sum_congr rfl fun x _ => e x, sum_coe, ofBits_eighth, ← EReal.coe_mul, ← EReal.coe_mul, ← EReal.coe_sub]
  rfl

/-- The exponential of a masked score is the key's weight. -/
theorem E_zm (p : Fin 2) (q k : Fin 8192) :
    E (zm (F := Ideal) (fun j => ((X j : ℝ) : EReal)) (ix5 b h p q k)) = weight (qrow X b h p q) (krow X b h p) (σ h) q.val k := by
  rw [zm_read X σ hσ, weight]
  split
  · rw [E_coe]
  · exact E_bot

/-- A softmax weight is the key's weight over the weights' sum. -/
theorem probs_zm (p : Fin 2) (q k : Fin 8192) :
    probs (zm (F := Ideal) (fun j => ((X j : ℝ) : EReal))) (ix5 b h p q k)
      = ((weight (qrow X b h p q) (krow X b h p) (σ h) q.val k / ∑ k, weight (qrow X b h p q) (krow X b h p) (σ h) q.val k : ℝ) : EReal) := by
  rw [probs_read _ b h p q k, E_zm X σ hσ, Finset.sum_congr rfl fun k _ => E_zm X σ hσ b h p q k]
  · intro k
    rw [zm_read X σ hσ]
    split
    · exact EReal.coe_ne_top _
    · exact bot_ne_top
  · refine ⟨0, ?_⟩
    rw [zm_read X σ hσ, if_pos (by simp)]
    exact EReal.coe_ne_bot _

omit hσ in
/-- The attention's output before the norm. -/
theorem mixed_row (L : ℝ) (p : FVec Ideal S4x8x2x8192x8192 .f32) (v : FVec Ideal S4x8x8192x128 .f32) (l : FVec Ideal S_ .f32) (hl : l ix0 = ((L : ℝ) : EReal)) (q : Fin 8192) (e : Fin 128)
    (hp : ∀ (m : Fin 2) (k : Fin 8192), p (ix5 b h m q k) = ((weight (qrow X b h m q) (krow X b h m) (σ h) q.val k / ∑ k, weight (qrow X b h m q) (krow X b h m) (σ h) q.val k : ℝ) : EReal))
    (hv : ∀ k : Fin 8192, v (ix4 b h k e) = ((vcol X b h e k : ℝ) : EReal)) :
    mixed (attn p l) v (ix4 b h q e) = ((both X σ L b h q e : ℝ) : EReal) := by
  have e1 : ∀ k : Fin 8192, attn p l (ix4 b h q k) * v (ix4 b h k e)
      = (((weight (qrow X b h 0 q) (krow X b h 0) (σ h) q.val k * vcol X b h e k) / (∑ k, weight (qrow X b h 0 q) (krow X b h 0) (σ h) q.val k)
          - L * ((weight (qrow X b h 1 q) (krow X b h 1) (σ h) q.val k * vcol X b h e k) / (∑ k, weight (qrow X b h 1 q) (krow X b h 1) (σ h) q.val k)) : ℝ) : EReal) := fun k => by
    rw [attn_read, hp, hp, hl, hv, ← EReal.coe_mul, ← EReal.coe_sub, ← EReal.coe_mul]
    congr 1
    ring
  rw [mixed_read, Finset.sum_congr rfl fun k _ => e1 k, sum_coe, Finset.sum_sub_distrib, ← Finset.mul_sum, ← Finset.sum_div, ← Finset.sum_div]
  simp only [both, part, mean]

end Row

/-- The norm, the gain and the last scale. -/
theorem normed_read (o : FVec Ideal S4x8x8192x128 .f32) (g : FVec Ideal S1x128 .f32) (b : Fin 4) (h : Fin 8) (q : Fin 8192) (e : Fin 128) :
    normed o g (ix4 b h q e) = norm (fun x => o (ix4 b h q x)) (g (ix2 0 e)) e := by
  pointwise [normed, norm]

/-- The reference at an index. -/
theorem whole_read (X : S4x8192x3072.Idx → ℝ) (σ : Fin 8 → ℝ) (hσ : ∀ h, slopev h = ((σ h : ℝ) : EReal)) (L : ℝ) (x : FVec Ideal S4x8192x3072 .bf16)
    (hx : ∀ j, x j = ((X j : ℝ) : EReal)) (a1 a2 a3 a4 : FVec Ideal S1x64 .f32) (hl : lamv a1 a2 a3 a4 = ((L : ℝ) : EReal)) (g : FVec Ideal S1x128 .f32)
    (b : Fin 4) (s : Fin 8192) (c : Fin 1024) :
    whole x a1 a2 a3 a4 g (ix3 b s c) = value X σ L g b s c := by
  obtain rfl : x = fun j => ((X j : ℝ) : EReal) := funext hx
  unfold whole
  rw [packed_read, normed_read]
  have e : ∀ x : Fin 128, mixed (attn (probs (zm (F := Ideal) fun j => ((X j : ℝ) : EReal))) (lam a1 a2 a3 a4)) (vh (F := Ideal) fun j => ((X j : ℝ) : EReal)) (ix4 b ⟨c.val / 128, by omega⟩ s x)
      = ((both X σ L b ⟨c.val / 128, by omega⟩ s x : ℝ) : EReal) := fun x =>
    mixed_row X σ b _ L _ _ _ ((lam_read a1 a2 a3 a4).trans hl) s x (fun m k => probs_zm X σ hσ b _ m s k) fun k => vh_read _ b _ k x
  simp only [e, value]

end Cert.Diff.Ref
-- ==== Proof.Pre.lean ====
module

public import proofs.«01_k».proof.Proof.Spec
public import proofs.«01_k».proof.Proof.Gen.Pre_finite
public import Idealize.ShloMosaic.Lib.ReduceAll
public import Idealize.ShloMosaic.Lib.KernelVsHost

/-! What the precondition says: every projection and every lambda entry is a real number; hence so are the slopes and the weight. -/

@[expose] public section

noncomputable section

namespace Cert.Diff

open Idealize.ShloMosaic

/-- An extended real below infinity in size is a real. -/
theorem real_of_small (x : EReal) (h : Ideal.cmp .olt (max x (-x)) (Ideal.ofBits .f32 0x7F800000#32) = 1#1) : ∃ r : ℝ, x = ↑r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array whose test of sizes came out true holds reals. -/
theorem reals_of_all {s : Shape} {axes : List (Fin s.rank)} (x : FVec Ideal s .f32) (y : FVec Ideal s .f32)
    (hy : ∀ i, y i = Ideal.ofBits .f32 0x7F800000#32) (init : Cert.Pre_finite.S_.Idx → BitVec 1)
    (h : s.ReducesTo axes Cert.Pre_finite.S_) (hu : 0 < Cert.Pre_finite.S_.numel) (j : Cert.Pre_finite.S_.Idx)
    (e : Host.reduce IntOp.andi (cmpf .olt (Host.absf x) y) init h hu j = 1#1) : ∃ X : s.Idx → ℝ, ∀ i, x i = ↑(X i) := by
  haveI : Subsingleton Cert.Pre_finite.S_.Idx := ⟨fun a b => funext fun k => k.elim0⟩
  refine Classical.skolem.1 fun i => real_of_small (x i) ?_
  have := Host.reduce_andi_all _ init h hu j e i
  rw [← hy i]; exact this

/-- The precondition read: the projections and the lambda rows are reals. -/
theorem reals_of_pre [Cert.Pre_finite.Facts] (a0 : FVec Ideal Cert.Pre_finite.S4x8192x3072 .bf16) (a1 a2 a3 a4 : FVec Ideal Cert.Pre_finite.S1x64 .f32)
    (a5) (e : Cert.Pre_finite.fn (F := Ideal) a0 a1 a2 a3 a4 a5 = fun _ => 1#1) :
    (∃ X : Cert.Pre_finite.S4x8192x3072.Idx → ℝ, ∀ i, a0 i = ↑(X i)) ∧ (∃ X : Cert.Pre_finite.S1x64.Idx → ℝ, ∀ i, a1 i = ↑(X i))
      ∧ (∃ X : Cert.Pre_finite.S1x64.Idx → ℝ, ∀ i, a2 i = ↑(X i)) ∧ (∃ X : Cert.Pre_finite.S1x64.Idx → ℝ, ∀ i, a3 i = ↑(X i))
      ∧ (∃ X : Cert.Pre_finite.S1x64.Idx → ℝ, ∀ i, a4 i = ↑(X i)) := by
  have e := congrFun e (fun k => k.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨reals_of_all _ _ (fun _ => rfl) _ _ _ _ h0, reals_of_all _ _ (fun _ => rfl) _ _ _ _ h1, reals_of_all _ _ (fun _ => rfl) _ _ _ _ h2,
    reals_of_all _ _ (fun _ => rfl) _ _ _ _ h3, reals_of_all _ _ (fun _ => rfl) _ _ _ _ h4⟩

/-- A sum of products of reals is a real. -/
theorem dot_real (a b : (⟨2, ![1, 64]⟩ : Shape).Idx → EReal) (A B : (⟨2, ![1, 64]⟩ : Shape).Idx → ℝ) (ha : ∀ i, a i = ↑(A i)) (hb : ∀ i, b i = ↑(B i)) :
    ∑ x : Fin 64, a (ix2 0 x) * b (ix2 0 x) = ((∑ x : Fin 64, A (ix2 0 x) * B (ix2 0 x) : ℝ) : EReal) := by
  rw [← sum_coe]
  exact Finset.sum_congr rfl fun x _ => by rw [ha, hb, EReal.coe_mul]

/-- The weight of the second softmax is a real. -/
theorem lamv_real (a b c d : (⟨2, ![1, 64]⟩ : Shape).Idx → EReal) (ha : ∃ A : (⟨2, ![1, 64]⟩ : Shape).Idx → ℝ, ∀ i, a i = ↑(A i))
    (hb : ∃ A : (⟨2, ![1, 64]⟩ : Shape).Idx → ℝ, ∀ i, b i = ↑(A i)) (hc : ∃ A : (⟨2, ![1, 64]⟩ : Shape).Idx → ℝ, ∀ i, c i = ↑(A i))
    (hd : ∃ A : (⟨2, ![1, 64]⟩ : Shape).Idx → ℝ, ∀ i, d i = ↑(A i)) : ∃ L : ℝ, lamv a b c d = ↑L := by
  obtain ⟨A, hA⟩ := ha
  obtain ⟨B, hB⟩ := hb
  obtain ⟨C, hC⟩ := hc
  obtain ⟨D, hD⟩ := hd
  obtain ⟨k, hk⟩ : ∃ k : ℝ, Ideal.ofBits .f32 0x3EB60549#32 = ↑k := by simp [Ideal.ofBits, Ideal.ieee, ← EReal.coe_mul]
  unfold lamv
  rw [dot_real a b A B hA hB, dot_real c d C D hC hD, hk, Ideal.exp_coe, Ideal.exp_coe, ← EReal.coe_sub, ← EReal.coe_add]
  exact ⟨_, rfl⟩

/-- The slope of a head is a real. -/
theorem slopev_real : ∃ σ : Fin 8 → ℝ, ∀ h, slopev h = ↑(σ h) := by
  suffices H : ∀ h, ∃ r : ℝ, slopev h = ↑r from Classical.skolem.1 H
  intro h
  obtain ⟨k, hk⟩ : ∃ k : ℝ, Ideal.ofBits .f32 0x3F317218#32 = ↑k := by simp [Ideal.ofBits, Ideal.ieee, ← EReal.coe_mul]
  obtain ⟨l, hl⟩ : ∃ k : ℝ, Ideal.ofBits .f32 0xBF800000#32 = ↑k := by simp [Ideal.ofBits, Ideal.ieee, ← EReal.coe_mul, ← EReal.coe_neg]
  unfold slopev
  rw [hk, hl, show FloatOps.sitofp (F := Ideal) FTy.f32 (BitVec.ofNat 32 h.val) = (((BitVec.ofNat 32 h.val).toInt : ℝ) : EReal) from rfl,
    ← EReal.coe_one, ← EReal.coe_add, ← EReal.coe_mul, ← EReal.coe_mul, Ideal.exp_coe]
  exact ⟨_, rfl⟩

end Cert.Diff

end
-- ==== Proof.Proj3.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim

/-! The projection into queries, keys, values and gates of an even layer: the kernel's output array and the
    reference's. -/

@[expose] public section

set_option maxRecDepth 16384

noncomputable section

namespace Cert.Proj

open Idealize.ShloMosaic Idealize.ShloMosaic.TcCoe Idealize.SL.Sem

/-- The projection of a layer's scaled and shifted rows by its weights, at an index. -/
def proj {n : ℕ} (x : FVec Ideal ⟨3, ![4, 8192, 1024]⟩ .f32) (sc sh : FVec Ideal ⟨3, ![4, 1, 1024]⟩ .f32) (w : FVec Ideal ⟨3, ![1, 1024, n]⟩ .f32) (b : Fin 4) (s : Fin 8192) (e : Fin n) : EReal :=
  ∑ k : Fin 1024, (x (ix3 b s k) * (Ideal.ofBits .f32 0x3F800000#32 + sc (ix3 b 0 k)) + sh (ix3 b 0 k)) * w (ix3 0 k e)

section Kernel
open Cert.Kernel3Ideal Cert.Kernel3Ideal.Gen Cert.Kernel3Ideal.Value

/-- One tile of 512 columns: the scaled and shifted rows times the tile of the weights. -/
theorem tile_read (x0 : FVec Ideal S1x512x1024 .f32) (x1 x2 : FVec Ideal S1x1x1024 .f32) (w : FVec Ideal S1024x512 .bf16) (r e : Fin 512) :
    k0_pay6 (F := Ideal) (k0_pay1 x0 x1 x2) w (ix3 0 r e) = ∑ k : Fin 1024, (x0 (ix3 0 r k) * x1 (ix3 0 0 k) + x2 (ix3 0 0 k)) * w (ix2 k e) := by
  pointwise [k0_pay6, k0_pay1]

/-- A tile at a place of the whole block: the tile's columns are the weights' columns from `o` on. -/
theorem tile_at (x0 : FVec Ideal S1x512x1024 .f32) (x1 x2 : FVec Ideal S1x1x1024 .f32) (n o : ℕ) (x3 : FVec Ideal ⟨2, ![1024, n]⟩ .bf16) (w : FVec Ideal S1024x512 .bf16) (r : Fin 512) (e : Fin n) (j : S1x512x512.Idx)
    (h1 : r.val = (j 1).val) (h2 : e.val = o + (j 2).val) (hw : ∀ (k : Fin 1024) (l : Fin 512) (hl : o + l.val < n), w (ix2 k l) = x3 (ix2 k ⟨o + l.val, hl⟩)) :
    k0_pay6 (F := Ideal) (k0_pay1 x0 x1 x2) w j = ∑ k : Fin 1024, (x0 (ix3 0 r k) * x1 (ix3 0 0 k) + x2 (ix3 0 0 k)) * x3 (ix2 k e) := by
  idx_vars j
  obtain rfl : j0 = 0 := Subsingleton.elim _ _
  obtain rfl : r = j1 := Fin.ext h1
  have hd : o + j2.val < n := h2 ▸ e.isLt
  obtain rfl : e = ⟨o + j2.val, hd⟩ := Fin.ext h2
  rw [tile_read]
  exact Finset.sum_congr rfl fun k _ => congrArg _ (hw k j2 hd)

/-- The body's output block at an index. -/
theorem block_read (x0 : FVec Ideal S1x512x1024 .f32) (x1 x2 : FVec Ideal S1x1x1024 .f32) (x3 : FVec Ideal S1024x3584 .bf16) (r : Fin 512) (e : Fin 3584) :
    out0_4 (F := Ideal) x0 x1 x2 x3 (ix3 0 r e) = ∑ k : Fin 1024, (x0 (ix3 0 r k) * x1 (ix3 0 0 k) + x2 (ix3 0 0 k)) * x3 (ix2 k e) := by
  have z : (![0, 0, 0] : Fin 3 → ℕ) = fun _ => 0 := by decide
  have l0 : View.ld (Val := Elt Ideal) (e' := .f32) x0 r0_0 = x0 := View.ld_unit_zero (S := S1x512x1024) z _ _
  have l1 : View.ld (Val := Elt Ideal) (e' := .f32) x1 r0_1 = x1 := View.ld_unit_zero (S := S1x1x1024) z _ _
  have l2 : View.ld (Val := Elt Ideal) (e' := .f32) x2 r0_1 = x2 := View.ld_unit_zero (S := S1x1x1024) z _ _
  have ev : k0_pay10 (F := Ideal) x0 x1 x2 x3 = k0_pay1 (F := Ideal) x0 x1 x2 := by unfold k0_pay10; rw [l0, l1, l2]
  canon_tiles x h using cover0_4 ..
  all_goals (try rw [ev]); (try rw [l0, l1, l2])
  all_goals
    first
    | refine (show _ = _ from tile_at (x0 : FVec Ideal S1x512x1024 .f32) x1 x2 3584 _ x3 _ r e x h1 h2 fun k l hl => ?_)
    | refine (show _ = _ from tile_at (x0 : FVec Ideal S1x512x1024 .f32) x1 x2 3584 0 x3 _ r e x h1 (h2.trans (Nat.zero_add _).symm) fun k l hl => ?_)
    refine View.ld_unit_apply_of _ _ _ _ _ _ fun a => ?_
    fin_cases a
    · exact (Nat.zero_add _).symm
    · rfl

/-- The windows' block indices at a grid point. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0] ∧ win0_3.index t = ![0, 0]
    ∧ win0_4.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The positions of a grid point. -/
def cS (r : Fin 512) : Fin 8192 := ⟨(grid0.coords t 1).val * 512 + r.val, by have := (grid0.coords t 1).isLt; simp at *; omega⟩

/-- The rows of a grid point. -/
def in0 : FVec Ideal S1x512x1024 .f32 := iblk m c 0 t
/-- The scale of a grid point. -/
def in1 : FVec Ideal S1x1x1024 .f32 := iblk m c 1 t
/-- The shift of a grid point. -/
def in2 : FVec Ideal S1x1x1024 .f32 := iblk m c 2 t
/-- The weights. -/
def in3 : FVec Ideal S1024x3584 .bf16 := iblk m c 3 t

/-- The rows. -/
theorem in0_read (r : Fin 512) (k : Fin 1024) : in0 m c t (ix3 0 r k) = m ((c : Thread nD τ).loc main_arg0) (ix3 (cB t) (cS t r) k) := by
  show (show FVec Ideal S1x512x1024 .f32 from iblk m c 0 t) (ix3 0 r k) = _
  blk_ext [iblk, V, idx t, cB, cS]

/-- The scale, one more than the argument. -/
theorem in1_read (k : Fin 1024) : in1 m c t (ix3 0 0 k) = Ideal.ofBits .f32 0x3F800000#32 + (show EReal from m ((c : Thread nD τ).loc main_arg1) (ix3 (cB t) 0 k)) := by
  show (show FVec Ideal S1x1x1024 .f32 from iblk m c 1 t) (ix3 0 0 k) = _
  have e : ((View.whole main_v1).slice (win0_1.rect t)).emb (ix3 0 0 k) = ix3 (cB t) 0 k := by
    blk_ext [idx t, cB]
  blk_simp [iblk]
  entry_read
  pointwise
  rw [e]

/-- The shift. -/
theorem in2_read (k : Fin 1024) : in2 m c t (ix3 0 0 k) = m ((c : Thread nD τ).loc main_arg2) (ix3 (cB t) 0 k) := by
  show (show FVec Ideal S1x1x1024 .f32 from iblk m c 2 t) (ix3 0 0 k) = _
  blk_ext [iblk, V, idx t, cB]

/-- The weights. -/
theorem in3_read (k : Fin 1024) (e : Fin 3584) : in3 m c t (ix2 k e) = m ((c : Thread nD τ).loc main_arg3) (ix3 0 k e) := by
  show (show FVec Ideal S1024x3584 .bf16 from iblk m c 3 t) (ix2 k e) = _
  have e : ((View.whole main_v3).slice (win0_3.rect t)).emb (ix2 k e) = ix2 k e := by
    blk_ext [idx t]
  blk_simp [iblk]
  entry_read
  pointwise
  rw [e]
  rfl

/-- The kernel's output array is the projection of the arguments. -/
theorem final : (dats m 0 c).arrAt 4 cfg0.N = fun j : S4x8192x3584.Idx => proj (m ((c : Thread nD τ).loc main_arg0)) (m ((c : Thread nD τ).loc main_arg1)) (m ((c : Thread nD τ).loc main_arg2)) (m ((c : Thread nD τ).loc main_arg3)) (j 0) (j 1) (j 2) := by
  refine (dats m 0 c).arrAt_eq_of_covers 4 _ (by decide +kernel) fun t hf y => ?_
  refine (show _ = _ from congrFun (Value.flushed4 m c t) y).trans ?_
  blk_simp
  idx_vars y
  obtain rfl : y0 = 0 := Subsingleton.elim _ _
  refine (show _ = _ from block_read (in0 m c t) (in1 m c t) (in2 m c t) (in3 m c t) y1 y2).trans ?_
  have e0 : ((View.whole main_v4).slice (win0_4.rect t)).emb (ix3 0 y1 y2) = ix3 (cB t) (cS t y1) y2 := by
    blk_ext [idx t, cB, cS]
  rw [e0]
  simp only [in0_read, in1_read, in2_read, in3_read]
  rfl

end Kernel

section Reference
open Cert.Reference3Ideal Cert.Reference3Ideal.Gen

/-- The reference's projection at an index. -/
theorem ref_read (x : FVec Ideal S4x8192x1024 .f32) (sc sh : FVec Ideal S4x1x1024 .f32) (w : FVec Ideal S1x1024x3584 .f32) (b : Fin 4) (s : Fin 8192) (e : Fin 3584) :
    (truncf .bf16 (Host.dotGeneral (F := Ideal) dot_S4x8192x1024_S1024x3584_S4x8192x3584_2_0_01_1_n_n none
      (addf (mulf x (broadcastInDim S4x8192x1024 ![0, 1, 2] bcast_S4x1x1024_S4x8192x1024_0_1_2 (addf (broadcastInDim S4x1x1024 ![] bcast_S_S4x1x1024 (constant S_ .f32 0x3F800000#32)) sc)))
        (broadcastInDim S4x8192x1024 ![0, 1, 2] bcast_S4x1x1024_S4x8192x1024_0_1_2 sh))
      (shapeCast S1024x3584 w shapeCasts_S1x1024x3584_S1024x3584)) bitsLt_bf16_f32 : FVec Ideal S4x8192x3584 .bf16) (ix3 b s e) = proj x sc sh w b s e := by
  pointwise [proj]

end Reference

end Cert.Proj
-- ==== Proof.Proj4.lean ====
module

public import proofs.«01_k».proof.Proof.Proj3
public import proofs.«01_k».proof.Proof.Gen.Kernel4Ideal.Value
public import proofs.«01_k».proof.Proof.Gen.Reference4Ideal.Run
public import Idealize.ShloMosaic.Lib.Pipeline.ValueKit
public import Idealize.ShloMosaic.Lib.Claim

/-! The projection into queries, keys, values and gates of an odd layer: the kernel's output array and the
    reference's. -/

@[expose] public section

set_option maxRecDepth 16384

noncomputable section

namespace Cert.Proj4

open Idealize.ShloMosaic Idealize.ShloMosaic.TcCoe Idealize.SL.Sem
open Cert.Proj (proj tile_at)

section Kernel
open Cert.Kernel4Ideal Cert.Kernel4Ideal.Gen Cert.Kernel4Ideal.Value

/-- The body's output block at an index. -/
theorem block_read (x0 : FVec Ideal S1x512x1024 .f32) (x1 x2 : FVec Ideal S1x1x1024 .f32) (x3 : FVec Ideal S1024x3072 .bf16) (r : Fin 512) (e : Fin 3072) :
    out0_4 (F := Ideal) x0 x1 x2 x3 (ix3 0 r e) = ∑ k : Fin 1024, (x0 (ix3 0 r k) * x1 (ix3 0 0 k) + x2 (ix3 0 0 k)) * x3 (ix2 k e) := by
  have z : (![0, 0, 0] : Fin 3 → ℕ) = fun _ => 0 := by decide
  have l0 : View.ld (Val := Elt Ideal) (e' := .f32) x0 r0_0 = x0 := View.ld_unit_zero (S := S1x512x1024) z _ _
  have l1 : View.ld (Val := Elt Ideal) (e' := .f32) x1 r0_1 = x1 := View.ld_unit_zero (S := S1x1x1024) z _ _
  have l2 : View.ld (Val := Elt Ideal) (e' := .f32) x2 r0_1 = x2 := View.ld_unit_zero (S := S1x1x1024) z _ _
  have ev : k0_pay9 (F := Ideal) x0 x1 x2 x3 = k0_pay5 (F := Ideal) x0 x1 x2 := by unfold k0_pay9; rw [l0, l1, l2]
  canon_tiles x h using cover0_4 ..
  all_goals (try rw [ev]); (try rw [l0, l1, l2])
  all_goals
    first
    | refine (show _ = _ from tile_at (x0 : FVec Ideal S1x512x1024 .f32) x1 x2 3072 _ x3 _ r e x h1 h2 fun k l hl => ?_)
    | refine (show _ = _ from tile_at (x0 : FVec Ideal S1x512x1024 .f32) x1 x2 3072 0 x3 _ r e x h1 (h2.trans (Nat.zero_add _).symm) fun k l hl => ?_)
    refine View.ld_unit_apply_of _ _ _ _ _ _ fun a => ?_
    fin_cases a
    · exact (Nat.zero_add _).symm
    · rfl

/-- The windows' block indices at a grid point. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0] ∧ win0_3.index t = ![0, 0]
    ∧ win0_4.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The positions of a grid point. -/
def cS (r : Fin 512) : Fin 8192 := ⟨(grid0.coords t 1).val * 512 + r.val, by have := (grid0.coords t 1).isLt; simp at *; omega⟩

/-- The rows of a grid point. -/
def in0 : FVec Ideal S1x512x1024 .f32 := iblk m c 0 t
/-- The scale of a grid point. -/
def in1 : FVec Ideal S1x1x1024 .f32 := iblk m c 1 t
/-- The shift of a grid point. -/
def in2 : FVec Ideal S1x1x1024 .f32 := iblk m c 2 t
/-- The weights. -/
def in3 : FVec Ideal S1024x3072 .bf16 := iblk m c 3 t

/-- The rows. -/
theorem in0_read (r : Fin 512) (k : Fin 1024) : in0 m c t (ix3 0 r k) = m ((c : Thread nD τ).loc main_arg0) (ix3 (cB t) (cS t r) k) := by
  show (show FVec Ideal S1x512x1024 .f32 from iblk m c 0 t) (ix3 0 r k) = _
  blk_ext [iblk, V, idx t, cB, cS]

/-- The scale, one more than the argument. -/
theorem in1_read (k : Fin 1024) : in1 m c t (ix3 0 0 k) = Ideal.ofBits .f32 0x3F800000#32 + (show EReal from m ((c : Thread nD τ).loc main_arg1) (ix3 (cB t) 0 k)) := by
  show (show FVec Ideal S1x1x1024 .f32 from iblk m c 1 t) (ix3 0 0 k) = _
  have e : ((View.whole main_v1).slice (win0_1.rect t)).emb (ix3 0 0 k) = ix3 (cB t) 0 k := by
    blk_ext [idx t, cB]
  blk_simp [iblk]
  entry_read
  pointwise
  rw [e]

/-- The shift. -/
theorem in2_read (k : Fin 1024) : in2 m c t (ix3 0 0 k) = m ((c : Thread nD τ).loc main_arg2) (ix3 (cB t) 0 k) := by
  show (show FVec Ideal S1x1x1024 .f32 from iblk m c 2 t) (ix3 0 0 k) = _
  blk_ext [iblk, V, idx t, cB]

/-- The weights. -/
theorem in3_read (k : Fin 1024) (e : Fin 3072) : in3 m c t (ix2 k e) = m ((c : Thread nD τ).loc main_arg3) (ix3 0 k e) := by
  show (show FVec Ideal S1024x3072 .bf16 from iblk m c 3 t) (ix2 k e) = _
  have e : ((View.whole main_v3).slice (win0_3.rect t)).emb (ix2 k e) = ix2 k e := by
    blk_ext [idx t]
  blk_simp [iblk]
  entry_read
  pointwise
  rw [e]
  rfl

/-- The kernel's output array is the projection of the arguments. -/
theorem final : (dats m 0 c).arrAt 4 cfg0.N = fun j : S4x8192x3072.Idx => proj (m ((c : Thread nD τ).loc main_arg0)) (m ((c : Thread nD τ).loc main_arg1)) (m ((c : Thread nD τ).loc main_arg2)) (m ((c : Thread nD τ).loc main_arg3)) (j 0) (j 1) (j 2) := by
  refine (dats m 0 c).arrAt_eq_of_covers 4 _ (by decide +kernel) fun t hf y => ?_
  refine (show _ = _ from congrFun (Value.flushed4 m c t) y).trans ?_
  blk_simp
  idx_vars y
  obtain rfl : y0 = 0 := Subsingleton.elim _ _
  refine (show _ = _ from block_read (in0 m c t) (in1 m c t) (in2 m c t) (in3 m c t) y1 y2).trans ?_
  have e0 : ((View.whole main_v4).slice (win0_4.rect t)).emb (ix3 0 y1 y2) = ix3 (cB t) (cS t y1) y2 := by
    blk_ext [idx t, cB, cS]
  rw [e0]
  simp only [in0_read, in1_read, in2_read, in3_read]
  rfl

end Kernel

section Reference
open Cert.Reference4Ideal Cert.Reference4Ideal.Gen

/-- The reference's projection at an index. -/
theorem ref_read (x : FVec Ideal S4x8192x1024 .f32) (sc sh : FVec Ideal S4x1x1024 .f32) (w : FVec Ideal S1x1024x3072 .f32) (b : Fin 4) (s : Fin 8192) (e : Fin 3072) :
    (truncf .bf16 (Host.dotGeneral (F := Ideal) dot_S4x8192x1024_S1024x3072_S4x8192x3072_2_0_01_1_n_n none
      (addf (mulf x (broadcastInDim S4x8192x1024 ![0, 1, 2] bcast_S4x1x1024_S4x8192x1024_0_1_2 (addf (broadcastInDim S4x1x1024 ![] bcast_S_S4x1x1024 (constant S_ .f32 0x3F800000#32)) sc)))
        (broadcastInDim S4x8192x1024 ![0, 1, 2] bcast_S4x1x1024_S4x8192x1024_0_1_2 sh))
      (shapeCast S1024x3072 w shapeCasts_S1x1024x3072_S1024x3072)) bitsLt_bf16_f32 : FVec Ideal S4x8192x3072 .bf16) (ix3 b s e) = proj x sc sh w b s e := by
  pointwise [proj]

end Reference

end Cert.Proj4
-- ==== Proof.RetFold.lean ====
module

public import proofs.«01_k».proof.Proof.Gen.Kernel8Ideal.Value
public import Idealize.ShloMosaic.Lib.VecWindow
public import Idealize.ShloMosaic.Lib.WholeRead

/-! What one grid point of the retention kernel leaves in its output block and in its state, as plain functions of its
    input blocks and the state before. -/

@[expose] public section

set_option maxRecDepth 16384

noncomputable section

namespace Cert.Ret

open Cert.Kernel8Ideal Cert.Kernel8Ideal.Gen
open Idealize.ShloMosaic Idealize.ShloMosaic.TcCoe

variable {F : FTy → Type} [FloatOps F]

/-- The head's logarithm of the decay, read from the table. -/
def lgOf (i : grid0.Coords) (x0 : Vec F S4 .f32) : Elt F .f32 :=
  x0 ((Rect.unit (s := S4) (k0_off1 i) S1.size (Facts₀.k0_off1_inb i)).toLoadRect.idx (Shape.Idx.first (s := S1) (by decide)))

/-- The part of the rows that comes from the block itself. -/
def intraP (sl : Elt F .f32) (x1 x2 x3 : Vec F S1x256x128 .bf16) : FVec F S256x128 .f32 :=
  k0_pay10 sl (k0_pay3 x1) (k0_pay4 x2) (k0_pay5 x3) (iota .tc S256x256 32 [0] iota_S256x256_d0_w32) k0_pay6 k0_pay7 k0_pay8

/-- The output block. -/
def outP (sl : Elt F .f32) (x1 x2 x3 x4 : Vec F S1x256x128 .bf16) (x5 : Vec F S1x1x128 .f32) (st : Vec F S128x128 .f32) : Vec F S1x256x128 .bf16 :=
  k0_pay1 (k0_pay13 sl (k0_pay3 x1) k0_pay9 (intraP sl x1 x2 x3) st k0_pay11) x5 x4

/-- The state after the block. -/
def stP (sl : Elt F .f32) (x2 x3 : Vec F S1x256x128 .bf16) (st : Vec F S128x128 .f32) : Vec F S128x128 .f32 :=
  k0_pay12 sl (k0_pay4 x2) (k0_pay5 x3) k0_pay9 st

section Reads
variable (c : Dev nD) (i : grid0.Coords) (arg3 : Memref sig .tc .smem S4 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x1x128 .f32) (harg8 : arg8.IsWhole) (arg9 : Memref sig .tc .vmem S1x256x128 .bf16) (harg9 : arg9.IsWhole) (arg10 : Memref sig .tc .vmem S128x128 .f32) (harg10 : arg10.IsWhole)
  (x0 : Vec F S4 .f32) (x1 x2 x3 x4 : Vec F S1x256x128 .bf16) (x5 : Vec F S1x1x128 .f32) (acc : Vec F S128x128 .f32)

/-- What the body of a first block has read. -/
theorem head_A : kernelRun0_A.sl.r c i arg3 harg3 x0 = lgOf i x0 ∧ kernelRun0_A.sl.r_1 c arg4 harg4 x1 = k0_pay3 x1
    ∧ kernelRun0_A.sl.r_2 c arg5 harg5 x2 = k0_pay4 x2 ∧ kernelRun0_A.sl.r_3 c arg6 harg6 x3 = k0_pay5 x3
    ∧ kernelRun0_A.sl.v82 (F := F) c arg10 = k0_pay2 :=
  ⟨harg3.readAt_unread x0 _ _, congrArg k0_pay3 ((View.readAt_full _ _ _).trans (harg4.read_unread x1)),
    congrArg k0_pay4 ((View.readAt_full _ _ _).trans (harg5.read_unread x2)), congrArg k0_pay5 ((View.readAt_full _ _ _).trans (harg6.read_unread x3)),
    View.readCov_full _ _ _ _ _⟩

/-- What the body of a later block has read. -/
theorem head_B : kernelRun0_B.sl.r c i arg3 harg3 x0 = lgOf i x0 ∧ kernelRun0_B.sl.r_1 c arg4 harg4 x1 = k0_pay3 x1
    ∧ kernelRun0_B.sl.r_2 c arg5 harg5 x2 = k0_pay4 x2 ∧ kernelRun0_B.sl.r_3 c arg6 harg6 x3 = k0_pay5 x3
    ∧ kernelRun0_B.sl.r_5 (F := F) c arg10 harg10 acc = acc :=
  ⟨harg3.readAt_unread x0 _ _, congrArg k0_pay3 ((View.readAt_full _ _ _).trans (harg4.read_unread x1)),
    congrArg k0_pay4 ((View.readAt_full _ _ _).trans (harg5.read_unread x2)), congrArg k0_pay5 ((View.readAt_full _ _ _).trans (harg6.read_unread x3)),
    (View.readAt_full _ _ _).trans (harg10.read_unread acc)⟩

/-- The output block of a first block. -/
theorem out_A (hc : cond0_0 i) : out0_A_6 c i arg3 harg3 arg4 harg4 arg5 harg5 arg6 harg6 arg7 harg7 arg8 harg8 arg9 harg9 arg10 harg10 hc x0 x1 x2 x3 x4 x5
    = outP (lgOf i x0) x1 x2 x3 x4 x5 k0_pay2 := by
  unfold out0_A_6 kernelRun0_A
  dsimp only
  refine (View.read_writes_full _ _ _ _ _).trans ?_
  have e8 := (View.readAt_full arg8.view (harg8.unread x5) inb_S1x1x128_S1x1x128_0_0_0).trans (harg8.read_unread x5)
  have e7 := (View.readAt_full arg7.view (harg7.unread x4) inb_S1x256x128_S1x256x128_0_0_0).trans (harg7.read_unread x4)
  have a := head_A c i arg3 harg3 arg4 harg4 arg5 harg5 arg6 harg6 arg10 x0 x1 x2 x3
  refine (congrArg₂ (fun g s => k0_pay1 _ g s) e8 e7).trans ?_
  unfold kernelRun0_A.sl.r_5 kernelRun0_A.sl.r_4
  rw [a.1, a.2.1, a.2.2.1, a.2.2.2.1, a.2.2.2.2]
  rfl

/-- The state a first block leaves. -/
theorem st_A (hc : cond0_0 i) : sout0_A_0 c i arg3 harg3 arg4 harg4 arg5 harg5 arg6 harg6 arg7 harg7 arg8 harg8 arg9 harg9 arg10 harg10 hc x0 x1 x2 x3 x4 x5
    = stP (lgOf i x0) x2 x3 k0_pay2 := by
  unfold sout0_A_0 kernelRun0_A
  dsimp only
  refine (View.read_writes_full _ _ _ _ _).trans ?_
  have a := head_A c i arg3 harg3 arg4 harg4 arg5 harg5 arg6 harg6 arg10 x0 x1 x2 x3
  rw [a.1, a.2.2.1, a.2.2.2.1, a.2.2.2.2]
  rfl

/-- The output block of a later block. -/
theorem out_B (hc : ¬cond0_0 i) : out0_B_6 c i arg3 harg3 arg4 harg4 arg5 harg5 arg6 harg6 arg7 harg7 arg8 harg8 arg9 harg9 arg10 harg10 hc x0 x1 x2 x3 x4 x5 acc
    = outP (lgOf i x0) x1 x2 x3 x4 x5 acc := by
  unfold out0_B_6 kernelRun0_B
  dsimp only
  refine (View.read_writes_full _ _ _ _ _).trans ?_
  have e8 := (View.readAt_full arg8.view (harg8.unread x5) inb_S1x1x128_S1x1x128_0_0_0).trans (harg8.read_unread x5)
  have e7 := (View.readAt_full arg7.view (harg7.unread x4) inb_S1x256x128_S1x256x128_0_0_0).trans (harg7.read_unread x4)
  have a := head_B c i arg3 harg3 arg4 harg4 arg5 harg5 arg6 harg6 arg10 harg10 x0 x1 x2 x3 acc
  refine (congrArg₂ (fun g s => k0_pay1 _ g s) e8 e7).trans ?_
  unfold kernelRun0_B.sl.r_6 kernelRun0_B.sl.r_4
  rw [a.1, a.2.1, a.2.2.1, a.2.2.2.1, a.2.2.2.2]
  rfl

/-- The state a later block leaves. -/
theorem st_B (hc : ¬cond0_0 i) : sout0_B_0 c i arg3 harg3 arg4 harg4 arg5 harg5 arg6 harg6 arg7 harg7 arg8 harg8 arg9 harg9 arg10 harg10 hc x0 x1 x2 x3 x4 x5 acc
    = stP (lgOf i x0) x2 x3 acc := by
  unfold sout0_B_0 kernelRun0_B
  dsimp only
  refine (View.read_writes_full _ _ _ _ _).trans ?_
  have a := head_B c i arg3 harg3 arg4 harg4 arg5 harg5 arg6 harg6 arg10 harg10 x0 x1 x2 x3 acc
  rw [a.1, a.2.2.1, a.2.2.2.1, a.2.2.2.2]
  rfl

end Reads

end Cert.Ret
-- ==== Proof.RetSum.lean ====
module

public import proofs.«01_k».proof.Proof.Chunk

/-! Retention as one sum over the positions of the chunks up to one's own, and the running state that gives the same
    sum block by block. -/

@[expose] public section

noncomputable section

namespace Cert.Ret

open Finset

/-- The decay over `x` positions. -/
def gam (l x : ℝ) : ℝ := Real.exp (l * x)

/-- Decays multiply as the distances add. -/
theorem gam_add (l x y : ℝ) : gam l (x + y) = gam l x * gam l y := by
  unfold gam; rw [mul_add, Real.exp_add]

variable (l a : ℝ) (q k v : ℕ → Fin 128 → ℝ)

/-- The state after the first `N` positions. -/
def state (N : ℕ) (d e : Fin 128) : ℝ := ∑ s ∈ range N, gam l ((N : ℝ) - 1 - s) * (a * k s d * v s e)

/-- One position's part in a row. -/
def term (t s : ℕ) (e : Fin 128) : ℝ := gam l |(t : ℝ) - s| * a * (∑ d, q t d * k s d) * v s e

/-- The row: the sum over the positions of the chunks up to its own. -/
def row (t : ℕ) (e : Fin 128) : ℝ := ∑ s ∈ range (64 * (t / 64 + 1)), term l a q k v t s e

/-- The empty state. -/
theorem state_zero (d e : Fin 128) : state l a k v 0 d e = 0 := by simp [state]

/-- The state after one more block. -/
theorem state_add (N B : ℕ) (d e : Fin 128) :
    state l a k v (N + B) d e = gam l B * state l a k v N d e + ∑ c : Fin B, gam l ((B : ℝ) - 1 - (c.val : ℝ)) * (a * k (N + c.val) d * v (N + c.val) e) := by
  unfold state
  rw [sum_range_add, mul_sum, ← Fin.sum_univ_eq_sum_range (fun x => gam l (((N + B : ℕ) : ℝ) - 1 - ((N + x : ℕ) : ℝ)) * (a * k (N + x) d * v (N + x) e)) B]
  congr 1
  · refine sum_congr rfl fun s _ => ?_
    rw [show ((N + B : ℕ) : ℝ) - 1 - s = (B : ℝ) + ((N : ℝ) - 1 - s) by push_cast; ring, gam_add, mul_assoc]
  · refine sum_congr rfl fun s _ => ?_
    congr 2; push_cast; ring

/-- What the state gives a row at the distance `r` into the next block. -/
theorem inter_sum (N r : ℕ) (e : Fin 128) :
    ∑ d, q (N + r) d * gam l ((r : ℝ) + 1) * state l a k v N d e = ∑ s ∈ range N, term l a q k v (N + r) s e := by
  unfold state term
  simp only [mul_sum, sum_mul]
  rw [sum_comm]
  refine sum_congr rfl fun s hs => ?_
  have hs : s < N := mem_range.1 hs
  have h : |((N + r : ℕ) : ℝ) - s| = ((r : ℝ) + 1) + ((N : ℝ) - 1 - s) := by
    have : (s : ℝ) ≤ N := by exact_mod_cast hs.le
    rw [abs_of_nonneg (by push_cast; have : (0 : ℝ) ≤ r := Nat.cast_nonneg r; linarith)]
    push_cast; ring
  rw [h, gam_add l ((r : ℝ) + 1)]
  refine sum_congr rfl fun d _ => ?_
  ring

/-- A row from its block of 64 and the state before it. -/
theorem row_64 (n r : ℕ) (hr : r < 64) (e : Fin 128) :
    row l a q k v (64 * n + r) e = ∑ c : Fin 64, term l a q k v (64 * n + r) (64 * n + c.val) e + ∑ d, q (64 * n + r) d * gam l ((r : ℝ) + 1) * state l a k v (64 * n) d e := by
  rw [inter_sum, row, show 64 * ((64 * n + r) / 64 + 1) = 64 * n + 64 by omega, sum_range_add, add_comm,
    ← Fin.sum_univ_eq_sum_range (fun x => term l a q k v (64 * n + r) (64 * n + x) e) 64]

/-- A row from its block of 256 and the state before it. -/
theorem row_256 (n r : ℕ) (hr : r < 256) (e : Fin 128) :
    row l a q k v (256 * n + r) e = ∑ c : Fin 256, (if c.val / 64 ≤ r / 64 then term l a q k v (256 * n + r) (256 * n + c.val) e else 0)
      + ∑ d, q (256 * n + r) d * gam l ((r : ℝ) + 1) * state l a k v (256 * n) d e := by
  rw [inter_sum, row, show 64 * ((256 * n + r) / 64 + 1) = 256 * n + 64 * (r / 64 + 1) by omega, sum_range_add, add_comm,
    Fin.sum_univ_eq_sum_range (fun x => if x / 64 ≤ r / 64 then term l a q k v (256 * n + r) (256 * n + x) e else 0) 256, ← sum_filter]
  congr 1
  refine sum_congr (Finset.ext fun x => ?_) fun _ _ => rfl
  rw [mem_filter, mem_range, mem_range]
  omega

end Cert.Ret
-- ==== Proof.Out.lean ====
module

public import Idealize.ShloMosaic.Lib.Pipeline.ValueKit
public import Idealize.ShloMosaic.Lib.Claim
public import Idealize.ShloMosaic.Lib.Routing.OpsOne

/-! The rows after a layer's output projection: the residual sum, the layer norm, the rows for the experts and their
    router logits; and how the router's matrix and bias, set row by row, are read. -/

@[expose] public section

noncomputable section

namespace Cert.Out

open Idealize.ShloMosaic Idealize.ShloMosaic.TcCoe Idealize.SL.Sem Idealize.ShloMosaic.Routing

/-- The mean of a row. -/
def mean (y : Fin 1024 → EReal) : EReal := Ideal.div (∑ k, y k) (Ideal.ofBits .f32 0x44800000#32)

/-- The layer norm of a row with a gain and a bias. -/
def normed (y g b : Fin 1024 → EReal) (e : Fin 1024) : EReal :=
  (y e - mean y) * Ideal.rsqrt (mean (fun k => (y k - mean y) * (y k - mean y)) + Ideal.ofBits .f32 0x3727C5AC#32) * g e + b e

/-- The residual sum: the row times alpha and the gated mix, the gate one more than its argument. -/
def resid (x g1 mix : Fin 1024 → EReal) (k : Fin 1024) : EReal :=
  Ideal.ofBits .f32 0x3FB504F3#32 * x k + (Ideal.ofBits .f32 0x3F800000#32 + g1 k) * mix k

/-- The row for the experts: the normed row scaled and shifted. -/
def modded (y sc sh : Fin 1024 → EReal) (k : Fin 1024) : EReal := y k * (Ideal.ofBits .f32 0x3F800000#32 + sc k) + sh k

/-- Row `r` of the router's matrix: the experts' columns, then the groups', then zeros. -/
def weight (wg : FVec Ideal ⟨3, ![2, 1024, 4]⟩ .f32) (wr : FVec Ideal ⟨3, ![2, 1024, 32]⟩ .f32) (l : Fin 2) (r : Fin 40) (k : Fin 1024) : EReal :=
  if h : r.val < 32 then wr (ix3 l k ⟨r.val, h⟩) else if h' : r.val < 36 then wg (ix3 l k ⟨r.val - 32, by omega⟩) else 0

/-- Entry `r` of the router's bias: the experts', then the groups', then zeros. -/
def bias (bg : FVec Ideal ⟨2, ![2, 4]⟩ .f32) (br : FVec Ideal ⟨2, ![2, 32]⟩ .f32) (l : Fin 2) (r : Fin 40) : EReal :=
  if h : r.val < 32 then br (ix2 l ⟨r.val, h⟩) else if h' : r.val < 36 then bg (ix2 l ⟨r.val - 32, by omega⟩) else 0

section Arrays

variable (mix : Fin 4 → Fin 8192 → Fin 1024 → EReal) (x : FVec Ideal ⟨3, ![4, 8192, 1024]⟩ .f32) (g1 sc sh : FVec Ideal ⟨3, ![4, 1, 1024]⟩ .f32)
  (lg lb : FVec Ideal ⟨2, ![2, 1024]⟩ .f32) (wg : FVec Ideal ⟨3, ![2, 1024, 4]⟩ .f32) (bg : FVec Ideal ⟨2, ![2, 4]⟩ .f32)
  (wr : FVec Ideal ⟨3, ![2, 1024, 32]⟩ .f32) (br : FVec Ideal ⟨2, ![2, 32]⟩ .f32) (l : Fin 2)

/-- The layer's rows after the mix. -/
def outX (b : Fin 4) (s : Fin 8192) (e : Fin 1024) : EReal :=
  normed (resid (fun k => x (ix3 b s k)) (fun k => g1 (ix3 b 0 k)) (mix b s)) (fun k => lg (ix2 l k)) (fun k => lb (ix2 l k)) e

/-- The rows for the experts. -/
def outU (b : Fin 4) (s : Fin 8192) (e : Fin 1024) : EReal :=
  modded (outX mix x g1 lg lb l b s) (fun k => sc (ix3 b 0 k)) (fun k => sh (ix3 b 0 k)) e

/-- The router logits. -/
def outL (r : Fin 40) (b : Fin 4) (s : Fin 8192) : EReal :=
  ∑ k : Fin 1024, outU mix x g1 sc sh lg lb l b s k * weight wg wr l r k + bias bg br l r

end Arrays

/-- The batch of a flat row. -/
def rowB (n : Fin 32768) : Fin 4 := ⟨n.val / 8192, by omega⟩
/-- The position of a flat row. -/
def rowS (n : Fin 32768) : Fin 8192 := ⟨n.val % 8192, by omega⟩

section Scatter

variable {A N U : ℕ}

/-- Update `(u, k')` of `x.at[i : i + U].set(v)` lands at `(r, k)` exactly when `r` is `i + u` and `k` is `k'`. -/
theorem lands_rows (d : ScatterDims (shape2 A N) (shape1 1) (shape2 U N)) (huw : d.updateWindowDims = [0, 1]) (hiw : d.insertedWindowDims = [])
    (hsd : d.scatterDimsToOperandDims = [0]) (idx : IVec (shape1 1) 32) (u : Fin U) (k' k : Fin N) (r : Fin A) :
    d.resultIdx? (ValueIdx.ix2 u k') idx = some (ValueIdx.ix2 r k) ↔ (idx (ValueIdx.ix1 0)).toInt + (u.val : Int) = r.val ∧ k' = k := by
  have hkept : d.sKept = [0, 1] := by
    show (shape2 A N).kept d.insertedWindowDims = _
    rw [hiw]
    rfl
  have hm : (0 : Fin 2) ∈ d.scatterDimsToOperandDims := by rw [hsd]; exact List.mem_singleton.2 rfl
  have get : ∀ (q : Fin 2) (L : List (Fin 2)) (hL : L = [0, 1]) (P : List (Fin 2)) (hP : P = [0, 1]) (h : P.idxOf q < L.length), L[P.idxOf q]'h = q := by
    rintro q L rfl P rfl h
    fin_cases q <;> rfl
  have hwin : ∀ q : Fin 2, d.window (ValueIdx.ix2 u k') q = (ValueIdx.ix2 u k' q : ℕ) := fun q => by
    unfold ScatterDims.window
    rw [dif_pos (by rw [hkept]; fin_cases q <;> simp)]
    exact congrArg (fun t : Fin 2 => ((ValueIdx.ix2 u k' : (shape2 U N).Idx) t).val) (get q _ huw _ hkept _)
  have hstart1 : d.start (ValueIdx.ix2 u k') idx 1 = 0 := by
    unfold ScatterDims.start
    rw [dif_neg fun h => by rw [hsd] at h; exact absurd (List.mem_singleton.1 h) (by decide : (1 : Fin 2) ≠ 0)]
  have hstart0 : d.start (ValueIdx.ix2 u k') idx 0 = (idx (ValueIdx.ix1 0)).toInt := by
    unfold ScatterDims.start
    rw [dif_pos hm]
    refine congrArg (fun t => (idx t).toInt) (funext fun b' => ?_)
    match b' with
    | ⟨0, _⟩ => exact Subsingleton.elim (α := Fin 1) _ _
  rw [Fin.ext_iff, resultIdx?_ix2, hstart0, hstart1, hwin, hwin]
  show (idx (ValueIdx.ix1 0)).toInt + (u.val : Int) = r.val ∧ (0 : Int) + (k'.val : Int) = k.val ↔ _
  omega

/-- `x.at[i : i + U].set(v)` read at a row and a column: row `r - i` of `v` where `r` is one of the `U` rows from `i`, the
    operand elsewhere. -/
theorem scatter_rows {α : Type} (d : ScatterDims (shape2 A N) (shape1 1) (shape2 U N)) (huw : d.updateWindowDims = [0, 1]) (hiw : d.insertedWindowDims = [])
    (hsd : d.scatterDimsToOperandDims = [0]) (x0 : (shape2 A N).Idx → α) (idx : IVec (shape1 1) 32) (upd : (shape2 U N).Idx → α)
    (i : ℕ) (hi : (idx (ValueIdx.ix1 0)).toInt = (i : Int)) (r : Fin A) (k : Fin N) :
    Host.scatter d (fun _ b => b) x0 idx upd (ValueIdx.ix2 r k) = if h : i ≤ r.val ∧ r.val < i + U then upd (ValueIdx.ix2 ⟨r.val - i, by omega⟩ k) else x0 (ValueIdx.ix2 r k) := by
  have lands : ∀ j : (shape2 U N).Idx, d.resultIdx? j idx = some (ValueIdx.ix2 r k) → (i : Int) + ((j 0).val : Int) = r.val ∧ j 1 = k := fun j hj =>
    hi ▸ (lands_rows d huw hiw hsd idx (j 0) (j 1) k r).1 ((congrArg (fun t => d.resultIdx? t idx) (ValueIdx.eq_ix2 j).symm).trans hj)
  by_cases h : i ≤ r.val ∧ r.val < i + U
  · rw [dif_pos h]
    refine scatter_set_hit d x0 idx upd _ _ (fun j hj => ?_) (ValueIdx.ix2 ⟨r.val - i, by omega⟩ k) ((lands_rows d huw hiw hsd idx _ k k r).2 ⟨?_, rfl⟩)
    · obtain ⟨q, rfl⟩ := lands j hj
      refine (congrArg upd (ValueIdx.eq_ix2 j)).trans (congrArg (fun t => upd (ValueIdx.ix2 t (j 1))) (Fin.ext ?_))
      show (j 0).val = r.val - i
      omega
    · rw [hi]
      show (i : Int) + ((r.val - i : ℕ) : Int) = r.val
      omega
  · rw [dif_neg h]
    refine scatter_set_miss d x0 idx upd _ fun j hj => h ?_
    have q := (lands j hj).1
    have hlt : (j 0).val < U := (j 0).isLt
    omega

/-- `x.at[i : i + U, 0].set(v)` of a column, read at a row: entry `r - i` of `v` where `r` is one of the `U` rows from `i`, the
    operand elsewhere. -/
theorem scatter_entries {α : Type} (d : ScatterDims (shape2 A 1) (shape1 2) (shape1 U)) (hU : 0 < U) (hiw : d.insertedWindowDims = [1])
    (hsd : d.scatterDimsToOperandDims = [0, 1]) (hivd : d.indexVectorDim = 0) (x0 : (shape2 A 1).Idx → α) (idx : IVec (shape1 2) 32) (upd : (shape1 U).Idx → α)
    (i : ℕ) (hi : (idx (ValueIdx.ix1 0)).toInt = (i : Int)) (h0 : (idx (ValueIdx.ix1 1)).toInt = 0) (r : Fin A) :
    Host.scatter d (fun _ b => b) x0 idx upd (ValueIdx.ix2 r 0) = if h : i ≤ r.val ∧ r.val < i + U then upd (ValueIdx.ix1 ⟨r.val - i, by omega⟩) else x0 (ValueIdx.ix2 r 0) := by
  refine (scatter_column_signed d hU hiw hsd hivd x0 idx upd (ValueIdx.ix2 r 0)).trans ?_
  by_cases h : i ≤ r.val ∧ r.val < i + U
  · rw [dif_pos h, if_pos]
    · refine congrArg (fun t => upd (ValueIdx.ix1 t)) (Fin.ext ?_)
      show ((r.val : Int) - (idx (ValueIdx.ix1 0)).toInt).toNat % U = r.val - i
      rw [hi, show ((r.val : Int) - (i : Int)).toNat = r.val - i by omega]
      exact Nat.mod_eq_of_lt (by omega)
    · rw [hi, h0]
      refine ⟨rfl, ?_⟩
      show (i : Int) ≤ (r.val : Int) ∧ (r.val : Int) < i + U
      omega
  · rw [dif_neg h, if_neg]
    rw [hi]
    rintro ⟨-, h1, h2⟩
    refine h ?_
    have h1' : (i : Int) ≤ (r.val : Int) := h1
    have h2' : (r.val : Int) < i + U := h2
    omega

/-- The router's matrix as it is set, the experts' rows over zeros and the groups' rows after them. -/
theorem router_rows (d1 : ScatterDims ⟨2, ![40, 1024]⟩ ⟨1, ![1]⟩ ⟨2, ![32, 1024]⟩) (d2 : ScatterDims ⟨2, ![40, 1024]⟩ ⟨1, ![1]⟩ ⟨2, ![4, 1024]⟩)
    (huw1 : d1.updateWindowDims = [0, 1]) (hiw1 : d1.insertedWindowDims = []) (hsd1 : d1.scatterDimsToOperandDims = [0])
    (huw2 : d2.updateWindowDims = [0, 1]) (hiw2 : d2.insertedWindowDims = []) (hsd2 : d2.scatterDimsToOperandDims = [0])
    (x0 : FVec Ideal ⟨2, ![40, 1024]⟩ .f32) (i1 i2 : IVec ⟨1, ![1]⟩ 32) (u1 : FVec Ideal ⟨2, ![32, 1024]⟩ .f32) (u2 : FVec Ideal ⟨2, ![4, 1024]⟩ .f32)
    (wg : FVec Ideal ⟨3, ![2, 1024, 4]⟩ .f32) (wr : FVec Ideal ⟨3, ![2, 1024, 32]⟩ .f32) (l : Fin 2)
    (h0 : ∀ q k, x0 (ix2 q k) = (0 : EReal)) (hi1 : (i1 (ix1 0)).toInt = 0) (hi2 : (i2 (ix1 0)).toInt = 32)
    (h1 : ∀ q k, u1 (ix2 q k) = wr (ix3 l k q)) (h2 : ∀ q k, u2 (ix2 q k) = wg (ix3 l k q)) (q : Fin 40) (k : Fin 1024) :
    Host.scatter d2 (fun _ b => b) (Host.scatter d1 (fun _ b => b) x0 i1 u1) i2 u2 (ix2 q k) = weight wg wr l q k := by
  refine (scatter_rows d2 huw2 hiw2 hsd2 _ i2 u2 32 hi2 q k).trans ?_
  unfold weight
  by_cases h : q.val < 32
  · rw [dif_neg (by omega), dif_pos h]
    refine (scatter_rows d1 huw1 hiw1 hsd1 x0 i1 u1 0 hi1 q k).trans ?_
    rw [dif_pos (by omega)]
    exact h1 _ _
  · rw [dif_neg h]
    by_cases h' : q.val < 36
    · rw [dif_pos (by omega), dif_pos h']
      exact h2 _ _
    · rw [dif_neg (by omega), dif_neg h']
      refine (scatter_rows d1 huw1 hiw1 hsd1 x0 i1 u1 0 hi1 q k).trans ?_
      rw [dif_neg (by omega)]
      exact h0 _ _

/-- The router's bias as it is set, the experts' entries over zeros and the groups' entries after them. -/
theorem router_entries (d1 : ScatterDims ⟨2, ![40, 1]⟩ ⟨1, ![2]⟩ ⟨1, ![32]⟩) (d2 : ScatterDims ⟨2, ![40, 1]⟩ ⟨1, ![2]⟩ ⟨1, ![4]⟩)
    (hiw1 : d1.insertedWindowDims = [1]) (hsd1 : d1.scatterDimsToOperandDims = [0, 1]) (hv1 : d1.indexVectorDim = 0)
    (hiw2 : d2.insertedWindowDims = [1]) (hsd2 : d2.scatterDimsToOperandDims = [0, 1]) (hv2 : d2.indexVectorDim = 0)
    (x0 : FVec Ideal ⟨2, ![40, 1]⟩ .f32) (i1 i2 : IVec ⟨1, ![2]⟩ 32) (u1 : FVec Ideal ⟨1, ![32]⟩ .f32) (u2 : FVec Ideal ⟨1, ![4]⟩ .f32)
    (bg : FVec Ideal ⟨2, ![2, 4]⟩ .f32) (br : FVec Ideal ⟨2, ![2, 32]⟩ .f32) (l : Fin 2)
    (h0 : ∀ q, x0 (ix2 q 0) = (0 : EReal)) (hi1 : (i1 (ix1 0)).toInt = 0) (hj1 : (i1 (ix1 1)).toInt = 0) (hi2 : (i2 (ix1 0)).toInt = 32) (hj2 : (i2 (ix1 1)).toInt = 0)
    (h1 : ∀ q, u1 (ix1 q) = br (ix2 l q)) (h2 : ∀ q, u2 (ix1 q) = bg (ix2 l q)) (q : Fin 40) :
    Host.scatter d2 (fun _ b => b) (Host.scatter d1 (fun _ b => b) x0 i1 u1) i2 u2 (ix2 q 0) = bias bg br l q := by
  refine (scatter_entries d2 (by decide) hiw2 hsd2 hv2 _ i2 u2 32 hi2 hj2 q).trans ?_
  unfold bias
  by_cases h : q.val < 32
  · rw [dif_neg (by omega), dif_pos h]
    refine (scatter_entries d1 (by decide) hiw1 hsd1 hv1 x0 i1 u1 0 hi1 hj1 q).trans ?_
    rw [dif_pos (by omega)]
    exact h1 _
  · rw [dif_neg h]
    by_cases h' : q.val < 36
    · rw [dif_pos (by omega), dif_pos h']
      exact h2 _
    · rw [dif_neg (by omega), dif_neg h']
      refine (scatter_entries d1 (by decide) hiw1 hsd1 hv1 x0 i1 u1 0 hi1 hj1 q).trans ?_
      rw [dif_neg (by omega)]
      exact h0 _

end Scatter

end Cert.Out
-- ==== Proof.Ada.lean ====
module

public import proofs.«01_k».proof.Proof.Gen.Kernel7Ideal.Value
public import proofs.«01_k».proof.Proof.Gen.Reference7Ideal.Run
public import proofs.«01_k».proof.Proof.Out
public import Idealize.ShloMosaic.Lib.Pipeline.ValueKit
public import Idealize.ShloMosaic.Lib.Claim

/-! The modulation of both layers from the condition: the kernel's output array and the reference's. -/

@[expose] public section

set_option maxRecDepth 16384

noncomputable section

namespace Cert.Ada

open Idealize.ShloMosaic Idealize.ShloMosaic.TcCoe Idealize.SL.Sem

/-- The gated condition: the number times its logistic. -/
def gated (x : EReal) : EReal := x * Ideal.div 1 (1 + Ideal.exp (-x))

/-- A row of the condition, zero after the batches. -/
def row (a : FVec Ideal ⟨2, ![4, 1024]⟩ .f32) (r : Fin 8) (k : Fin 1024) : EReal := if h : r.val < 4 then a (ix2 ⟨r.val, h⟩ k) else 0

/-- The modulation: the gated row times a layer's weights, and its bias. -/
def ada (a : FVec Ideal ⟨2, ![4, 1024]⟩ .f32) (w : FVec Ideal ⟨3, ![2, 1024, 6144]⟩ .f32) (b : FVec Ideal ⟨2, ![2, 6144]⟩ .f32) (l : Fin 2) (r : Fin 8) (e : Fin 6144) : EReal :=
  ∑ k : Fin 1024, gated (row a r k) * w (ix3 l k e) + b (ix2 l e)

section Kernel
open Cert.Kernel7Ideal Cert.Kernel7Ideal.Gen Cert.Kernel7Ideal.Value

/-- The body's output block at an index. -/
theorem block_read (x0 : FVec Ideal S8x1024 .f32) (x1 : FVec Ideal S1x1024x1536 .f32) (x2 : FVec Ideal S1x1x1536 .f32) (r : Fin 8) (e : Fin 1536) :
    out0_3 (F := Ideal) x0 x1 x2 (ix3 0 r e) = ∑ k : Fin 1024, gated (x0 (ix2 r k)) * x1 (ix3 0 k e) + x2 (ix3 0 0 e) := by
  have z3 : (![0, 0, 0] : Fin 3 → ℕ) = fun _ => 0 := by decide
  have z2 : (![0, 0] : Fin 2 → ℕ) = fun _ => 0 := by decide
  unfold out0_3
  rw [View.canon_unit_zero (S := S1x8x1536) z3, View.ld_unit_zero (S := S8x1024) z2, View.ld_unit_zero (S := S1x1024x1536) z3,
    View.ld_unit_zero (S := S1x1x1536) z3]
  simp only [gated, ← zero_sub]
  pointwise [k0_pay1]

/-- The windows' block indices at a grid point. -/
theorem idx : ∀ t : Fin cfg0.N, win0_0.index t = ![0, 0]
    ∧ win0_1.index t = ![(grid0.coords t 0).val, 0, (grid0.coords t 1).val] ∧ win0_2.index t = ![(grid0.coords t 0).val, 0, (grid0.coords t 1).val]
    ∧ win0_3.index t = ![(grid0.coords t 0).val, 0, (grid0.coords t 1).val] :=
  (by decide +kernel : ∀ t : Fin grid0.N, _)

variable (m : (ℓ : Loc nD τ sig) → Buf (Elt Ideal) ℓ) (c : Dev nD) (t : Fin cfg0.N)

/-- The layer of a grid point. -/
def cL : Fin 2 := ⟨(grid0.coords t 0).val, (grid0.coords t 0).isLt⟩
/-- The columns of a grid point. -/
def cE (e : Fin 1536) : Fin 6144 := ⟨(grid0.coords t 1).val * 1536 + e.val, by have := (grid0.coords t 1).isLt; simp at *; omega⟩

/-- The rows of the condition. -/
def in0 : FVec Ideal S8x1024 .f32 := iblk m c 0 t
/-- The weights of a grid point. -/
def in1 : FVec Ideal S1x1024x1536 .f32 := iblk m c 1 t
/-- The bias of a grid point. -/
def in2 : FVec Ideal S1x1x1536 .f32 := iblk m c 2 t

/-- The rows of the condition, set over zeros. -/
theorem in0_read (r : Fin 8) (k : Fin 1024) : in0 m c t (ix2 r k) = row (m ((c : Thread nD τ).loc main_arg0)) r k := by
  show (show FVec Ideal S8x1024 .f32 from iblk m c 0 t) (ix2 r k) = _
  have e : ((View.whole main_v2).slice (win0_0.rect t)).emb (ix2 r k) = ix2 r k := by
    blk_ext [idx t]
  blk_simp [iblk]
  entry_read
  rw [e]
  refine (Cert.Out.scatter_rows scatter_S8x1024_S1_S4x1024_01_n_0_0 rfl rfl rfl _ _ _ 0 (by rfl) r k).trans ?_
  unfold row
  by_cases h : r.val < 4
  · rw [dif_pos (by omega), dif_pos h]
    rfl
  · rw [dif_neg (by omega), dif_neg h]
    pointwise

/-- The weights. -/
theorem in1_read (k : Fin 1024) (e : Fin 1536) : in1 m c t (ix3 0 k e) = m ((c : Thread nD τ).loc main_arg1) (ix3 (cL t) k (cE t e)) := by
  show (show FVec Ideal S1x1024x1536 .f32 from iblk m c 1 t) (ix3 0 k e) = _
  blk_ext [iblk, V, idx t, cL, cE]

/-- The bias. -/
theorem in2_read (e : Fin 1536) : in2 m c t (ix3 0 0 e) = m ((c : Thread nD τ).loc main_arg2) (ix2 (cL t) (cE t e)) := by
  show (show FVec Ideal S1x1x1536 .f32 from iblk m c 2 t) (ix3 0 0 e) = _
  have h : ((View.whole main_v3).slice (win0_2.rect t)).emb (ix3 0 0 e) = ix3 (cL t) 0 (cE t e) := by
    blk_ext [idx t, cL, cE]
  blk_simp [iblk]
  entry_read
  rw [h]
  pointwise

/-- The kernel's output array is the modulation of the arguments. -/
theorem final : (dats m 0 c).arrAt 3 cfg0.N = fun j : S2x8x6144.Idx => ada (m ((c : Thread nD τ).loc main_arg0)) (m ((c : Thread nD τ).loc main_arg1)) (m ((c : Thread nD τ).loc main_arg2)) (j 0) (j 1) (j 2) := by
  refine (dats m 0 c).arrAt_eq_of_covers 3 _ (by decide +kernel) fun t hf y => ?_
  refine (show _ = _ from congrFun (Value.flushed3 m c t) y).trans ?_
  blk_simp
  idx_vars y
  obtain rfl : y0 = 0 := Subsingleton.elim _ _
  refine (show _ = _ from block_read (in0 m c t) (in1 m c t) (in2 m c t) y1 y2).trans ?_
  have e0 : ((View.whole main_v4).slice (win0_3.rect t)).emb (ix3 0 y1 y2) = ix3 (cL t) y1 (cE t y2) := by
    blk_ext [idx t, cL, cE]
  rw [e0]
  simp only [in0_read, in1_read, in2_read]
  rfl

end Kernel

section Reference
open Cert.Reference7Ideal Cert.Reference7Ideal.Gen

/-- A gated zero is zero. -/
theorem gated_zero : gated 0 = 0 := zero_mul _

/-- The reference's modulation at an index. -/
theorem ref_read (a : FVec Ideal S4x1024 .f32) (w : FVec Ideal S2x1024x6144 .f32) (b : FVec Ideal S2x6144 .f32) (l : Fin 2) (r : Fin 8) (e : Fin 6144) :
    (addf (transpose S2x8x6144 [0, 2, 1] (Host.dotGeneral (F := Ideal) dot_S2x1024x6144_S8x1024_S2x6144x8_1_1_02_0_n_n none w (concatenate S8x1024 0 [⟨S4x1024, (mulf a (Host.divf (broadcastInDim S4x1024 ![] bcast_S_S4x1024 (constant S_ .f32 0x3F800000#32)) (addf (broadcastInDim S4x1024 ![] bcast_S_S4x1024 (constant S_ .f32 0x3F800000#32)) (Host.exp (Host.negf a)))))⟩, ⟨S4x1024, (broadcastInDim S4x1024 ![] bcast_S_S4x1024 (constant S_ .f32 0x00000000#32))⟩] concatenates_S4x1024_S4x1024_S8x1024_d0)) transposes_S2x6144x8_S2x8x6144_0_2_1)
      (broadcastInDim S2x8x6144 ![0, 1, 2] bcast_S2x1x6144_S2x8x6144_0_1_2 (broadcastInDim S2x1x6144 ![0, 2] bcast_S2x6144_S2x1x6144_0_2 b)) : FVec Ideal S2x8x6144 .f32) (ix3 l r e) = ada a w b l r e := by
  have g : ∀ k : Fin 1024, gated (row a r k) = if h : r.val < 4 then a (ix2 ⟨r.val, h⟩ k) * Ideal.div 1 (1 + Ideal.exp (-a (ix2 ⟨r.val, h⟩ k))) else 0 := fun k => by
    unfold row
    by_cases h : r.val < 4
    · rw [dif_pos h, dif_pos h]
      rfl
    · rw [dif_neg h, dif_neg h]
      exact gated_zero
  unfold ada
  simp only [g]
  refine Eq.trans ?_ (congrArg (· + _) (Finset.sum_congr rfl fun k _ => mul_comm (w (ix3 l k e) : EReal) _))
  pointwise

end Reference

end Cert.Ada
-- ==== Proof.RetPoint.lean ====
module

public import proofs.«01_k».proof.Proof.RetFold
public import proofs.«01_k».proof.Proof.RetSum
public import proofs.«01_k».proof.Proof.Words
public import proofs.«01_k».proof.Proof.Online
public import proofs.«01_k».proof.Proof.Ada

/-! The retention kernel's block at an index. -/

@[expose] public section

set_option maxRecDepth 16384

noncomputable section

namespace Cert.Ret

open Idealize.ShloMosaic Idealize.ShloMosaic.TcCoe

/-- The scale of the keys. -/
def sc : EReal := Ideal.ofBits .f32 0x3DB504F3#32

/-- The mean of a row. -/
def meanv (o : Fin 128 → EReal) : EReal := Ideal.div (∑ e, o e) (Ideal.ofBits .f32 0x43000000#32)

/-- A row less its mean, over the root of its variance. -/
def normed (o : Fin 128 → EReal) (e : Fin 128) : EReal :=
  (o e - meanv o) * Ideal.rsqrt (Ideal.div (∑ x, (o x - meanv o) * (o x - meanv o)) (Ideal.ofBits .f32 0x43000000#32) + Ideal.ofBits .f32 0x3727C5AC#32)

/-- A small number read as a float. -/
theorem sit (n : ℕ) (h : n < 2 ^ 31) : FloatOps.sitofp (F := Ideal) FTy.f32 (BitVec.ofNat 32 n) = ((n : ℝ) : EReal) := by
  show (((BitVec.ofNat 32 n).toInt : ℝ) : EReal) = _
  rw [Cert.Diff.toInt_nat n h]; norm_num

/-- The literals of the two programs. -/
theorem b256 : Ideal.ofBits .f32 0x43800000#32 = ((256 : ℝ) : EReal) := by simp [Ideal.ofBits, Ideal.ieee, ← EReal.coe_mul]; norm_num
theorem b255 : Ideal.ofBits .f32 0x437F0000#32 = ((255 : ℝ) : EReal) := by simp [Ideal.ofBits, Ideal.ieee, ← EReal.coe_mul]; norm_num
theorem b64 : Ideal.ofBits .f32 0x42800000#32 = ((64 : ℝ) : EReal) := by simp [Ideal.ofBits, Ideal.ieee, ← EReal.coe_mul]; norm_num
theorem b63 : Ideal.ofBits .f32 0x427C0000#32 = ((63 : ℝ) : EReal) := by simp [Ideal.ofBits, Ideal.ieee, ← EReal.coe_mul]; norm_num

section Kernel
open Cert.Kernel8Ideal Cert.Kernel8Ideal.Gen

variable (sl : EReal) (x1 x2 x3 x4 : FVec Ideal S1x256x128 .bf16) (x5 : FVec Ideal S1x1x128 .f32) (st : FVec Ideal S128x128 .f32)

/-- The row before it is normed. -/
def rowP (r : Fin 256) (e : Fin 128) : EReal :=
  intraP (F := Ideal) sl x1 x2 x3 (ix2 r e) + ∑ d : Fin 128, x1 (ix3 0 r d) * Ideal.exp (sl * ((r.val : ℝ) + 1 : ℝ)) * st (ix2 d e)

/-- The block's own part. -/
theorem intra_read (r : Fin 256) (e : Fin 128) : intraP (F := Ideal) sl x1 x2 x3 (ix2 r e)
    = ∑ c : Fin 256, (∑ d : Fin 128, x1 (ix3 0 r d) * x2 (ix3 0 c d)) * (if c.val / 64 ≤ r.val / 64 then Ideal.exp (sl * ((|(r.val : ℝ) - c.val| : ℝ) : EReal)) * sc else 0) * x3 (ix3 0 c e) := by
  pointwise [intraP, k0_pay10, k0_pay3, k0_pay4, k0_pay5, k0_pay6, k0_pay7, k0_pay8]
  refine Finset.sum_congr rfl fun c _ => ?_
  rw [Cert.Diff.chunk_word c.val (by omega), Cert.Diff.chunk_word r.val (by omega), Cert.Diff.select_sle _ _ (by omega) (by omega)]
  rw [show FloatOps.sitofp (F := Ideal) FTy.f32 (IntOp.absi (IntOp.subi (BitVec.ofNat 32 r.val) (BitVec.ofNat 32 c.val))) = ((|(r.val : ℝ) - c.val| : ℝ) : EReal) by
    show (((IntOp.absi (IntOp.subi (BitVec.ofNat 32 r.val) (BitVec.ofNat 32 c.val))).toInt : ℝ) : EReal) = _
    rw [Cert.Diff.toInt_dist _ _ (by omega) (by omega)]
    push_cast; rfl]
  split
  · rfl
  · simp

/-- The state after the block. -/
theorem st_read (d e : Fin 128) : stP (F := Ideal) sl x2 x3 st (ix2 d e)
    = Ideal.exp (sl * ((256 : ℝ) : EReal)) * st (ix2 d e) + ∑ c : Fin 256, x2 (ix3 0 c d) * (Ideal.exp (sl * ((255 - (c.val : ℝ) : ℝ) : EReal)) * sc) * x3 (ix3 0 c e) := by
  pointwise [stP, k0_pay12, k0_pay9, k0_pay4, k0_pay5]
  rw [b256]
  congr 1
  refine Finset.sum_congr rfl fun c _ => ?_
  rw [sit c.val (by omega), b255, ← EReal.coe_sub]
  rfl

/-- The output block. -/
theorem out_read (r : Fin 256) (e : Fin 128) : outP (F := Ideal) sl x1 x2 x3 x4 x5 st (ix3 0 r e)
    = normed (rowP sl x1 x2 x3 st r) e * x5 (ix3 0 0 e) * Cert.Ada.gated (x4 (ix3 0 r e)) := by
  pointwise [outP, k0_pay1, k0_pay13, k0_pay9, k0_pay11, k0_pay3, normed, meanv]
  have h : ∀ e, rowP sl x1 x2 x3 st r e = intraP (F := Ideal) sl x1 x2 x3 (ix2 r e) +
      ∑ x : Fin 128, x1 (ix3 0 r x) * Ideal.exp (sl * (FloatOps.sitofp (F := Ideal) FTy.f32 (BitVec.ofNat 32 r.val) + 1)) * st (ix2 x e) := fun e => by
    unfold rowP
    rw [sit r.val (by omega), EReal.coe_add, EReal.coe_one]
  simp only [h, Cert.Ada.gated, zero_sub]

section Reals
variable (L a : ℝ) (q k v : ℕ → Fin 128 → ℝ) (n : ℕ) (hsc : sc = ↑a)
  (hq : ∀ r d, x1 (ix3 0 r d) = ((q (256 * n + r.val) d : ℝ) : EReal)) (hk : ∀ r d, x2 (ix3 0 r d) = ((k (256 * n + r.val) d : ℝ) : EReal))
  (hv : ∀ r d, x3 (ix3 0 r d) = ((v (256 * n + r.val) d : ℝ) : EReal)) (hst : ∀ d e, st (ix2 d e) = ((state L a k v (256 * n) d e : ℝ) : EReal))
include hsc hk hv hst

/-- The state after the block, of reals. -/
theorem st_real (d e : Fin 128) : stP (F := Ideal) (↑L : EReal) x2 x3 st (ix2 d e) = ((state L a k v (256 * (n + 1)) d e : ℝ) : EReal) := by
  rw [st_read]
  simp only [hsc, hk, hv, hst, Ideal.exp_coe, ← EReal.coe_mul, Cert.Diff.sum_coe, ← EReal.coe_add]
  rw [show 256 * (n + 1) = 256 * n + 256 by ring, state_add]
  refine congrArg (fun x : ℝ => (x : EReal)) (congrArg₂ (· + ·) (by unfold gam; norm_num) (Finset.sum_congr rfl fun c _ => ?_))
  rw [show ((256 : ℕ) : ℝ) - 1 - c.val = 255 - c.val by norm_num]
  unfold gam
  ring

include hq

/-- The row before it is normed, of reals. -/
theorem rowP_real (r : Fin 256) (e : Fin 128) : rowP (↑L : EReal) x1 x2 x3 st r e = ((row L a q k v (256 * n + r.val) e : ℝ) : EReal) := by
  have hi : ∀ c : Fin 256, (if c.val / 64 ≤ r.val / 64 then Ideal.exp ((L : EReal) * ((|(r.val : ℝ) - c.val| : ℝ) : EReal)) * sc else 0)
      = (((if c.val / 64 ≤ r.val / 64 then Real.exp (L * |(r.val : ℝ) - c.val|) * a else 0 : ℝ)) : EReal) := fun c => by
    split
    · rw [hsc, ← EReal.coe_mul, Ideal.exp_coe, ← EReal.coe_mul]
    · rfl
  unfold rowP
  rw [intra_read]
  simp only [hi]
  simp only [hq, hk, hv, hst, Ideal.exp_coe, ← EReal.coe_mul, Cert.Diff.sum_coe, ← EReal.coe_add]
  rw [row_256 L a q k v n r.val r.isLt e]
  refine congrArg (fun x : ℝ => (x : EReal)) (congrArg₂ (· + ·) (Finset.sum_congr rfl fun c _ => ?_) (Finset.sum_congr rfl fun d _ => ?_))
  · split
    · unfold term gam
      rw [show ((256 * n + r.val : ℕ) : ℝ) - ((256 * n + c.val : ℕ) : ℝ) = (r.val : ℝ) - c.val by push_cast; ring]
      ring
    · simp
  · unfold gam; rfl

end Reals

end Kernel

end Cert.Ret
-- ==== Proof.RetKernel.lean ====
module

public import proofs.«01_k».proof.Proof.RetPoint
public import Idealize.ShloMosaic.Lib.Pipeline.ValueKit
public import Idealize.ShloMosaic.Lib.Claim

/-! The retention kernel's output array. -/

@[expose] public section

set_option maxRecDepth 16384

noncomputable section

namespace Cert.Ret

open Idealize.ShloMosaic Idealize.ShloMosaic.TcCoe Idealize.SL.Sem

/-- The logarithm of a head's decay. -/
def lgv (h : Fin 4) : EReal :=
  Ideal.log1p (-(Ideal.exp (Ideal.ofBits .f32 0x3F317218#32 * (Ideal.ofBits .f32 0xC0A00000#32 - FloatOps.sitofp (F := Ideal) FTy.f32 (BitVec.ofNat 32 h.val)))))

/-- The logarithm of a head's decay is a real. -/
theorem lgv_real : ∃ l : Fin 4 → ℝ, ∀ h, lgv h = ↑(l h) := by
  suffices H : ∀ h, ∃ r : ℝ, lgv h = ↑r from Classical.skolem.1 H
  intro h
  obtain ⟨k, hk, kp⟩ : ∃ k : ℝ, Ideal.ofBits .f32 0x3F317218#32 = ↑k ∧ 0 < k := by
    refine ⟨_, by simp [Ideal.ofBits, Ideal.ieee, ← EReal.coe_mul]; rfl, by norm_num⟩
  have hl : Ideal.ofBits .f32 0xC0A00000#32 = ((-5 : ℝ) : EReal) := by
    simp [Ideal.ofBits, Ideal.ieee, ← EReal.coe_mul, ← EReal.coe_neg]; norm_num
  have hp : 0 < 1 + -Real.exp (k * (-5 - (h.val : ℝ))) := by
    have : Real.exp (k * (-5 - (h.val : ℝ))) < 1 := by
      rw [← Real.exp_zero]
      exact Real.exp_lt_exp.2 (mul_neg_of_pos_of_neg kp (by have : (0 : ℝ) ≤ h.val := Nat.cast_nonneg _; linarith))
    linarith
  unfold lgv Ideal.log1p
  rw [hk, hl, sit _ (by omega), ← EReal.coe_sub, ← EReal.coe_mul, Ideal.exp_coe, ← EReal.coe_neg, ← EReal.coe_one, ← EReal.coe_add, Ideal.log_coe, if_neg (not_le.2 hp)]
  exact ⟨_, rfl⟩

/-- The scale of the keys is a real. -/
theorem sc_real : ∃ a : ℝ, sc = ↑a := by
  refine ⟨_, by unfold sc; simp [Ideal.ofBits, Ideal.ieee, ← EReal.coe_mul]; rfl⟩

section
variable (X : (⟨3, ![4, 8192, 3584]⟩ : Shape).Idx → ℝ) (l : Fin 4 → ℝ) (a : ℝ) (A : FVec Ideal ⟨3, ![4, 8192, 3584]⟩ .bf16) (G : FVec Ideal ⟨2, ![1, 512]⟩ .f32)

/-- A head's queries (`p = 0`), keys (`p = 1`) and values (`p = 2`), by position. -/
def part (p : Fin 3) (b h : Fin 4) (t : ℕ) (d : Fin 128) : ℝ := X (ix3 b ⟨t % 8192, Nat.mod_lt _ (by norm_num)⟩ ⟨1536 + 512 * p.val + (h.val * 128 + d.val), by omega⟩)

/-- A head's row of the retention. -/
def rowv (b h : Fin 4) (t : ℕ) (e : Fin 128) : ℝ := row (l h) a (part X 0 b h) (part X 1 b h) (part X 2 b h) t e

/-- The retention: the normed row, its gain, its gate. -/
def value (b : Fin 4) (t : Fin 8192) (e : Fin 512) : EReal :=
  normed (fun x => ((rowv X l a b ⟨e.val / 128, by omega⟩ t.val x : ℝ) : EReal)) ⟨e.val % 128, Nat.mod_lt _ (by norm_num)⟩ * G (ix2 0 e)
    * Cert.Ada.gated (A (ix3 b t ⟨3072 + e.val, by omega⟩))

end

open Cert.Kernel8Ideal Cert.Kernel8Ideal.Gen Cert.Kernel8Ideal.Value

/-- The windows' block indices at a grid point. -/
theorem idx : ∀ t : Fin cfg0.N, win0_0.index t = ![0]
    ∧ win0_1.index t = ![(grid0.coords t 0).val, (grid0.coords t 2).val, 12 + (grid0.coords t 1).val]
    ∧ win0_2.index t = ![(grid0.coords t 0).val, (grid0.coords t 2).val, 16 + (grid0.coords t 1).val]
    ∧ win0_3.index t = ![(grid0.coords t 0).val, (grid0.coords t 2).val, 20 + (grid0.coords t 1).val]
    ∧ win0_4.index t = ![(grid0.coords t 0).val, (grid0.coords t 2).val, 24 + (grid0.coords t 1).val]
    ∧ win0_5.index t = ![(grid0.coords t 1).val, 0, 0]
    ∧ win0_6.index t = ![(grid0.coords t 0).val, (grid0.coords t 2).val, (grid0.coords t 1).val] :=
  (by decide +kernel : ∀ t : Fin grid0.N, _)

/-- A grid point's coordinates from its number. -/
theorem coords_val : ∀ t : Fin cfg0.N, (grid0.coords t 0).val = t.val / 128 ∧ (grid0.coords t 1).val = t.val / 32 % 4 ∧ (grid0.coords t 2).val = t.val % 32 :=
  (by decide +kernel : ∀ t : Fin grid0.N, _)

section
variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The head of a grid point. -/
def cH : Fin 4 := ⟨(grid0.coords t 1).val, (grid0.coords t 1).isLt⟩
/-- The positions of a grid point. -/
def cS (r : Fin 256) : Fin 8192 := ⟨256 * (grid0.coords t 2).val + r.val, by have := (grid0.coords t 2).isLt; simp at *; omega⟩

/-- The table of the decays. -/
def in0 : FVec Ideal S4 .f32 := iblk m c 0 t
/-- The queries of a grid point. -/
def in1 : FVec Ideal S1x256x128 .bf16 := iblk m c 1 t
/-- The keys of a grid point. -/
def in2 : FVec Ideal S1x256x128 .bf16 := iblk m c 2 t
/-- The values of a grid point. -/
def in3 : FVec Ideal S1x256x128 .bf16 := iblk m c 3 t
/-- The gates of a grid point. -/
def in4 : FVec Ideal S1x256x128 .bf16 := iblk m c 4 t
/-- The gain of a grid point. -/
def in5 : FVec Ideal S1x1x128 .f32 := iblk m c 5 t

/-- The table of the decays. -/
theorem in0_read (h : Fin 4) : in0 m c t (ix1 h) = lgv h := by
  show (show FVec Ideal S4 .f32 from iblk m c 0 t) (ix1 h) = lgv h
  blk_simp [iblk]
  entry_read
  pointwise [lgv]
  have e : (((View.whole main_v8).slice (win0_0.rect t)).emb (ix1 h) 0).val = h.val := by
    blk_simp [idx t]
  rw [e]

/-- The head's decay. -/
theorem lg_read : lgOf (F := Ideal) (grid0.coords t) (in0 m c t) = lgv (cH t) := by
  have o : ∀ i : grid0.Coords, k0_off1 i = ![(i 1).val] := fun i =>
    (by decide +kernel : ∀ n : Fin 4, ![(Scalar.indexCast (BitVec.ofNat 32 n.val)).toNat] = ![n.val]) (i 1)
  refine Eq.trans (congrArg (in0 m c t) (funext fun a => Fin.ext ?_)) (in0_read m c t (cH t))
  show (k0_off1 (grid0.coords t)) a + 1 * 0 = _
  rw [o]
  fin_cases a; rfl

/-- The queries. -/
theorem in1_read (r : Fin 256) (x : Fin 128) : in1 m c t (ix3 0 r x)
    = m ((c : Thread nD τ).loc main_arg0) (ix3 (cB t) (cS t r) ⟨1536 + ((cH t).val * 128 + x.val), by omega⟩) := by
  show (show FVec Ideal S1x256x128 .bf16 from iblk m c 1 t) (ix3 0 r x) = _
  blk_ext [iblk, V, idx t, cB, cH, cS]

/-- The keys. -/
theorem in2_read (r : Fin 256) (x : Fin 128) : in2 m c t (ix3 0 r x)
    = m ((c : Thread nD τ).loc main_arg0) (ix3 (cB t) (cS t r) ⟨2048 + ((cH t).val * 128 + x.val), by omega⟩) := by
  show (show FVec Ideal S1x256x128 .bf16 from iblk m c 2 t) (ix3 0 r x) = _
  blk_ext [iblk, V, idx t, cB, cH, cS]

/-- The values. -/
theorem in3_read (r : Fin 256) (x : Fin 128) : in3 m c t (ix3 0 r x)
    = m ((c : Thread nD τ).loc main_arg0) (ix3 (cB t) (cS t r) ⟨2560 + ((cH t).val * 128 + x.val), by omega⟩) := by
  show (show FVec Ideal S1x256x128 .bf16 from iblk m c 3 t) (ix3 0 r x) = _
  blk_ext [iblk, V, idx t, cB, cH, cS]

/-- The gates. -/
theorem in4_read (r : Fin 256) (x : Fin 128) : in4 m c t (ix3 0 r x)
    = m ((c : Thread nD τ).loc main_arg0) (ix3 (cB t) (cS t r) ⟨3072 + ((cH t).val * 128 + x.val), by omega⟩) := by
  show (show FVec Ideal S1x256x128 .bf16 from iblk m c 4 t) (ix3 0 r x) = _
  blk_ext [iblk, V, idx t, cB, cH, cS]

/-- The gain. -/
theorem in5_read (x : Fin 128) : in5 m c t (ix3 0 0 x) = m ((c : Thread nD τ).loc main_arg1) (ix2 0 ⟨(cH t).val * 128 + x.val, by omega⟩) := by
  show (show FVec Ideal S1x1x128 .f32 from iblk m c 5 t) (ix3 0 0 x) = _
  have h : ((View.whole main_v9).slice (win0_5.rect t)).emb (ix3 0 0 x) = ix3 (cH t) 0 x := by
    blk_ext [idx t, cH]
  blk_simp [iblk]
  entry_read
  rw [h]
  pointwise

end

/-- Nothing has been summed before the first block. -/
theorem zero_state (l a : ℝ) (k v : ℕ → Fin 128 → ℝ) (d e : Fin 128) : (0 : EReal) = ((state l a k v (256 * 0) d e : ℝ) : EReal) := by
  rw [Nat.mul_zero, state_zero]; rfl

/-- A first block begins from zeros. -/
theorem zeros_read (d e : Fin 128) : k0_pay2 (F := Ideal) (ix2 d e) = 0 := by
  pointwise [k0_pay2]

section
variable (m : (ℓ : Loc nD τ sig) → Buf (Elt Ideal) ℓ) (c : Dev nD) (X : S4x8192x3584.Idx → ℝ) (hX : ∀ j, m ((c : Thread nD τ).loc main_arg0) j = ((X j : ℝ) : EReal))
  (l : Fin 4 → ℝ) (hl : ∀ h, lgv h = ↑(l h)) (a : ℝ) (ha : sc = ↑a)
include hX hl ha

/-- The queries, keys and values of a grid point are the head's. -/
theorem parts (t : Fin cfg0.N) (r : Fin 256) (x : Fin 128) :
    in1 m c t (ix3 0 r x) = ((part X 0 (cB t) (cH t) (256 * (grid0.coords t 2).val + r.val) x : ℝ) : EReal)
    ∧ in2 m c t (ix3 0 r x) = ((part X 1 (cB t) (cH t) (256 * (grid0.coords t 2).val + r.val) x : ℝ) : EReal)
    ∧ in3 m c t (ix3 0 r x) = ((part X 2 (cB t) (cH t) (256 * (grid0.coords t 2).val + r.val) x : ℝ) : EReal) := by
  have e : (cS t r) = ⟨(256 * (grid0.coords t 2).val + r.val) % 8192, Nat.mod_lt _ (by norm_num)⟩ := Fin.ext (Nat.mod_eq_of_lt (cS t r).isLt).symm
  refine ⟨?_, ?_, ?_⟩
  · rw [in1_read, hX, e]; rfl
  · rw [in2_read, hX, e]; rfl
  · rw [in3_read, hX, e]; rfl

/-- The state a grid point leaves, over a state before it. -/
theorem step_at (t : Fin cfg0.N) (st : FVec Ideal S128x128 .f32)
    (hst : ∀ d e, st (ix2 d e) = ((state (l (cH t)) a (part X 1 (cB t) (cH t)) (part X 2 (cB t) (cH t)) (256 * (grid0.coords t 2).val) d e : ℝ) : EReal)) (d e : Fin 128) :
    stP (F := Ideal) (lgOf (F := Ideal) (grid0.coords t) (in0 m c t)) (in2 m c t) (in3 m c t) st (ix2 d e)
      = ((state (l (cH t)) a (part X 1 (cB t) (cH t)) (part X 2 (cB t) (cH t)) (256 * ((grid0.coords t 2).val + 1)) d e : ℝ) : EReal) := by
  rw [lg_read, hl]
  exact st_real (in2 m c t) (in3 m c t) st (l (cH t)) a _ _ (grid0.coords t 2).val ha (fun r x => (parts m c X hX l hl a ha t r x).2.1)
    (fun r x => (parts m c X hX l hl a ha t r x).2.2) hst d e

/-- The output block of a grid point, over a state before it. -/
theorem out_at (t : Fin cfg0.N) (st : FVec Ideal S128x128 .f32)
    (hst : ∀ d e, st (ix2 d e) = ((state (l (cH t)) a (part X 1 (cB t) (cH t)) (part X 2 (cB t) (cH t)) (256 * (grid0.coords t 2).val) d e : ℝ) : EReal)) (r : Fin 256) (e : Fin 128) :
    outP (F := Ideal) (lgOf (F := Ideal) (grid0.coords t) (in0 m c t)) (in1 m c t) (in2 m c t) (in3 m c t) (in4 m c t) (in5 m c t) st (ix3 0 r e)
      = value X l a (m ((c : Thread nD τ).loc main_arg0)) (m ((c : Thread nD τ).loc main_arg1)) (cB t) (cS t r) ⟨(cH t).val * 128 + e.val, by omega⟩ := by
  rw [lg_read, hl, out_read, in5_read, in4_read, value]
  have hr : rowP (↑(l (cH t)) : EReal) (in1 m c t) (in2 m c t) (in3 m c t) st r = fun x => ((rowv X l a (cB t) (cH t) (cS t r).val x : ℝ) : EReal) := funext fun x =>
    rowP_real (in1 m c t) (in2 m c t) (in3 m c t) st (l (cH t)) a _ _ _ (grid0.coords t 2).val ha (fun r x => (parts m c X hX l hl a ha t r x).1)
      (fun r x => (parts m c X hX l hl a ha t r x).2.1) (fun r x => (parts m c X hX l hl a ha t r x).2.2) hst r x
  have q1 : (⟨((cH t).val * 128 + e.val) / 128, by omega⟩ : Fin 4) = cH t := Fin.ext (by show ((cH t).val * 128 + e.val) / 128 = _; omega)
  have q2 : (⟨((cH t).val * 128 + e.val) % 128, Nat.mod_lt _ (by norm_num)⟩ : Fin 128) = e := Fin.ext (by show ((cH t).val * 128 + e.val) % 128 = _; omega)
  simp only [q1, q2]
  rw [hr]

/-- The state a grid point leaves. -/
theorem state_at (n : ℕ) (hn : n < cfg0.N) (d e : Fin 128) : (outsAt0 m c n hn).2 (ix2 d e)
    = ((state (l (cH ⟨n, hn⟩)) a (part X 1 (cB ⟨n, hn⟩) (cH ⟨n, hn⟩)) (part X 2 (cB ⟨n, hn⟩) (cH ⟨n, hn⟩)) (256 * ((grid0.coords ⟨n, hn⟩ 2).val + 1)) d e : ℝ) : EReal) := by
  induction n generalizing d e with
  | zero =>
    have A := outsAt0_A m c ⟨0, hn⟩ rfl
    rw [st_A] at A
    refine (congrArg (fun p : Vec Ideal S1x256x128 .bf16 × Vec Ideal S128x128 .f32 => p.2 (ix2 d e)) A).trans ?_
    refine step_at m c X hX l hl a ha ⟨0, hn⟩ _ (fun d e => ?_) d e
    rw [zeros_read, (coords_val ⟨0, hn⟩).2.2]
    exact zero_state _ _ _ _ d e
  | succ n ih =>
    by_cases h0 : (n + 1) % 32 = 0
    · have A := outsAt0_A m c ⟨n + 1, hn⟩ h0
      rw [st_A] at A
      refine (congrArg (fun p : Vec Ideal S1x256x128 .bf16 × Vec Ideal S128x128 .f32 => p.2 (ix2 d e)) A).trans ?_
      refine step_at m c X hX l hl a ha ⟨n + 1, hn⟩ _ (fun d e => ?_) d e
      rw [zeros_read, (coords_val ⟨n + 1, hn⟩).2.2, h0]
      exact zero_state _ _ _ _ d e
    · have A := outsAt0_B m c ⟨n + 1, hn⟩ h0
      rw [st_B] at A
      refine (congrArg (fun p : Vec Ideal S1x256x128 .bf16 × Vec Ideal S128x128 .f32 => p.2 (ix2 d e)) A).trans ?_
      refine step_at m c X hX l hl a ha ⟨n + 1, hn⟩ _ (fun d e => ?_) d e
      refine (ih (by omega) d e).trans ?_
      have hlt : n < cfg0.N := Nat.lt_of_succ_lt hn
      have c0 := coords_val ⟨n, hlt⟩
      have c1 := coords_val ⟨n + 1, hn⟩
      have eB : cB ⟨n, hlt⟩ = cB ⟨n + 1, hn⟩ := Fin.ext (by show (grid0.coords _ 0).val = (grid0.coords _ 0).val; rw [c0.1, c1.1]; show n / 128 = (n + 1) / 128; omega)
      have eH : cH ⟨n, hlt⟩ = cH ⟨n + 1, hn⟩ := Fin.ext (by show (grid0.coords _ 1).val = (grid0.coords _ 1).val; rw [c0.2.1, c1.2.1]; show n / 32 % 4 = (n + 1) / 32 % 4; omega)
      have eJ : (grid0.coords ⟨n, hlt⟩ 2).val + 1 = (grid0.coords ⟨n + 1, hn⟩ 2).val := by rw [c0.2.2, c1.2.2]; show n % 32 + 1 = (n + 1) % 32; omega
      rw [eB, eH, eJ]

/-- The kernel's output array is the common value of the arguments. -/
theorem final : (dats m 0 c).arrAt 6 cfg0.N = fun j : S4x8192x512.Idx => value X l a (m ((c : Thread nD τ).loc main_arg0)) (m ((c : Thread nD τ).loc main_arg1)) (j 0) (j 1) (j 2) := by
  refine (dats m 0 c).arrAt_eq_of_covers 6 _ (by decide +kernel) fun t hf y => ?_
  obtain ⟨st, hst, e⟩ : ∃ st : FVec Ideal S128x128 .f32, (∀ d e, st (ix2 d e) = ((state (l (cH t)) a (part X 1 (cB t) (cH t)) (part X 2 (cB t) (cH t)) (256 * (grid0.coords t 2).val) d e : ℝ) : EReal))
      ∧ (dats m 0 c).flushed 6 t = (cfg0.win 6).cut (grid0.coords t) (outP (F := Ideal) (lgOf (F := Ideal) (grid0.coords t) (in0 m c t)) (in1 m c t) (in2 m c t) (in3 m c t) (in4 m c t) (in5 m c t) st) := by
    by_cases h0 : t.val % 32 = 0
    · refine ⟨k0_pay2 (F := Ideal), fun d e => ?_, (flushed6_A m c t h0).trans (congrArg _ (out_A ..))⟩
      rw [zeros_read, (coords_val t).2.2, h0]
      exact zero_state _ _ _ _ d e
    · refine ⟨_, fun d e => ?_, (flushed6_B m c t h0).trans (congrArg _ (out_B ..))⟩
      have hlt : t.val - 1 < cfg0.N := Nat.lt_of_le_of_lt (Nat.sub_le _ _) t.isLt
      refine (state_at m c X hX l hl a ha (t.val - 1) hlt d e).trans ?_
      have c0 := coords_val ⟨t.val - 1, hlt⟩
      have c1 := coords_val t
      have eB : cB ⟨t.val - 1, hlt⟩ = cB t := Fin.ext (by show (grid0.coords _ 0).val = (grid0.coords _ 0).val; rw [c0.1, c1.1]; show (t.val - 1) / 128 = t.val / 128; omega)
      have eH : cH ⟨t.val - 1, hlt⟩ = cH t := Fin.ext (by show (grid0.coords _ 1).val = (grid0.coords _ 1).val; rw [c0.2.1, c1.2.1]; show (t.val - 1) / 32 % 4 = t.val / 32 % 4; omega)
      have eJ : (grid0.coords ⟨t.val - 1, hlt⟩ 2).val + 1 = (grid0.coords t 2).val := by rw [c0.2.2, c1.2.2]; show (t.val - 1) % 32 + 1 = t.val % 32; omega
      rw [eB, eH, eJ]
  refine (show _ = _ from congrFun e y).trans ?_
  blk_simp
  idx_vars y
  obtain rfl : y0 = 0 := Subsingleton.elim _ _
  refine (show _ = _ from out_at m c X hX l hl a ha t st hst y1 y2).trans ?_
  have e0 : ((View.whole main_v10).slice (win0_6.rect t)).emb (ix3 0 y1 y2) = ix3 (cB t) (cS t y1) ⟨(cH t).val * 128 + y2.val, by omega⟩ := by
    blk_ext [idx t, cB, cS, cH]
  rw [e0]
  rfl

end

end Cert.Ret
-- ==== Proof.RetRef.lean ====
module

public import proofs.«01_k».proof.Proof.RetKernel
public import proofs.«01_k».proof.Proof.Gen.Reference8Ideal.Run

/-! The retention reference before its loop. -/

@[expose] public section

set_option maxRecDepth 100000
set_option maxHeartbeats 4000000

noncomputable section

namespace Cert.Ret

open Idealize.ShloMosaic Idealize.ShloMosaic.TcCoe Idealize.ShloMosaic.StableHlo Idealize.SL.Sem

section Reference
open Cert.Reference8Ideal Cert.Reference8Ideal.Gen Cert.Reference8Ideal.Value

variable (V : Valuation τ sig (Elt Ideal)) (A : S4x8192x3584.Idx → EReal) (hA : V (Proc.devRef .tc main_arg0) = A)
  (X : S4x8192x3584.Idx → ℝ) (hX : ∀ i, A i = ((X i : ℝ) : EReal))
  (l : Fin 4 → ℝ) (hl : ∀ h, lgv h = ((l h : ℝ) : EReal)) (a : ℝ) (ha : sc = ((a : ℝ) : EReal))

/-- The first state. -/
theorem e_z (b h : Fin 4) (d e : Fin 128) : (after hostOps0 V (Proc.devRef .tc main_v69_3) (ix4 b h d e) : EReal) = (0 : EReal) := by
  after_reads_simp
  simp only [id_eq]
  pointwise []

section Decays
include hl

/-- The decay of the state over a chunk. -/
theorem e_g (h : Fin 4) : (after hostOps0 V (Proc.devRef .tc main_v69_1) (ix4 0 h 0 0) : EReal) = ((gam (l h) 64 : ℝ) : EReal) := by
  after_reads_simp
  simp only [id_eq]
  pointwise []
  rw [b64]
  refine (show _ = _ from congrArg (fun x => Ideal.exp (x * ((64 : ℝ) : EReal))) (hl h)).trans ?_
  rw [← EReal.coe_mul, Ideal.exp_coe]
  rfl

/-- The decay from a chunk's start. -/
theorem e_d (h : Fin 4) (c : Fin 64) : (after hostOps0 V (Proc.devRef .tc main_v58) (ix2 h c) : EReal) = ((gam (l h) ((c.val : ℝ) + 1) : ℝ) : EReal) := by
  after_reads_simp
  pointwise []
  rw [sit c.val (by omega), ← EReal.coe_one, ← EReal.coe_add]
  refine (show _ = _ from congrArg (fun x => Ideal.exp (x * (((c.val : ℝ) + 1 : ℝ) : EReal))) (hl h)).trans ?_
  rw [← EReal.coe_mul, Ideal.exp_coe]
  rfl

end Decays

/-- A part of the projections, at a chunk's position. -/
theorem part_at (p : Fin 3) (b h : Fin 4) (n : Fin 128) (c : Fin 64) (d : Fin 128) (y : S4x8192x3584.Idx) (hy : y = ix3 b ⟨n.val * 64 + c.val, by omega⟩ ⟨1536 + 512 * p.val + (h.val * 128 + d.val), by omega⟩) :
    X y = part X p b h (64 * n.val + c.val) d := by
  rw [hy]
  exact congrArg X (congrArg₂ (ix3 b) (Fin.ext (by show n.val * 64 + c.val = (64 * n.val + c.val) % 8192; omega)) rfl)

section At
include hX

/-- A query's, a key's and a value's place in the projections. -/
theorem q_at (b h : Fin 4) (n : Fin 128) (c : Fin 64) (d : Fin 128) : A (ix3 b ⟨n.val * 64 + c.val, by omega⟩ ⟨1536 + (h.val * 128 + d.val), by omega⟩) = ((part X 0 b h (64 * n.val + c.val) d : ℝ) : EReal) :=
  (hX _).trans (congrArg (fun x : ℝ => (x : EReal)) (part_at X 0 b h n c d _ rfl))
/-- An entry of the key columns of the projections, as the real number. -/
theorem k_at (b h : Fin 4) (n : Fin 128) (c : Fin 64) (d : Fin 128) : A (ix3 b ⟨n.val * 64 + c.val, by omega⟩ ⟨2048 + (h.val * 128 + d.val), by omega⟩) = ((part X 1 b h (64 * n.val + c.val) d : ℝ) : EReal) :=
  (hX _).trans (congrArg (fun x : ℝ => (x : EReal)) (part_at X 1 b h n c d _ rfl))
/-- An entry of the value columns of the projections, as the real number. -/
theorem v_at (b h : Fin 4) (n : Fin 128) (c : Fin 64) (d : Fin 128) : A (ix3 b ⟨n.val * 64 + c.val, by omega⟩ ⟨2560 + (h.val * 128 + d.val), by omega⟩) = ((part X 2 b h (64 * n.val + c.val) d : ℝ) : EReal) :=
  (hX _).trans (congrArg (fun x : ℝ => (x : EReal)) (part_at X 2 b h n c d _ rfl))

end At

section Parts
include hA

/-- The queries, as they are read. -/
theorem e_q_read (b h : Fin 4) (n : Fin 128) (c : Fin 64) (d : Fin 128) : (after hostOps0 V (Proc.devRef .tc main_v4) (ix5 b h n c d) : EReal)
    = A (ix3 b ⟨n.val * 64 + c.val, by omega⟩ ⟨1536 + 512 * (0 : Fin 3).val + (h.val * 128 + d.val), by have : (0 : Fin 3).val = 0 := rfl; omega⟩) := by
  after_reads_simp
  pointwise []
  rw [hA]

/-- The state a chunk adds, as it is read. -/
theorem e_s_read (n : Fin 128) (b h : Fin 4) (d e : Fin 128) : (after hostOps0 V (Proc.devRef .tc main_v69_0) (ix5 n b h d e) : EReal)
    = ∑ c : Fin 64, A (ix3 b ⟨n.val * 64 + c.val, by omega⟩ ⟨2048 + (h.val * 128 + d.val), by omega⟩) * sc
      * Ideal.exp (lgv h * (Ideal.ofBits .f32 0x427C0000#32 - FloatOps.sitofp (F := Ideal) FTy.f32 (BitVec.ofNat 32 c.val)))
      * A (ix3 b ⟨n.val * 64 + c.val, by omega⟩ ⟨2560 + (h.val * 128 + e.val), by omega⟩) := by
  subst hA
  after_reads_simp
  simp only [id_eq]
  pointwise [sc, lgv]

/-- The chunk's own part, as it is read. -/
theorem e_i_read (n : Fin 128) (b h : Fin 4) (r : Fin 64) (e : Fin 128) : (after hostOps0 V (Proc.devRef .tc main_v42) (ix5 b h n r e) : EReal)
    = ∑ c : Fin 64, (∑ d : Fin 128, A (ix3 b ⟨n.val * 64 + r.val, by omega⟩ ⟨1536 + (h.val * 128 + d.val), by omega⟩)
          * (A (ix3 b ⟨n.val * 64 + c.val, by omega⟩ ⟨2048 + (h.val * 128 + d.val), by omega⟩) * sc))
      * Ideal.exp (lgv h * FloatOps.absf (F := Ideal) (φ := .f32) (FloatOps.sitofp (F := Ideal) FTy.f32 (BitVec.ofNat 32 r.val) - FloatOps.sitofp (F := Ideal) FTy.f32 (BitVec.ofNat 32 c.val)))
      * A (ix3 b ⟨n.val * 64 + c.val, by omega⟩ ⟨2560 + (h.val * 128 + e.val), by omega⟩) := by
  subst hA
  after_reads_simp
  pointwise [sc, lgv]

include hX

/-- The queries, of reals. -/
theorem e_q (b h : Fin 4) (n : Fin 128) (c : Fin 64) (d : Fin 128) : (after hostOps0 V (Proc.devRef .tc main_v4) (ix5 b h n c d) : EReal) = ((part X 0 b h (64 * n.val + c.val) d : ℝ) : EReal) := by
  refine (e_q_read V A hA b h n c d).trans ?_
  rw [hX, part_at X 0 b h n c d _ rfl]

include hl ha

/-- The state a chunk adds, of reals. -/
theorem e_s (n : Fin 128) (b h : Fin 4) (d e : Fin 128) : (after hostOps0 V (Proc.devRef .tc main_v69_0) (ix5 n b h d e) : EReal)
    = ((∑ c : Fin 64, gam (l h) (((64 : ℕ) : ℝ) - 1 - (c.val : ℝ)) * (a * part X 1 b h (64 * n.val + c.val) d * part X 2 b h (64 * n.val + c.val) e) : ℝ) : EReal) := by
  refine Eq.trans (α := EReal) (e_s_read V A hA n b h d e) ((Finset.sum_congr rfl fun c _ => ?_).trans (Cert.Diff.sum_coe _ _))
  rw [b63, sit c.val (by omega), ← EReal.coe_sub, hl, ha, k_at A X hX, v_at A X hX]
  simp only [Ideal.exp_coe, ← EReal.coe_mul]
  refine congrArg (fun x : ℝ => (x : EReal)) ?_
  rw [show ((64 : ℕ) : ℝ) - 1 - (c.val : ℝ) = 63 - c.val by norm_num]
  unfold gam
  ring

/-- The chunk's own part, of reals. -/
theorem e_i (n : Fin 128) (b h : Fin 4) (r : Fin 64) (e : Fin 128) : (after hostOps0 V (Proc.devRef .tc main_v42) (ix5 b h n r e) : EReal)
    = ((∑ c : Fin 64, term (l h) a (part X 0 b h) (part X 1 b h) (part X 2 b h) (64 * n.val + r.val) (64 * n.val + c.val) e : ℝ) : EReal) := by
  refine Eq.trans (α := EReal) (e_i_read V A hA n b h r e) ((Finset.sum_congr rfl fun c _ => ?_).trans (Cert.Diff.sum_coe _ _))
  have hd : FloatOps.absf (F := Ideal) (φ := .f32) (((r.val : ℝ) - (c.val : ℝ) : ℝ) : EReal) = ((|(r.val : ℝ) - (c.val : ℝ)| : ℝ) : EReal) := by
    show max (((r.val : ℝ) - (c.val : ℝ) : ℝ) : EReal) (-(((r.val : ℝ) - (c.val : ℝ) : ℝ) : EReal)) = _
    rw [← EReal.coe_neg]
    exact (EReal.coe_strictMono.monotone.map_max).symm
  rw [sit c.val (by omega), sit r.val (by omega), ← EReal.coe_sub, hd, hl, ha, v_at A X hX]
  simp only [q_at A X hX, k_at A X hX, Ideal.exp_coe, ← EReal.coe_mul, Cert.Diff.sum_coe]
  refine congrArg (fun x : ℝ => (x : EReal)) ?_
  unfold term gam
  rw [show ((64 * n.val + r.val : ℕ) : ℝ) - ((64 * n.val + c.val : ℕ) : ℝ) = (r.val : ℝ) - c.val by push_cast; ring]
  simp only [← mul_assoc, ← Finset.sum_mul]
  ring

end Parts

end Reference

end Cert.Ret
-- ==== Proof.RetLoop.lean ====
module

public import proofs.«01_k».proof.Proof.RetRef
public import Idealize.ShloMosaic.Lib.WordCmp

/-! The retention reference's loop over the chunks. -/

@[expose] public section

set_option maxRecDepth 100000
set_option maxHeartbeats 4000000

noncomputable section

namespace Cert.Ret

open Idealize.ShloMosaic Idealize.ShloMosaic.TcCoe Idealize.ShloMosaic.StableHlo Idealize.SL.Sem

section Reference
open Cert.Reference8Ideal Cert.Reference8Ideal.Gen Cert.Reference8Ideal.Value

/-- The loop counter as a word. -/
theorem iv_word (k : ℕ) : Scf.iv 0#32 1#32 k = BitVec.ofNat 32 k := by
  unfold Scf.iv
  simp

/-- A decayed state with what a chunk adds. -/
def stepv (g s x : EReal) : EReal := g * s + x

section Trip
variable (V : Valuation τ sig (Elt Ideal)) (k : ℕ) (hk : k < 128) (hV : V (Proc.devRef .tc main_v69_2) = fun _ => BitVec.ofNat 32 k)

/-- A chunk's place in the stack of states. -/
theorem place (k : ℕ) (hk : k < 128) : S128x4x4x128x128.Slices ![k, 0, 0, 0, 0] S1x4x4x128x128 := by
  refine ⟨rfl, fun a => ?_⟩
  fin_cases a
  · show k + 1 ≤ 128; omega
  all_goals exact Nat.le_of_eq (Nat.zero_add _)

include hk hV

/-- The starts the trip reads. -/
theorem starts (x : Fin 5) : ((![V (Proc.devRef .tc main_v69_2), constantI S_ 32 0#32, constantI S_ 32 0#32, constantI S_ 32 0#32, constantI S_ 32 0#32] : Fin 5 → (⟨S_, .i32⟩ : BufTy).Contents (Elt Ideal)) x (Shape.Idx.first h_S_)).toInt
    = (((![k, 0, 0, 0, 0] : Fin 5 → ℕ) x : ℕ) : ℤ) := by
  rw [hV]
  fin_cases x
  · exact Cert.Diff.toInt_nat k (by omega)
  all_goals rfl

/-- The state after one trip. -/
theorem trip_state (b h : Fin 4) (d e : Fin 128) : (afterL bodyI V (Proc.devRef .tc main_v69_3) (ix4 b h d e) : EReal)
    = stepv (V (Proc.devRef .tc main_v69_1) (ix4 0 h 0 0)) (V (Proc.devRef .tc main_v69_3) (ix4 b h d e)) (V (Proc.devRef .tc main_v69_0) (ix5 ⟨k, hk⟩ b h d e)) := by
  rw [trip_main_v69_3, WordCmp.dynamicSlice_eq_extract _ _ _ _ ![k, 0, 0, 0, 0] (place k hk) (starts V k hk hV)]
  simp only [id_eq]
  pointwise [stepv]

/-- The stack after one trip. -/
theorem trip_stack (n : Fin 128) (b h : Fin 4) (d e : Fin 128) : (afterL bodyI V (Proc.devRef .tc main_v69_4) (ix5 n b h d e) : EReal)
    = if n.val = k then (V (Proc.devRef .tc main_v69_3) (ix4 b h d e) : EReal) else (V (Proc.devRef .tc main_v69_4) (ix5 n b h d e) : EReal) := by
  rw [trip_main_v69_4, WordCmp.dynamicUpdateSlice_eq_update _ _ _ _ ![k, 0, 0, 0, 0] (place k hk) (starts V k hk hV)]
  simp only [id_eq]
  pointwise []
  by_cases hn : n.val = k
  · rw [if_pos hn, dif_pos]
    intro x
    fin_cases x
    · exact ⟨(show k ≤ n.val by omega), (show n.val < k + 1 by omega)⟩
    all_goals exact ⟨Nat.zero_le _, Nat.lt_of_lt_of_eq (Fin.isLt _) (Nat.zero_add _).symm⟩
  · rw [if_neg hn, dif_neg]
    intro hx
    have h0 := hx ⟨0, by decide⟩
    have h1 : k ≤ n.val := h0.1
    have h2 : n.val < k + 1 := h0.2
    omega

end Trip

variable (m : (ℓ : Loc nD τ sig) → Buf (Elt Ideal) ℓ) (c : Dev nD)

/-- What the loop does not write it keeps. -/
theorem loop_keeps (r : Ref sig .tc) (h0 : r ∉ condOps_W) (h1 : r ∉ while0Ops0_W) (h2 : r ∉ while0Ops0_1_W) (h3 : r ∉ while0Ops0_2_W) (h4 : r ∉ while0Ops0_3_W) (k : ℕ) :
    atK m k c (Proc.devRef .tc r) = after hostOps0 (launchContents m c) (Proc.devRef .tc r) := by
  induction k with
  | zero => rfl
  | succ k ih =>
    rw [show atK m (k + 1) c = afterL bodyI (after condOps (atK m k c)) from rfl]
    simp only [afterL_cons, afterL_nil]
    rw [after_of_writes_sub _ _ while0Ops0_3_writes h4, after_of_writes_sub _ _ while0Ops0_2_writes h3, after_of_writes_sub _ _ while0Ops0_1_writes h2,
      after_of_writes_sub _ _ while0Ops0_writes h1, after_of_writes_sub _ _ condOps_writes h0, ih]

/-- The counter, the decays and the added states at a trip. -/
theorem ctr_at (k : ℕ) : after condOps (atK m k c) (Proc.devRef .tc main_v69_2) = fun _ => BitVec.ofNat 32 k :=
  (cond_keeps _ main_v69_2 (by decide)).trans ((atK_ctr m c k).trans (funext fun _ => iv_word k))
/-- The decays of a whole chunk stay what they were before the loop. -/
theorem decay_at (k : ℕ) : atK m k c (Proc.devRef .tc main_v69_1) = after hostOps0 (launchContents m c) (Proc.devRef .tc main_v69_1) := by
  induction k with
  | zero => rfl
  | succ k ih => exact (trip_main_v69_1 (after condOps (atK m k c))).trans ((cond_keeps _ main_v69_1 (by decide)).trans ih)
/-- The products of keys and values of the chunks stay what they were before the loop. -/
theorem added_at (k : ℕ) : atK m k c (Proc.devRef .tc main_v69_0) = after hostOps0 (launchContents m c) (Proc.devRef .tc main_v69_0) := by
  induction k with
  | zero => rfl
  | succ k ih => exact (trip_main_v69_0 (after condOps (atK m k c))).trans ((cond_keeps _ main_v69_0 (by decide)).trans ih)

variable (A : S4x8192x3584.Idx → EReal) (hA : launchContents m c (Proc.devRef .tc main_arg0) = A)
  (X : S4x8192x3584.Idx → ℝ) (hX : ∀ i, A i = ((X i : ℝ) : EReal))
  (l : Fin 4 → ℝ) (hl : ∀ h, lgv h = ((l h : ℝ) : EReal)) (a : ℝ) (ha : sc = ((a : ℝ) : EReal))
include hA hX hl ha

/-- The state before the `k`-th trip. -/
theorem state_trip (k : ℕ) (hk : k ≤ 128) (b h : Fin 4) (d e : Fin 128) : (atK m k c (Proc.devRef .tc main_v69_3) (ix4 b h d e) : EReal)
    = ((state (l h) a (part X 1 b h) (part X 2 b h) (64 * k) d e : ℝ) : EReal) := by
  induction k with
  | zero =>
    refine Eq.trans (α := EReal) (e_z (launchContents m c) b h d e) ?_
    rw [Nat.mul_zero, state_zero]
    rfl
  | succ k ih =>
    have c3 : after condOps (atK m k c) (Proc.devRef .tc main_v69_3) = atK m k c (Proc.devRef .tc main_v69_3) := cond_keeps _ main_v69_3 (by decide)
    have c1 : after condOps (atK m k c) (Proc.devRef .tc main_v69_1) = after hostOps0 (launchContents m c) (Proc.devRef .tc main_v69_1) := (cond_keeps _ main_v69_1 (by decide)).trans (decay_at m c k)
    have c0 : after condOps (atK m k c) (Proc.devRef .tc main_v69_0) = after hostOps0 (launchContents m c) (Proc.devRef .tc main_v69_0) := (cond_keeps _ main_v69_0 (by decide)).trans (added_at m c k)
    refine Eq.trans (α := EReal) (trip_state (after condOps (atK m k c)) k (by omega) (ctr_at m c k) b h d e) ?_
    rw [c0, c1, c3]
    refine Eq.trans (α := EReal) (congr (congrArg₂ stepv (e_g (launchContents m c) l hl h) (ih (by omega))) (e_s (launchContents m c) A hA X hX l hl a ha ⟨k, by omega⟩ b h d e)) ?_
    rw [show 64 * (k + 1) = 64 * k + 64 by ring, state_add, stepv, ← EReal.coe_mul, ← EReal.coe_add]
    norm_num

/-- The stack of states before the `k`-th trip, at the chunks passed. -/
theorem stack_trip (k : ℕ) (hk : k ≤ 128) (n : Fin 128) (hn : n.val < k) (b h : Fin 4) (d e : Fin 128) : (atK m k c (Proc.devRef .tc main_v69_4) (ix5 n b h d e) : EReal)
    = ((state (l h) a (part X 1 b h) (part X 2 b h) (64 * n.val) d e : ℝ) : EReal) := by
  induction k with
  | zero => omega
  | succ k ih =>
    have c3 : after condOps (atK m k c) (Proc.devRef .tc main_v69_3) = atK m k c (Proc.devRef .tc main_v69_3) := cond_keeps _ main_v69_3 (by decide)
    have c4 : after condOps (atK m k c) (Proc.devRef .tc main_v69_4) = atK m k c (Proc.devRef .tc main_v69_4) := cond_keeps _ main_v69_4 (by decide)
    refine Eq.trans (α := EReal) (trip_stack (after condOps (atK m k c)) k (by omega) (ctr_at m c k) n b h d e) ?_
    rw [c3, c4]
    by_cases hnk : n.val = k
    · rw [if_pos hnk, hnk]
      exact state_trip m c A hA X hX l hl a ha k (by omega) b h d e
    · rw [if_neg hnk]
      exact ih (by omega) (by omega)

end Reference

end Cert.Ret
-- ==== Proof.RetEnd.lean ====
module

public import proofs.«01_k».proof.Proof.RetLoop

/-! The retention reference after its loop, and its result. -/

@[expose] public section

set_option maxRecDepth 100000
set_option maxHeartbeats 4000000

noncomputable section

namespace Cert.Ret

open Idealize.ShloMosaic Idealize.ShloMosaic.TcCoe Idealize.ShloMosaic.StableHlo Idealize.SL.Sem

section Reference
open Cert.Reference8Ideal Cert.Reference8Ideal.Gen Cert.Reference8Ideal.Value

section Post
variable (V : Valuation τ sig (Elt Ideal))

/-- An inner product's row, over a chunk's state. -/
def orow (i : EReal) (q : Fin 128 → EReal) (g : EReal) (s : Fin 128 → EReal) : EReal := i + ∑ d, q d * g * s d

/-- The row before it is normed. -/
def prow (b h : Fin 4) (n : Fin 128) (r : Fin 64) (x : Fin 128) : EReal :=
  orow (V (Proc.devRef .tc main_v42) (ix5 b h n r x)) (fun d => V (Proc.devRef .tc main_v4) (ix5 b h n r d)) (V (Proc.devRef .tc main_v58) (ix2 h r))
    (fun d => V (Proc.devRef .tc main_v69_4) (ix5 n b h d x))

/-- A product of a row and its gain. -/
def gained (x g : EReal) : EReal := x * g

/-- The normed row and its gain. -/
theorem post_normed (b : Fin 4) (t : Fin 8192) (e : Fin 512) : (after hostOps0_1 V (Proc.devRef .tc main_v99) (ix3 b t e) : EReal)
    = gained (normed (prow V b ⟨e.val / 128, by omega⟩ ⟨t.val / 64, by omega⟩ ⟨t.val % 64, Nat.mod_lt _ (by norm_num)⟩) ⟨e.val % 128, Nat.mod_lt _ (by norm_num)⟩) (V (Proc.devRef .tc main_arg1) (ix2 0 e)) := by
  after_reads_simp
  pointwise [gained, normed, meanv, prow, orow]

/-- The gate. -/
theorem post_gate (b : Fin 4) (t : Fin 8192) (e : Fin 512) : (after hostOps0_2 (after hostOps0_1 V) (Proc.devRef .tc main_v104) (ix3 b t e) : EReal)
    = Cert.Ada.gated (V (Proc.devRef .tc main_arg0) (ix3 b t ⟨3072 + e.val, by omega⟩)) := by
  after_reads_simp
  simp only [TRef.toBuf, TRef.ofBuf, cast_eq]
  pointwise [Cert.Ada.gated]

/-- The gate's stretch keeps the normed row. -/
theorem keeps_normed (W : Valuation τ sig (Elt Ideal)) : after hostOps0_2 W (Proc.devRef .tc main_v99) = W (Proc.devRef .tc main_v99) := by
  after_reads_simp

/-- The result. -/
theorem post_result (b : Fin 4) (t : Fin 8192) (e : Fin 512) : (afterL postI V (Proc.devRef .tc main_v106) (ix3 b t e) : EReal)
    = gained (after hostOps0_1 V (Proc.devRef .tc main_v99) (ix3 b t e)) (after hostOps0_2 (after hostOps0_1 V) (Proc.devRef .tc main_v104) (ix3 b t e)) := by
  simp only [afterL_cons, afterL_nil]
  rw [← keeps_normed (after hostOps0_1 V)]
  generalize after hostOps0_2 (after hostOps0_1 V) = W
  after_reads_simp
  pointwise [gained]

end Post

section Result
variable (m : (ℓ : Loc nD τ sig) → Buf (Elt Ideal) ℓ) (c : Dev nD)
variable (A : S4x8192x3584.Idx → EReal) (hA : launchContents m c (Proc.devRef .tc main_arg0) = A) (G : S1x512.Idx → EReal) (hG : launchContents m c (Proc.devRef .tc main_arg1) = G)
  (X : S4x8192x3584.Idx → ℝ) (hX : ∀ i, A i = ((X i : ℝ) : EReal))
  (l : Fin 4 → ℝ) (hl : ∀ h, lgv h = ((l h : ℝ) : EReal)) (a : ℝ) (ha : sc = ((a : ℝ) : EReal))

/-- What the condition and the loop do not write, after the loop. -/
theorem end_keeps (r : Ref sig .tc) (h0 : r ∉ condOps_W) (h1 : r ∉ while0Ops0_W) (h2 : r ∉ while0Ops0_1_W) (h3 : r ∉ while0Ops0_2_W) (h4 : r ∉ while0Ops0_3_W) :
    after condOps (atK m 128 c) (Proc.devRef .tc r) = after hostOps0 (launchContents m c) (Proc.devRef .tc r) :=
  (after_of_writes_sub _ _ condOps_writes h0).trans (loop_keeps m c r h0 h1 h2 h3 h4 128)

/-- The arguments before the loop. -/
theorem arg0_entry (V : Valuation τ sig (Elt Ideal)) : after hostOps0 V (Proc.devRef .tc main_arg0) = V (Proc.devRef .tc main_arg0) :=
  after_of_writes_sub hostOps0 V hostOps0_writes (by decide +kernel)
/-- The instructions before the loop leave the gain unchanged. -/
theorem arg1_entry (V : Valuation τ sig (Elt Ideal)) : after hostOps0 V (Proc.devRef .tc main_arg1) = V (Proc.devRef .tc main_arg1) :=
  after_of_writes_sub hostOps0 V hostOps0_writes (by decide +kernel)

include hA hX hl ha

/-- The row before it is normed, of reals. -/
theorem prow_real (b h : Fin 4) (t : Fin 8192) (x : Fin 128) : prow (after condOps (atK m 128 c)) b h ⟨t.val / 64, by omega⟩ ⟨t.val % 64, Nat.mod_lt _ (by norm_num)⟩ x
    = ((rowv X l a b h t.val x : ℝ) : EReal) := by
  have k42 := end_keeps m c main_v42 (by decide) (by decide) (by decide) (by decide) (by decide)
  have k4 := end_keeps m c main_v4 (by decide) (by decide) (by decide) (by decide) (by decide)
  have k58 := end_keeps m c main_v58 (by decide) (by decide) (by decide) (by decide) (by decide)
  have kS : after condOps (atK m 128 c) (Proc.devRef .tc main_v69_4) = atK m 128 c (Proc.devRef .tc main_v69_4) := cond_keeps _ main_v69_4 (by decide)
  unfold prow
  rw [k42, k4, k58, kS]
  refine (congr (congr (congrArg₂ orow (e_i (launchContents m c) A hA X hX l hl a ha ⟨t.val / 64, by omega⟩ b h ⟨t.val % 64, Nat.mod_lt _ (by norm_num)⟩ x)
    (funext fun d => e_q (launchContents m c) A hA X hX b h ⟨t.val / 64, by omega⟩ ⟨t.val % 64, Nat.mod_lt _ (by norm_num)⟩ d))
    (e_d (launchContents m c) l hl h ⟨t.val % 64, Nat.mod_lt _ (by norm_num)⟩))
    (funext fun d => stack_trip m c A hA X hX l hl a ha 128 le_rfl ⟨t.val / 64, by omega⟩ (by show t.val / 64 < 128; omega) b h d x)).trans ?_
  unfold orow
  simp only [← EReal.coe_mul, Cert.Diff.sum_coe, ← EReal.coe_add]
  refine congrArg (fun x : ℝ => (x : EReal)) ?_
  have e := row_64 (l h) a (part X 0 b h) (part X 1 b h) (part X 2 b h) (t.val / 64) (t.val % 64) (Nat.mod_lt _ (by norm_num)) x
  rw [Nat.div_add_mod] at e
  rw [rowv, e, Nat.div_add_mod]

include hG

/-- The reference's result is the common value of the arguments. -/
theorem ref_result : finalContents condOps preI bodyI postI 128 m c (Proc.devRef .tc main_v106) = fun j : S4x8192x512.Idx => value X l a A G (j 0) (j 1) (j 2) := by
  funext j
  idx_vars j
  refine Eq.trans (α := EReal) (post_result (after condOps (atK m 128 c)) j0 j1 j2) ?_
  have k0 : after condOps (atK m 128 c) (Proc.devRef .tc main_arg0) = A := (end_keeps m c main_arg0 (by decide) (by decide) (by decide) (by decide) (by decide)).trans ((arg0_entry _).trans hA)
  have k1 : after condOps (atK m 128 c) (Proc.devRef .tc main_arg1) = G := (end_keeps m c main_arg1 (by decide) (by decide) (by decide) (by decide) (by decide)).trans ((arg1_entry _).trans hG)
  refine Eq.trans (α := EReal) (congrArg₂ gained (post_normed (after condOps (atK m 128 c)) j0 j1 j2) (post_gate (after condOps (atK m 128 c)) j0 j1 j2)) ?_
  have hp : prow (after condOps (atK m 128 c)) j0 ⟨j2.val / 128, by omega⟩ ⟨j1.val / 64, by omega⟩ ⟨j1.val % 64, Nat.mod_lt _ (by norm_num)⟩
      = fun x => ((rowv X l a j0 ⟨j2.val / 128, by omega⟩ j1.val x : ℝ) : EReal) := funext fun x => prow_real m c A hA X hX l hl a ha j0 ⟨j2.val / 128, by omega⟩ j1 x
  rw [k0, k1, hp]
  rfl

end Result

/-- The reference keeps its arguments. -/
theorem ref_keeps (m : (ℓ : Loc nD τ sig) → Buf (Elt Ideal) ℓ) (c : Dev nD) :
    finalContents condOps preI bodyI postI 128 m c (Proc.devRef .tc main_arg0) = launchContents m c (Proc.devRef .tc main_arg0)
    ∧ finalContents condOps preI bodyI postI 128 m c (Proc.devRef .tc main_arg1) = launchContents m c (Proc.devRef .tc main_arg1) := by
  have k0 := (end_keeps m c main_arg0 (by decide) (by decide) (by decide) (by decide) (by decide)).trans (arg0_entry _)
  have k1 := (end_keeps m c main_arg1 (by decide) (by decide) (by decide) (by decide) (by decide)).trans (arg1_entry _)
  rw [← k0, ← k1]
  show afterL postI (after condOps (atK m 128 c)) _ = _ ∧ afterL postI (after condOps (atK m 128 c)) _ = _
  generalize after condOps (atK m 128 c) = W
  simp only [afterL_cons, afterL_nil]
  constructor <;> after_reads_simp

end Reference

end Cert.Ret
-- ==== Proof.RetPre.lean ====
module

public import proofs.«01_k».proof.Proof.Pre
public import proofs.«01_k».proof.Proof.Gen.Pre_finite8

/-! What the retention's precondition says: every projection is a real number. -/

@[expose] public section

noncomputable section

namespace Cert.Ret

open Idealize.ShloMosaic

/-- The precondition read. -/
theorem reals_of_pre [Cert.Pre_finite8.Facts] (a : FVec Ideal Cert.Pre_finite8.S4x8192x3584 .bf16) (g : FVec Ideal Cert.Pre_finite8.S1x512 .f32)
    (e : Cert.Pre_finite8.fn (F := Ideal) a g = fun _ => 1#1) : ∃ X : Cert.Pre_finite8.S4x8192x3584.Idx → ℝ, ∀ i, a i = ↑(X i) := by
  have e := congrFun e (fun k => k.elim0)
  unfold Cert.Pre_finite8.fn at e
  dsimp only at e
  exact Cert.Diff.reals_of_all _ _ (fun _ => rfl) _ _ _ _ e

end Cert.Ret

end
-- ==== Proof.OutRef.lean ====
module

public import proofs.«01_k».proof.Proof.Gen.Reference6Ideal.Run
public import proofs.«01_k».proof.Proof.Out

/-! The references' operations after the mix, stage by stage, each read at an index. -/

@[expose] public section

set_option maxRecDepth 16384

noncomputable section

namespace Cert.OutRef

open Idealize.ShloMosaic Idealize.ShloMosaic.TcCoe Idealize.SL.Sem Cert.Out
open Cert.Reference6Ideal Cert.Reference6Ideal.Gen

/-- The residual sum of the rows, the gate and the mix. -/
def refY (x : FVec Ideal S4x8192x1024 .f32) (g1 : FVec Ideal S4x1x1024 .f32) (mix : FVec Ideal S4x8192x1024 .f32) : FVec Ideal S4x8192x1024 .f32 :=
  addf (mulf (broadcastInDim S4x8192x1024 ![] bcast_S_S4x8192x1024 (constant S_ .f32 0x3FB504F3#32)) x)
    (mulf (broadcastInDim S4x8192x1024 ![0, 1, 2] bcast_S4x1x1024_S4x8192x1024_0_1_2 (addf (broadcastInDim S4x1x1024 ![] bcast_S_S4x1x1024 (constant S_ .f32 0x3F800000#32)) g1)) mix)

/-- The rows less their means. -/
def refC (y : FVec Ideal S4x8192x1024 .f32) : FVec Ideal S4x8192x1024 .f32 :=
  subf y (broadcastInDim S4x8192x1024 ![0, 1, 2] bcast_S4x8192x1_S4x8192x1024_0_1_2 (Host.divf (broadcastInDim S4x8192x1 ![0, 1] bcast_S4x8192_S4x8192x1_0_1
    (Host.reduceAdd y (constant S_ .f32 0x00000000#32) reducesTo_S4x8192x1024_S4x8192_d2 h_S_)) (broadcastInDim S4x8192x1 ![] bcast_S_S4x8192x1 (constant S_ .f32 0x44800000#32))))

/-- The layer norm of the rows. -/
def refN (y : FVec Ideal S4x8192x1024 .f32) (g b : FVec Ideal S1024 .f32) : FVec Ideal S4x8192x1024 .f32 :=
  addf (mulf (mulf (refC y) (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf (refC y) (refC y)) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

/-- The rows for the experts. -/
def refU (x : FVec Ideal S4x8192x1024 .f32) (sc sh : FVec Ideal S4x1x1024 .f32) : FVec Ideal S4x8192x1024 .f32 :=
  addf (mulf x (broadcastInDim S4x8192x1024 ![0, 1, 2] bcast_S4x1x1024_S4x8192x1024_0_1_2 (addf (broadcastInDim S4x1x1024 ![] bcast_S_S4x1x1024 (constant S_ .f32 0x3F800000#32)) sc)))
    (broadcastInDim S4x8192x1024 ![0, 1, 2] bcast_S4x1x1024_S4x8192x1024_0_1_2 sh)

/-- The experts' logits, a row each. -/
def refE (u : FVec Ideal S4x8192x1024 .f32) (w : FVec Ideal S1024x32 .f32) (b : FVec Ideal S32 .f32) : FVec Ideal S32768x32 .f32 :=
  addf (Host.dotGeneral dot_S32768x1024_S1024x32_S32768x32_1_0_0_1_n_n none (shapeCast S32768x1024 u shapeCasts_S4x8192x1024_S32768x1024) w)
    (broadcastInDim S32768x32 ![0, 1] bcast_S1x32_S32768x32_0_1 (broadcastInDim S1x32 ![1] bcast_S32_S1x32_1 b))

/-- The groups' logits, a row each. -/
def refG (u : FVec Ideal S4x8192x1024 .f32) (w : FVec Ideal S1024x4 .f32) (b : FVec Ideal S4 .f32) : FVec Ideal S32768x4 .f32 :=
  addf (Host.dotGeneral dot_S32768x1024_S1024x4_S32768x4_1_0_0_1_n_n none (shapeCast S32768x1024 u shapeCasts_S4x8192x1024_S32768x1024) w)
    (broadcastInDim S32768x4 ![0, 1] bcast_S1x4_S32768x4_0_1 (broadcastInDim S1x4 ![1] bcast_S4_S1x4_1 b))

/-- The logits as the call lays them out. -/
def refL (e : FVec Ideal S32768x32 .f32) (g : FVec Ideal S32768x4 .f32) : FVec Ideal S40x32768 .f32 :=
  transpose S40x32768 [1, 0] (concatenate S32768x40 1 [⟨S32768x32, e⟩, ⟨S32768x4, g⟩, ⟨S32768x4, broadcastInDim S32768x4 ![] bcast_S_S32768x4 (constant S_ .f32 0x00000000#32)⟩]
    concatenates_S32768x32_S32768x4_S32768x4_S32768x40_d1) transposes_S32768x40_S40x32768_1_0

/-- The residual sum at an index. -/
theorem refY_read (x : FVec Ideal S4x8192x1024 .f32) (g1 : FVec Ideal S4x1x1024 .f32) (mix : FVec Ideal S4x8192x1024 .f32) (b : Fin 4) (s : Fin 8192) (k : Fin 1024) :
    refY x g1 mix (ix3 b s k) = resid (fun k => x (ix3 b s k)) (fun k => g1 (ix3 b 0 k)) (fun k => mix (ix3 b s k)) k := by
  pointwise [refY, resid]

/-- A row less its mean at an index. -/
theorem refC_read (y : FVec Ideal S4x8192x1024 .f32) (b : Fin 4) (s : Fin 8192) (k : Fin 1024) :
    refC y (ix3 b s k) = y (ix3 b s k) - mean fun k => y (ix3 b s k) := by
  pointwise [refC, mean]

/-- The layer norm at an index. -/
theorem refN_read (y : FVec Ideal S4x8192x1024 .f32) (g b : FVec Ideal S1024 .f32) (i : Fin 4) (s : Fin 8192) (e : Fin 1024) :
    refN y g b (ix3 i s e) = normed (fun k => y (ix3 i s k)) (fun k => g (ix1 k)) (fun k => b (ix1 k)) e := by
  pointwise [refN, refC, normed, mean]

/-- The rows for the experts at an index. -/
theorem refU_read (x : FVec Ideal S4x8192x1024 .f32) (sc sh : FVec Ideal S4x1x1024 .f32) (b : Fin 4) (s : Fin 8192) (k : Fin 1024) :
    refU x sc sh (ix3 b s k) = modded (fun k => x (ix3 b s k)) (fun k => sc (ix3 b 0 k)) (fun k => sh (ix3 b 0 k)) k := by
  pointwise [refU, modded]

/-- The rows laid flat. -/
theorem flat_read (u : FVec Ideal S4x8192x1024 .f32) (n : Fin 32768) (k : Fin 1024) :
    shapeCast S32768x1024 u shapeCasts_S4x8192x1024_S32768x1024 (ix2 n k) = u (ix3 (rowB n) (rowS n) k) := by
  pointwise [rowB, rowS]

/-- The experts' logits at an index. -/
theorem refE_read (u : FVec Ideal S4x8192x1024 .f32) (w : FVec Ideal S1024x32 .f32) (b : FVec Ideal S32 .f32) (n : Fin 32768) (q : Fin 32) :
    refE u w b (ix2 n q) = ∑ k, u (ix3 (rowB n) (rowS n) k) * w (ix2 k q) + b (ix1 q) := by
  simp only [← flat_read]
  generalize hv : shapeCast S32768x1024 u shapeCasts_S4x8192x1024_S32768x1024 = v
  unfold refE
  rw [hv]
  pointwise

/-- The groups' logits at an index. -/
theorem refG_read (u : FVec Ideal S4x8192x1024 .f32) (w : FVec Ideal S1024x4 .f32) (b : FVec Ideal S4 .f32) (n : Fin 32768) (q : Fin 4) :
    refG u w b (ix2 n q) = ∑ k, u (ix3 (rowB n) (rowS n) k) * w (ix2 k q) + b (ix1 q) := by
  simp only [← flat_read]
  generalize hv : shapeCast S32768x1024 u shapeCasts_S4x8192x1024_S32768x1024 = v
  unfold refG
  rw [hv]
  pointwise

/-- The laid out logits at an index: the experts' rows, the groups', then zeros. -/
theorem refL_read (e : FVec Ideal S32768x32 .f32) (g : FVec Ideal S32768x4 .f32) (q : Fin 40) (n : Fin 32768) :
    refL e g (ix2 q n) = if h : q.val < 32 then e (ix2 n ⟨q.val, h⟩) else if h' : q.val < 36 then g (ix2 n ⟨q.val - 32, by omega⟩) else (0 : EReal) := by
  pointwise [refL]
  refine dite_congr rfl (fun _ => rfl) fun h => ?_
  by_cases h' : q.val < 36
  · rw [dif_pos h']
    exact dif_pos (show q.val - 32 < 4 by omega)
  · rw [dif_neg h']
    exact dif_neg (show ¬ q.val - 32 < 4 by omega)

section Whole

variable {mixA : FVec Ideal S4x8192x1024 .f32} {mix : Fin 4 → Fin 8192 → Fin 1024 → EReal} (hm : ∀ b s k, mixA (ix3 b s k) = mix b s k)
  (x : FVec Ideal S4x8192x1024 .f32) (g1 sc sh : FVec Ideal S4x1x1024 .f32) {g b : FVec Ideal S1024 .f32} {lg lb : FVec Ideal S2x1024 .f32} {l : Fin 2}
  (hg : ∀ k, g (ix1 k) = lg (ix2 l k)) (hb : ∀ k, b (ix1 k) = lb (ix2 l k))

include hm hg hb

/-- The normed rows at an index. -/
theorem x_read (i : Fin 4) (s : Fin 8192) (e : Fin 1024) : refN (refY x g1 mixA) g b (ix3 i s e) = outX mix x g1 lg lb l i s e := by
  rw [refN_read]
  simp only [refY_read, hm, hg, hb]
  rfl

/-- The rows for the experts at an index. -/
theorem u_read (i : Fin 4) (s : Fin 8192) (e : Fin 1024) : refU (refN (refY x g1 mixA) g b) sc sh (ix3 i s e) = outU mix x g1 sc sh lg lb l i s e := by
  rw [refU_read]
  simp only [x_read hm x g1 hg hb]
  rfl

/-- The router logits at an index: the rows of zeros come out zero. -/
theorem l_read {we : FVec Ideal S1024x32 .f32} {be : FVec Ideal S32 .f32} {wg : FVec Ideal S1024x4 .f32} {bg : FVec Ideal S4 .f32}
    {WG : FVec Ideal S2x1024x4 .f32} {BG : FVec Ideal S2x4 .f32} {WE : FVec Ideal S2x1024x32 .f32} {BE : FVec Ideal S2x32 .f32}
    (h1 : ∀ k q, we (ix2 k q) = WE (ix3 l k q)) (h2 : ∀ q, be (ix1 q) = BE (ix2 l q)) (h3 : ∀ k q, wg (ix2 k q) = WG (ix3 l k q)) (h4 : ∀ q, bg (ix1 q) = BG (ix2 l q))
    (q : Fin 40) (n : Fin 32768) :
    refL (refE (refU (refN (refY x g1 mixA) g b) sc sh) we be) (refG (refU (refN (refY x g1 mixA) g b) sc sh) wg bg) (ix2 q n)
      = outL mix x g1 sc sh lg lb WG BG WE BE l q (rowB n) (rowS n) := by
  rw [refL_read]
  simp only [refE_read, refG_read, u_read hm x g1 sc sh hg hb, h1, h2, h3, h4]
  unfold outL weight bias
  split_ifs
  · rfl
  · rfl
  · simp only [mul_zero, Finset.sum_const_zero, add_zero]

end Whole

end Cert.OutRef
-- ==== Proof.Out5.lean ====
module

public import proofs.«01_k».proof.Proof.Gen.Kernel5Ideal.Value
public import proofs.«01_k».proof.Proof.Gen.Reference5Ideal.Run
public import proofs.«01_k».proof.Proof.OutRef

/-! The rows after an even layer's output projection: the kernel's three output arrays and the reference's. -/

@[expose] public section

set_option maxRecDepth 16384

noncomputable section

namespace Cert.Out5

open Idealize.ShloMosaic Idealize.ShloMosaic.TcCoe Idealize.SL.Sem Cert.Out

/-- The even layer's mix: each mixer's output times its half of the weights. -/
def mix (a a' : FVec Ideal ⟨3, ![4, 8192, 512]⟩ .bf16) (w : FVec Ideal ⟨3, ![1, 1024, 1024]⟩ .f32) (b : Fin 4) (s : Fin 8192) (e : Fin 1024) : EReal :=
  ∑ k : Fin 512, a (ix3 b s k) * w (ix3 0 (k.castLE (by decide)) e) + ∑ k : Fin 512, a' (ix3 b s k) * w (ix3 0 (k.natAdd 512) e)

/-- A sum over the two parts side by side is the sum of the sums over each. -/
theorem sum_halves (f g : Fin 512 → EReal) (w : Fin 1024 → EReal) :
    ∑ k : Fin 1024, (if h : k.val < 512 then f ⟨k.val, h⟩ else g ⟨k.val - 512, by omega⟩) * w k
      = ∑ k : Fin 512, f k * w (k.castLE (by decide)) + ∑ k : Fin 512, g k * w (k.natAdd 512) := by
  refine (Fin.sum_univ_add (M := EReal) (a := 512) (b := 512) (fun k : Fin (512 + 512) => (if h : k.val < 512 then f ⟨k.val, h⟩ else g ⟨k.val - 512, by omega⟩) * w k)).trans ?_
  refine congrArg₂ (· + ·) (Finset.sum_congr rfl fun k _ => ?_) (Finset.sum_congr rfl fun k _ => ?_)
  · exact congrArg (· * _) (dif_pos k.isLt)
  · refine congrArg (· * _) ((dif_neg (show ¬ 512 + k.val < 512 by omega)).trans (congrArg g (Fin.ext ?_)))
    show 512 + k.val - 512 = k.val
    omega

section Kernel
open Cert.Kernel5Ideal Cert.Kernel5Ideal.Gen Cert.Kernel5Ideal.Value

variable (a a' : FVec Ideal S1x256x512 .bf16) (w w' : FVec Ideal S512x1024 .bf16) (x : FVec Ideal S1x256x1024 .f32) (g1 : FVec Ideal S1x1x1024 .f32)
  (lg lb : FVec Ideal S1x1024 .f32) (sc sh : FVec Ideal S1x1x1024 .f32) (wr : FVec Ideal S40x1024 .f32) (br : FVec Ideal S40x1 .f32)

/-- The residual sum of a block's row. -/
def blockY (r : Fin 256) (k : Fin 1024) : EReal :=
  Ideal.ofBits .f32 0x3FB504F3#32 * x (ix3 0 r k) + g1 (ix3 0 0 k) * (∑ j : Fin 512, a (ix3 0 r j) * w (ix2 j k) + ∑ j : Fin 512, a' (ix3 0 r j) * w' (ix2 j k))

/-- The block's normed rows. -/
def blockX (r : Fin 256) (e : Fin 1024) : EReal := normed (blockY a a' w w' x g1 r) (fun k => lg (ix2 0 k)) (fun k => lb (ix2 0 k)) e

/-- The centred rows of the body. -/
theorem centre_read (r : Fin 256) (e : Fin 1024) : k0_pay8 (F := Ideal) a w a' w' x g1 (ix2 r e) = blockY a a' w w' x g1 r e - mean (blockY a a' w w' x g1 r) := by
  pointwise [k0_pay8, blockY, mean]

/-- The normed rows of the body. -/
theorem norm_read (r : Fin 256) (e : Fin 1024) : k0_pay1 (F := Ideal) (k0_pay6 lg) (k0_pay7 lb) (k0_pay8 a w a' w' x g1) (k0_pay9 a w a' w' x g1) (ix2 r e) = blockX a a' w w' x g1 lg lb r e := by
  unfold blockX normed
  simp only [← centre_read]
  pointwise [k0_pay1, k0_pay6, k0_pay7, k0_pay9, mean]

/-- The first output block. -/
theorem block12 (r : Fin 256) (e : Fin 1024) : out0_12 (F := Ideal) a a' w w' x g1 lg lb sc sh wr br (ix3 0 r e) = blockX a a' w w' x g1 lg lb r e := by
  have z3 : (![0, 0, 0] : Fin 3 → ℕ) = fun _ => 0 := by decide
  have z2 : (![0, 0] : Fin 2 → ℕ) = fun _ => 0 := by decide
  unfold out0_12 k0_pay10 k0_pay11 k0_pay12 k0_pay13
  rw [View.canon_unit_zero (S := S1x256x1024) z3, View.ld_unit_zero (S := S1x1024) z2, View.ld_unit_zero (S := S1x1024) z2, View.ld_unit_zero (S := S1x256x512) z3, View.ld_unit_zero (S := S512x1024) z2,
    View.ld_unit_zero (S := S1x256x512) z3, View.ld_unit_zero (S := S512x1024) z2, View.ld_unit_zero (S := S1x256x1024) z3, View.ld_unit_zero (S := S1x1x1024) z3,
    ← norm_read]
  pointwise [k0_pay2]

/-- The second output block. -/
theorem block13 (r : Fin 256) (e : Fin 1024) : out0_13 (F := Ideal) a a' w w' x g1 lg lb sc sh wr br (ix3 0 r e) = blockX a a' w w' x g1 lg lb r e * sc (ix3 0 0 e) + sh (ix3 0 0 e) := by
  have z3 : (![0, 0, 0] : Fin 3 → ℕ) = fun _ => 0 := by decide
  have z2 : (![0, 0] : Fin 2 → ℕ) = fun _ => 0 := by decide
  unfold out0_13 k0_pay10 k0_pay11 k0_pay12 k0_pay13
  rw [View.canon_unit_zero (S := S1x256x1024) z3, View.ld_unit_zero (S := S1x1024) z2, View.ld_unit_zero (S := S1x1024) z2, View.ld_unit_zero (S := S1x256x512) z3, View.ld_unit_zero (S := S512x1024) z2,
    View.ld_unit_zero (S := S1x256x512) z3, View.ld_unit_zero (S := S512x1024) z2, View.ld_unit_zero (S := S1x256x1024) z3, View.ld_unit_zero (S := S1x1x1024) z3,
    View.ld_unit_zero (S := S1x1x1024) z3, View.ld_unit_zero (S := S1x1x1024) z3, ← norm_read]
  pointwise [k0_pay4, k0_pay3]

/-- The third output block. -/
theorem block14 (q : Fin 40) (r : Fin 256) : out0_14 (F := Ideal) a a' w w' x g1 lg lb sc sh wr br (ix2 q r)
    = ∑ k : Fin 1024, (blockX a a' w w' x g1 lg lb r k * sc (ix3 0 0 k) + sh (ix3 0 0 k)) * wr (ix2 q k) + br (ix2 q 0) := by
  have z3 : (![0, 0, 0] : Fin 3 → ℕ) = fun _ => 0 := by decide
  have z2 : (![0, 0] : Fin 2 → ℕ) = fun _ => 0 := by decide
  unfold out0_14 k0_pay10 k0_pay11 k0_pay12 k0_pay13
  rw [View.canon_unit_zero (S := S40x256) z2, View.ld_unit_zero (S := S1x1024) z2, View.ld_unit_zero (S := S1x1024) z2, View.ld_unit_zero (S := S1x256x512) z3, View.ld_unit_zero (S := S512x1024) z2,
    View.ld_unit_zero (S := S1x256x512) z3, View.ld_unit_zero (S := S512x1024) z2, View.ld_unit_zero (S := S1x256x1024) z3, View.ld_unit_zero (S := S1x1x1024) z3,
    View.ld_unit_zero (S := S1x1x1024) z3, View.ld_unit_zero (S := S1x1x1024) z3, View.ld_unit_zero (S := S40x1024) z2, View.ld_unit_zero (S := S40x1) z2]
  simp only [← norm_read]
  refine Eq.trans (b := ∑ k : Fin 1024, wr (ix2 q k) * (k0_pay1 (F := Ideal) (k0_pay6 lg) (k0_pay7 lb) (k0_pay8 a w a' w' x g1) (k0_pay9 a w a' w' x g1) (ix2 r k) * sc (ix3 0 0 k) + sh (ix3 0 0 k)) + br (ix2 q 0)) ?_ ?_
  · pointwise [k0_pay5, k0_pay3]
  · exact congrArg (· + br (ix2 q 0)) (Finset.sum_congr rfl fun k _ => mul_comm _ _)

/-- The windows' block indices at a grid point. -/
theorem idx : ∀ t : Fin cfg0.N, win0_0.index t = ![(grid0.coords t 0).val, (grid0.coords t 1).val, 0]
    ∧ win0_1.index t = ![(grid0.coords t 0).val, (grid0.coords t 1).val, 0]
    ∧ win0_3.index t = ![0, 0] ∧ win0_2.index t = ![0, 0] ∧ win0_4.index t = ![(grid0.coords t 0).val, (grid0.coords t 1).val, 0]
    ∧ win0_5.index t = ![(grid0.coords t 0).val, 0, 0] ∧ win0_6.index t = ![0, 0] ∧ win0_7.index t = ![0, 0]
    ∧ win0_8.index t = ![(grid0.coords t 0).val, 0, 0] ∧ win0_9.index t = ![(grid0.coords t 0).val, 0, 0]
    ∧ win0_10.index t = ![0, 0] ∧ win0_11.index t = ![0, 0]
    ∧ win0_12.index t = ![(grid0.coords t 0).val, (grid0.coords t 1).val, 0] ∧ win0_13.index t = ![(grid0.coords t 0).val, (grid0.coords t 1).val, 0]
    ∧ win0_14.index t = ![0, (grid0.coords t 0).val * 32 + (grid0.coords t 1).val] :=
  (by decide +kernel : ∀ t : Fin grid0.N, _)

variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The positions of a grid point. -/
def cS (r : Fin 256) : Fin 8192 := ⟨(grid0.coords t 1).val * 256 + r.val, by have := (grid0.coords t 1).isLt; simp at *; omega⟩
/-- The flat rows of a grid point. -/
def cN (r : Fin 256) : Fin 32768 := ⟨((grid0.coords t 0).val * 32 + (grid0.coords t 1).val) * 256 + r.val, by
  have h0 : (grid0.coords t 0).val < 4 := (grid0.coords t 0).isLt
  have h1 : (grid0.coords t 1).val < 32 := (grid0.coords t 1).isLt
  omega⟩

/-- The batch of a point's flat row. -/
theorem rowB_cN (r : Fin 256) : rowB (cN t r) = cB t := Fin.ext (by
  have h1 : (grid0.coords t 1).val < 32 := (grid0.coords t 1).isLt
  show (((grid0.coords t 0).val * 32 + (grid0.coords t 1).val) * 256 + r.val) / 8192 = (grid0.coords t 0).val
  omega)

/-- The position of a point's flat row. -/
theorem rowS_cN (r : Fin 256) : rowS (cN t r) = cS t r := Fin.ext (by
  have h1 : (grid0.coords t 1).val < 32 := (grid0.coords t 1).isLt
  show (((grid0.coords t 0).val * 32 + (grid0.coords t 1).val) * 256 + r.val) % 8192 = (grid0.coords t 1).val * 256 + r.val
  omega)

/-- The first mixer's rows of a grid point. -/
def in0 : FVec Ideal S1x256x512 .bf16 := iblk m c 0 t
/-- The second mixer's rows of a grid point. -/
def in1 : FVec Ideal S1x256x512 .bf16 := iblk m c 1 t
/-- The first half of the weights. -/
def in2 : FVec Ideal S512x1024 .bf16 := iblk m c 2 t
/-- The second half of the weights. -/
def in3 : FVec Ideal S512x1024 .bf16 := iblk m c 3 t
/-- The layer's rows of a grid point. -/
def in4 : FVec Ideal S1x256x1024 .f32 := iblk m c 4 t
/-- The gate of a grid point. -/
def in5 : FVec Ideal S1x1x1024 .f32 := iblk m c 5 t
/-- The norm's gain. -/
def in6 : FVec Ideal S1x1024 .f32 := iblk m c 6 t
/-- The norm's bias. -/
def in7 : FVec Ideal S1x1024 .f32 := iblk m c 7 t
/-- The scale of a grid point. -/
def in8 : FVec Ideal S1x1x1024 .f32 := iblk m c 8 t
/-- The shift of a grid point. -/
def in9 : FVec Ideal S1x1x1024 .f32 := iblk m c 9 t
/-- The router's matrix. -/
def in10 : FVec Ideal S40x1024 .f32 := iblk m c 10 t
/-- The router's bias. -/
def in11 : FVec Ideal S40x1 .f32 := iblk m c 11 t

/-- The first mixer's rows. -/
theorem in0_read (r : Fin 256) (k : Fin 512) : in0 m c t (ix3 0 r k) = m ((c : Thread nD τ).loc main_arg0) (ix3 (cB t) (cS t r) k) := by
  show (show FVec Ideal S1x256x512 .bf16 from iblk m c 0 t) (ix3 0 r k) = _
  blk_ext [iblk, V, idx t, cB, cS]

/-- The second mixer's rows. -/
theorem in1_read (r : Fin 256) (k : Fin 512) : in1 m c t (ix3 0 r k) = m ((c : Thread nD τ).loc main_arg1) (ix3 (cB t) (cS t r) k) := by
  show (show FVec Ideal S1x256x512 .bf16 from iblk m c 1 t) (ix3 0 r k) = _
  blk_ext [iblk, V, idx t, cB, cS]

/-- The first half of the weights. -/
theorem in2_read (k : Fin 512) (e : Fin 1024) : in2 m c t (ix2 k e) = m ((c : Thread nD τ).loc main_arg8) (ix3 0 (k.castLE (by decide)) e) := by
  show (show FVec Ideal S512x1024 .bf16 from iblk m c 2 t) (ix2 k e) = _
  have e : ((View.whole main_v35).slice (win0_2.rect t)).emb (ix2 k e) = ix2 k e := by
    blk_ext [idx t]
  blk_simp [iblk]
  entry_read
  rw [e]
  pointwise
  rfl

/-- The second half of the weights. -/
theorem in3_read (k : Fin 512) (e : Fin 1024) : in3 m c t (ix2 k e) = m ((c : Thread nD τ).loc main_arg8) (ix3 0 (k.natAdd 512) e) := by
  show (show FVec Ideal S512x1024 .bf16 from iblk m c 3 t) (ix2 k e) = _
  have e : ((View.whole main_v36).slice (win0_3.rect t)).emb (ix2 k e) = ix2 k e := by
    blk_ext [idx t]
  blk_simp [iblk]
  entry_read
  rw [e]
  pointwise
  rfl

/-- The layer's rows. -/
theorem in4_read (r : Fin 256) (k : Fin 1024) : in4 m c t (ix3 0 r k) = m ((c : Thread nD τ).loc main_arg2) (ix3 (cB t) (cS t r) k) := by
  show (show FVec Ideal S1x256x1024 .f32 from iblk m c 4 t) (ix3 0 r k) = _
  blk_ext [iblk, V, idx t, cB, cS]

/-- The gate, one more than the argument. -/
theorem in5_read (k : Fin 1024) : in5 m c t (ix3 0 0 k) = Ideal.ofBits .f32 0x3F800000#32 + (show EReal from m ((c : Thread nD τ).loc main_arg3) (ix3 (cB t) 0 k)) := by
  show (show FVec Ideal S1x1x1024 .f32 from iblk m c 5 t) (ix3 0 0 k) = _
  have e : ((View.whole main_v28).slice (win0_5.rect t)).emb (ix3 0 0 k) = ix3 (cB t) 0 k := by
    blk_ext [idx t, cB]
  blk_simp [iblk]
  entry_read
  pointwise
  rw [e]

/-- The norm's gain. -/
theorem in6_read (k : Fin 1024) : in6 m c t (ix2 0 k) = m ((c : Thread nD τ).loc main_arg6) (ix2 0 k) := by
  show (show FVec Ideal S1x1024 .f32 from iblk m c 6 t) (ix2 0 k) = _
  have e : ((View.whole main_v37).slice (win0_6.rect t)).emb (ix2 0 k) = ix2 0 k := by
    blk_ext [idx t]
  blk_simp [iblk]
  entry_read
  rw [e]
  pointwise

/-- The norm's bias. -/
theorem in7_read (k : Fin 1024) : in7 m c t (ix2 0 k) = m ((c : Thread nD τ).loc main_arg7) (ix2 0 k) := by
  show (show FVec Ideal S1x1024 .f32 from iblk m c 7 t) (ix2 0 k) = _
  have e : ((View.whole main_v38).slice (win0_7.rect t)).emb (ix2 0 k) = ix2 0 k := by
    blk_ext [idx t]
  blk_simp [iblk]
  entry_read
  rw [e]
  pointwise

/-- The scale, one more than the argument. -/
theorem in8_read (k : Fin 1024) : in8 m c t (ix3 0 0 k) = Ideal.ofBits .f32 0x3F800000#32 + (show EReal from m ((c : Thread nD τ).loc main_arg4) (ix3 (cB t) 0 k)) := by
  show (show FVec Ideal S1x1x1024 .f32 from iblk m c 8 t) (ix3 0 0 k) = _
  have e : ((View.whole main_v34).slice (win0_8.rect t)).emb (ix3 0 0 k) = ix3 (cB t) 0 k := by
    blk_ext [idx t, cB]
  blk_simp [iblk]
  entry_read
  pointwise
  rw [e]

/-- The shift. -/
theorem in9_read (k : Fin 1024) : in9 m c t (ix3 0 0 k) = m ((c : Thread nD τ).loc main_arg5) (ix3 (cB t) 0 k) := by
  show (show FVec Ideal S1x1x1024 .f32 from iblk m c 9 t) (ix3 0 0 k) = _
  blk_ext [iblk, V, idx t, cB]

/-- The router's matrix. -/
theorem in10_read (q : Fin 40) (k : Fin 1024) : in10 m c t (ix2 q k) = weight (m ((c : Thread nD τ).loc main_arg9)) (m ((c : Thread nD τ).loc main_arg11)) 0 q k := by
  show (show FVec Ideal S40x1024 .f32 from iblk m c 10 t) (ix2 q k) = _
  have e : ((View.whole main_v13).slice (win0_10.rect t)).emb (ix2 q k) = ix2 q k := by
    blk_ext [idx t]
  blk_simp [iblk]
  entry_read
  rw [e]
  refine router_rows scatter_S40x1024_S1_S32x1024_01_n_0_0 scatter_S40x1024_S1_S4x1024_01_n_0_0 rfl rfl rfl rfl rfl rfl _ _ _ _ _ _ _ 0 ?_ (by rfl) (by rfl) ?_ ?_ q k
  · intro q k
    pointwise
  · intro q k
    pointwise
  · intro q k
    pointwise

/-- The router's bias. -/
theorem in11_read (q : Fin 40) : in11 m c t (ix2 q 0) = bias (m ((c : Thread nD τ).loc main_arg10)) (m ((c : Thread nD τ).loc main_arg12)) 0 q := by
  show (show FVec Ideal S40x1 .f32 from iblk m c 11 t) (ix2 q 0) = _
  have e : ((View.whole main_v26).slice (win0_11.rect t)).emb (ix2 q 0) = ix2 q 0 := by
    blk_ext [idx t]
  blk_simp [iblk]
  entry_read
  rw [e]
  refine router_entries scatter_S40x1_S2_S32_0_1_01_0 scatter_S40x1_S2_S4_0_1_01_0 rfl rfl rfl rfl rfl rfl _ _ _ _ _ _ _ 0 ?_ (by rfl) (by rfl) (by rfl) (by rfl) ?_ ?_ q
  · intro q
    pointwise
  · intro q
    pointwise
  · intro q
    pointwise

/-- The residual sum of a point's row. -/
theorem in_read (r : Fin 256) (e : Fin 1024) : blockX (in0 m c t) (in1 m c t) (in2 m c t) (in3 m c t) (in4 m c t) (in5 m c t) (in6 m c t) (in7 m c t) r e
    = outX (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg6)) (m ((c : Thread nD τ).loc main_arg7)) 0 (cB t) (cS t r) e := by
  have h : blockY (in0 m c t) (in1 m c t) (in2 m c t) (in3 m c t) (in4 m c t) (in5 m c t) r = resid (fun k => m ((c : Thread nD τ).loc main_arg2) (ix3 (cB t) (cS t r) k))
      (fun k => m ((c : Thread nD τ).loc main_arg3) (ix3 (cB t) 0 k)) (mix (m ((c : Thread nD τ).loc main_arg0)) (m ((c : Thread nD τ).loc main_arg1)) (m ((c : Thread nD τ).loc main_arg8)) (cB t) (cS t r)) := by
    funext k
    simp only [blockY, resid, mix, in0_read, in1_read, in2_read, in3_read, in4_read, in5_read]
  unfold blockX outX
  simp only [h, in6_read, in7_read]

/-- The kernel's first output array. -/
theorem final12 : (dats m 0 c).arrAt 12 cfg0.N = fun j : S4x8192x1024.Idx =>
    outX (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg6)) (m ((c : Thread nD τ).loc main_arg7)) 0 (j 0) (j 1) (j 2) := by
  refine (dats m 0 c).arrAt_eq_of_covers 12 _ (by decide +kernel) fun t hf y => ?_
  refine (show _ = _ from congrFun (Value.flushed12 m c t) y).trans ?_
  blk_simp
  idx_vars y
  obtain rfl : y0 = 0 := Subsingleton.elim _ _
  refine (show _ = _ from block12 (in0 m c t) (in1 m c t) (in2 m c t) (in3 m c t) (in4 m c t) (in5 m c t) (in6 m c t) (in7 m c t) (in8 m c t) (in9 m c t) (in10 m c t) (in11 m c t) y1 y2).trans ?_
  have e0 : ((View.whole main_v39_0).slice (win0_12.rect t)).emb (ix3 0 y1 y2) = ix3 (cB t) (cS t y1) y2 := by
    blk_ext [idx t, cB, cS]
  rw [e0, in_read]
  rfl

/-- The kernel's second output array. -/
theorem final13 : (dats m 0 c).arrAt 13 cfg0.N = fun j : S4x8192x1024.Idx =>
    outU (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) 0 (j 0) (j 1) (j 2) := by
  refine (dats m 0 c).arrAt_eq_of_covers 13 _ (by decide +kernel) fun t hf y => ?_
  refine (show _ = _ from congrFun (Value.flushed13 m c t) y).trans ?_
  blk_simp
  idx_vars y
  obtain rfl : y0 = 0 := Subsingleton.elim _ _
  refine (show _ = _ from block13 (in0 m c t) (in1 m c t) (in2 m c t) (in3 m c t) (in4 m c t) (in5 m c t) (in6 m c t) (in7 m c t) (in8 m c t) (in9 m c t) (in10 m c t) (in11 m c t) y1 y2).trans ?_
  have e0 : ((View.whole main_v39_1).slice (win0_13.rect t)).emb (ix3 0 y1 y2) = ix3 (cB t) (cS t y1) y2 := by
    blk_ext [idx t, cB, cS]
  rw [e0, in_read, in8_read, in9_read]
  rfl

/-- The kernel's third output array. -/
theorem final14 : (dats m 0 c).arrAt 14 cfg0.N = fun j : S40x32768.Idx =>
    outL (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg9)) (m ((c : Thread nD τ).loc main_arg10)) (m ((c : Thread nD τ).loc main_arg11)) (m ((c : Thread nD τ).loc main_arg12)) 0
      (j 0) (rowB (j 1)) (rowS (j 1)) := by
  refine (dats m 0 c).arrAt_eq_of_covers 14 _ (by decide +kernel) fun t hf y => ?_
  refine (show _ = _ from congrFun (Value.flushed14 m c t) y).trans ?_
  blk_simp
  idx_vars y
  refine (show _ = _ from block14 (in0 m c t) (in1 m c t) (in2 m c t) (in3 m c t) (in4 m c t) (in5 m c t) (in6 m c t) (in7 m c t) (in8 m c t) (in9 m c t) (in10 m c t) (in11 m c t) y0 y1).trans ?_
  have e0 : ((View.whole main_v39_2).slice (win0_14.rect t)).emb (ix2 y0 y1) = ix2 y0 (cN t y1) := by
    blk_ext [idx t, cN]
  rw [e0]
  show _ = outL _ _ _ _ _ _ _ _ _ _ _ 0 y0 (rowB (cN t y1)) (rowS (cN t y1))
  rw [rowB_cN, rowS_cN]
  simp only [in_read, in8_read, in9_read, in10_read, in11_read]
  rfl

end Kernel

section Reference
open Cert.Reference5Ideal Cert.Reference5Ideal.Gen Cert.OutRef

variable (m : (ℓ : Loc nD τ sig) → Buf (Elt Ideal) ℓ) (c : Dev nD)

/-- The reference's mix, as its operations. -/
def refMix (a a' : FVec Ideal S4x8192x512 .bf16) (w : FVec Ideal S1x1024x1024 .f32) : FVec Ideal S4x8192x1024 .f32 :=
  Host.dotGeneral dot_S4x8192x1024_S1024x1024_S4x8192x1024_2_0_01_1_n_n none
    (concatenate S4x8192x1024 2 [⟨S4x8192x512, extf .f32 a bitsLt_bf16_f32⟩, ⟨S4x8192x512, extf .f32 a' bitsLt_bf16_f32⟩] concatenates_S4x8192x512_S4x8192x512_S4x8192x1024_d2)
    (shapeCast S1024x1024 w shapeCasts_S1x1024x1024_S1024x1024)

/-- The reference's mix at an index. -/
theorem refMix_read (a a' : FVec Ideal S4x8192x512 .bf16) (w : FVec Ideal S1x1024x1024 .f32) (b : Fin 4) (s : Fin 8192) (e : Fin 1024) :
    refMix a a' w (ix3 b s e) = mix a a' w b s e := by
  refine Eq.trans ?_ (sum_halves (fun k => a (ix3 b s k)) (fun k => a' (ix3 b s k)) fun k => w (ix3 0 k e))
  pointwise [refMix]

/-- This layer's row of a norm's parameter. -/
def refV (v : FVec Ideal S2x1024 .f32) : FVec Ideal S1024 .f32 :=
  shapeCast S1024 (extractStridedSlice S1x1024 ![0, 0] v slices_S2x1024_S1x1024_0_0) shapeCasts_S1x1024_S1024

/-- This layer's row at an index. -/
theorem refV_read (v : FVec Ideal S2x1024 .f32) (k : Fin 1024) : refV v (ix1 k) = v (ix2 0 k) := by
  pointwise [refV]

/-- The reference's first result is the norm of its residual sum. -/
theorem res0_eq : Value.res_out0 m c = refN (refY (m ((c : Thread nD τ).loc main_arg2)) (m ((c : Thread nD τ).loc main_arg3))
    (refMix (m ((c : Thread nD τ).loc main_arg0)) (m ((c : Thread nD τ).loc main_arg1)) (m ((c : Thread nD τ).loc main_arg8)))) (refV (m ((c : Thread nD τ).loc main_arg6))) (refV (m ((c : Thread nD τ).loc main_arg7))) := rfl

/-- The reference's second result is its first, scaled and shifted. -/
theorem res1_eq : Value.res_out1 m c = refU (Value.res_out0 m c) (m ((c : Thread nD τ).loc main_arg4)) (m ((c : Thread nD τ).loc main_arg5)) := rfl

/-- The reference's third result is the logits of its second. -/
theorem res2_eq : Value.res_out2 m c = refL
    (refE (Value.res_out1 m c) (shapeCast S1024x32 (extractStridedSlice S1x1024x32 ![0, 0, 0] (m ((c : Thread nD τ).loc main_arg11)) slices_S2x1024x32_S1x1024x32_0_0_0) shapeCasts_S1x1024x32_S1024x32)
      (shapeCast S32 (extractStridedSlice S1x32 ![0, 0] (m ((c : Thread nD τ).loc main_arg12)) slices_S2x32_S1x32_0_0) shapeCasts_S1x32_S32))
    (refG (Value.res_out1 m c) (shapeCast S1024x4 (extractStridedSlice S1x1024x4 ![0, 0, 0] (m ((c : Thread nD τ).loc main_arg9)) slices_S2x1024x4_S1x1024x4_0_0_0) shapeCasts_S1x1024x4_S1024x4)
      (shapeCast S4 (extractStridedSlice S1x4 ![0, 0] (m ((c : Thread nD τ).loc main_arg10)) slices_S2x4_S1x4_0_0) shapeCasts_S1x4_S4)) := rfl

/-- The reference's first result. -/
theorem ref0 : Value.res_out0 m c = fun j : S4x8192x1024.Idx =>
    outX (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg6)) (m ((c : Thread nD τ).loc main_arg7)) 0 (j 0) (j 1) (j 2) := by
  rw [res0_eq]
  funext j
  idx_vars j
  exact x_read (refMix_read _ _ _) _ _ (refV_read _) (refV_read _) j0 j1 j2

/-- The reference's second result. -/
theorem ref1 : Value.res_out1 m c = fun j : S4x8192x1024.Idx =>
    outU (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) 0 (j 0) (j 1) (j 2) := by
  rw [res1_eq, res0_eq]
  funext j
  idx_vars j
  exact u_read (refMix_read _ _ _) _ _ _ _ (refV_read _) (refV_read _) j0 j1 j2

/-- The reference's third result. -/
theorem ref2 : Value.res_out2 m c = fun j : S40x32768.Idx =>
    outL (mix (m ((c : Thread nD τ).loc main_arg0)) (m ((c : Thread nD τ).loc main_arg1)) (m ((c : Thread nD τ).loc main_arg8))) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg9)) (m ((c : Thread nD τ).loc main_arg10)) (m ((c : Thread nD τ).loc main_arg11)) (m ((c : Thread nD τ).loc main_arg12)) 0
      (j 0) (rowB (j 1)) (rowS (j 1)) := by
  rw [res2_eq, res1_eq, res0_eq]
  funext j
  idx_vars j
  refine l_read (refMix_read _ _ _) _ _ _ _ (refV_read _) (refV_read _) (fun k q => ?_) (fun q => ?_) (fun k q => ?_) (fun q => ?_) j0 j1
  all_goals pointwise

end Reference

end Cert.Out5
-- ==== Proof.Out6.lean ====
module

public import proofs.«01_k».proof.Proof.Gen.Kernel6Ideal.Value
public import proofs.«01_k».proof.Proof.Gen.Reference6Ideal.Run
public import proofs.«01_k».proof.Proof.OutRef

/-! The rows after an odd layer's output projection: the kernel's three output arrays and the reference's. -/

@[expose] public section

set_option maxRecDepth 16384

noncomputable section

namespace Cert.Out6

open Idealize.ShloMosaic Idealize.ShloMosaic.TcCoe Idealize.SL.Sem Cert.Out

/-- The odd layer's mix: the mixer's output times the weights. -/
def mix (a : FVec Ideal ⟨3, ![4, 8192, 1024]⟩ .bf16) (w : FVec Ideal ⟨3, ![1, 1024, 1024]⟩ .f32) (b : Fin 4) (s : Fin 8192) (e : Fin 1024) : EReal :=
  ∑ k : Fin 1024, a (ix3 b s k) * w (ix3 0 k e)

section Kernel
open Cert.Kernel6Ideal Cert.Kernel6Ideal.Gen Cert.Kernel6Ideal.Value

variable (a : FVec Ideal S1x256x1024 .bf16) (w : FVec Ideal S1024x1024 .bf16) (x : FVec Ideal S1x256x1024 .f32) (g1 : FVec Ideal S1x1x1024 .f32)
  (lg lb : FVec Ideal S1x1024 .f32) (sc sh : FVec Ideal S1x1x1024 .f32) (wr : FVec Ideal S40x1024 .f32) (br : FVec Ideal S40x1 .f32)

/-- The residual sum of a block's row. -/
def blockY (r : Fin 256) (k : Fin 1024) : EReal :=
  Ideal.ofBits .f32 0x3FB504F3#32 * x (ix3 0 r k) + g1 (ix3 0 0 k) * ∑ j : Fin 1024, a (ix3 0 r j) * w (ix2 j k)

/-- The block's normed rows. -/
def blockX (r : Fin 256) (e : Fin 1024) : EReal := normed (blockY a w x g1 r) (fun k => lg (ix2 0 k)) (fun k => lb (ix2 0 k)) e

/-- The centred and scaled rows of the body, before the norm's bias. -/
theorem norm_read (r : Fin 256) (e : Fin 1024) :
    k0_pay7 (F := Ideal) a w x g1 lg (ix2 r e) + lb (ix2 0 e) = blockX a w x g1 lg lb r e := by
  pointwise [k0_pay7, blockX, blockY, normed, mean]

/-- The first output block. -/
theorem block10 (r : Fin 256) (e : Fin 1024) : out0_10 (F := Ideal) a w x g1 lg lb sc sh wr br (ix3 0 r e) = blockX a w x g1 lg lb r e := by
  have z3 : (![0, 0, 0] : Fin 3 → ℕ) = fun _ => 0 := by decide
  have z2 : (![0, 0] : Fin 2 → ℕ) = fun _ => 0 := by decide
  unfold out0_10 k0_pay8 k0_pay9
  rw [View.canon_unit_zero (S := S1x256x1024) z3, View.ld_unit_zero (S := S1x256x1024) z3, View.ld_unit_zero (S := S1024x1024) z2,
    View.ld_unit_zero (S := S1x256x1024) z3, View.ld_unit_zero (S := S1x1x1024) z3, View.ld_unit_zero (S := S1x1024) z2, View.ld_unit_zero (S := S1x1024) z2,
    ← norm_read]
  pointwise [k0_pay2, k0_pay1, k0_pay6]

/-- The second output block. -/
theorem block11 (r : Fin 256) (e : Fin 1024) : out0_11 (F := Ideal) a w x g1 lg lb sc sh wr br (ix3 0 r e) = blockX a w x g1 lg lb r e * sc (ix3 0 0 e) + sh (ix3 0 0 e) := by
  have z3 : (![0, 0, 0] : Fin 3 → ℕ) = fun _ => 0 := by decide
  have z2 : (![0, 0] : Fin 2 → ℕ) = fun _ => 0 := by decide
  unfold out0_11 k0_pay8 k0_pay9
  rw [View.canon_unit_zero (S := S1x256x1024) z3, View.ld_unit_zero (S := S1x256x1024) z3, View.ld_unit_zero (S := S1024x1024) z2,
    View.ld_unit_zero (S := S1x256x1024) z3, View.ld_unit_zero (S := S1x1x1024) z3, View.ld_unit_zero (S := S1x1024) z2, View.ld_unit_zero (S := S1x1024) z2,
    View.ld_unit_zero (S := S1x1x1024) z3, View.ld_unit_zero (S := S1x1x1024) z3, ← norm_read]
  pointwise [k0_pay4, k0_pay3, k0_pay1, k0_pay6]

/-- The third output block. -/
theorem block12 (q : Fin 40) (r : Fin 256) : out0_12 (F := Ideal) a w x g1 lg lb sc sh wr br (ix2 q r)
    = ∑ k : Fin 1024, (blockX a w x g1 lg lb r k * sc (ix3 0 0 k) + sh (ix3 0 0 k)) * wr (ix2 q k) + br (ix2 q 0) := by
  have z3 : (![0, 0, 0] : Fin 3 → ℕ) = fun _ => 0 := by decide
  have z2 : (![0, 0] : Fin 2 → ℕ) = fun _ => 0 := by decide
  unfold out0_12 k0_pay8 k0_pay9
  rw [View.canon_unit_zero (S := S40x256) z2, View.ld_unit_zero (S := S1x256x1024) z3, View.ld_unit_zero (S := S1024x1024) z2,
    View.ld_unit_zero (S := S1x256x1024) z3, View.ld_unit_zero (S := S1x1x1024) z3, View.ld_unit_zero (S := S1x1024) z2, View.ld_unit_zero (S := S1x1024) z2,
    View.ld_unit_zero (S := S1x1x1024) z3, View.ld_unit_zero (S := S1x1x1024) z3, View.ld_unit_zero (S := S40x1024) z2, View.ld_unit_zero (S := S40x1) z2]
  simp only [← norm_read]
  refine Eq.trans (b := ∑ k : Fin 1024, wr (ix2 q k) * ((k0_pay7 (F := Ideal) a w x g1 lg (ix2 r k) + lb (ix2 0 k)) * sc (ix3 0 0 k) + sh (ix3 0 0 k)) + br (ix2 q 0)) ?_ ?_
  · pointwise [k0_pay5, k0_pay3, k0_pay1, k0_pay6]
  · exact congrArg (· + br (ix2 q 0)) (Finset.sum_congr rfl fun k _ => mul_comm _ _)

/-- The windows' block indices at a grid point. -/
theorem idx : ∀ t : Fin cfg0.N, win0_0.index t = ![(grid0.coords t 0).val, (grid0.coords t 1).val, 0]
    ∧ win0_1.index t = ![0, 0] ∧ win0_2.index t = ![(grid0.coords t 0).val, (grid0.coords t 1).val, 0]
    ∧ win0_3.index t = ![(grid0.coords t 0).val, 0, 0] ∧ win0_4.index t = ![0, 0] ∧ win0_5.index t = ![0, 0]
    ∧ win0_6.index t = ![(grid0.coords t 0).val, 0, 0] ∧ win0_7.index t = ![(grid0.coords t 0).val, 0, 0]
    ∧ win0_8.index t = ![0, 0] ∧ win0_9.index t = ![0, 0]
    ∧ win0_10.index t = ![(grid0.coords t 0).val, (grid0.coords t 1).val, 0] ∧ win0_11.index t = ![(grid0.coords t 0).val, (grid0.coords t 1).val, 0]
    ∧ win0_12.index t = ![0, (grid0.coords t 0).val * 32 + (grid0.coords t 1).val] :=
  (by decide +kernel : ∀ t : Fin grid0.N, _)

variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The positions of a grid point. -/
def cS (r : Fin 256) : Fin 8192 := ⟨(grid0.coords t 1).val * 256 + r.val, by have := (grid0.coords t 1).isLt; simp at *; omega⟩
/-- The flat rows of a grid point. -/
def cN (r : Fin 256) : Fin 32768 := ⟨((grid0.coords t 0).val * 32 + (grid0.coords t 1).val) * 256 + r.val, by
  have h0 : (grid0.coords t 0).val < 4 := (grid0.coords t 0).isLt
  have h1 : (grid0.coords t 1).val < 32 := (grid0.coords t 1).isLt
  omega⟩

/-- The batch of a point's flat row. -/
theorem rowB_cN (r : Fin 256) : rowB (cN t r) = cB t := Fin.ext (by
  have h1 : (grid0.coords t 1).val < 32 := (grid0.coords t 1).isLt
  show (((grid0.coords t 0).val * 32 + (grid0.coords t 1).val) * 256 + r.val) / 8192 = (grid0.coords t 0).val
  omega)

/-- The position of a point's flat row. -/
theorem rowS_cN (r : Fin 256) : rowS (cN t r) = cS t r := Fin.ext (by
  have h1 : (grid0.coords t 1).val < 32 := (grid0.coords t 1).isLt
  show (((grid0.coords t 0).val * 32 + (grid0.coords t 1).val) * 256 + r.val) % 8192 = (grid0.coords t 1).val * 256 + r.val
  omega)

/-- The mixer's rows of a grid point. -/
def in0 : FVec Ideal S1x256x1024 .bf16 := iblk m c 0 t
/-- The weights. -/
def in1 : FVec Ideal S1024x1024 .bf16 := iblk m c 1 t
/-- The layer's rows of a grid point. -/
def in2 : FVec Ideal S1x256x1024 .f32 := iblk m c 2 t
/-- The gate of a grid point. -/
def in3 : FVec Ideal S1x1x1024 .f32 := iblk m c 3 t
/-- The norm's gain. -/
def in4 : FVec Ideal S1x1024 .f32 := iblk m c 4 t
/-- The norm's bias. -/
def in5 : FVec Ideal S1x1024 .f32 := iblk m c 5 t
/-- The scale of a grid point. -/
def in6 : FVec Ideal S1x1x1024 .f32 := iblk m c 6 t
/-- The shift of a grid point. -/
def in7 : FVec Ideal S1x1x1024 .f32 := iblk m c 7 t
/-- The router's matrix. -/
def in8 : FVec Ideal S40x1024 .f32 := iblk m c 8 t
/-- The router's bias. -/
def in9 : FVec Ideal S40x1 .f32 := iblk m c 9 t

/-- The mixer's rows. -/
theorem in0_read (r : Fin 256) (k : Fin 1024) : in0 m c t (ix3 0 r k) = m ((c : Thread nD τ).loc main_arg0) (ix3 (cB t) (cS t r) k) := by
  show (show FVec Ideal S1x256x1024 .bf16 from iblk m c 0 t) (ix3 0 r k) = _
  blk_ext [iblk, V, idx t, cB, cS]

/-- The weights. -/
theorem in1_read (k e : Fin 1024) : in1 m c t (ix2 k e) = m ((c : Thread nD τ).loc main_arg7) (ix3 0 k e) := by
  show (show FVec Ideal S1024x1024 .bf16 from iblk m c 1 t) (ix2 k e) = _
  have e : ((View.whole main_v33).slice (win0_1.rect t)).emb (ix2 k e) = ix2 k e := by
    blk_ext [idx t]
  blk_simp [iblk]
  entry_read
  pointwise
  rw [e]
  rfl

/-- The layer's rows. -/
theorem in2_read (r : Fin 256) (k : Fin 1024) : in2 m c t (ix3 0 r k) = m ((c : Thread nD τ).loc main_arg1) (ix3 (cB t) (cS t r) k) := by
  show (show FVec Ideal S1x256x1024 .f32 from iblk m c 2 t) (ix3 0 r k) = _
  blk_ext [iblk, V, idx t, cB, cS]

/-- The gate, one more than the argument. -/
theorem in3_read (k : Fin 1024) : in3 m c t (ix3 0 0 k) = Ideal.ofBits .f32 0x3F800000#32 + (show EReal from m ((c : Thread nD τ).loc main_arg2) (ix3 (cB t) 0 k)) := by
  show (show FVec Ideal S1x1x1024 .f32 from iblk m c 3 t) (ix3 0 0 k) = _
  have e : ((View.whole main_v26).slice (win0_3.rect t)).emb (ix3 0 0 k) = ix3 (cB t) 0 k := by
    blk_ext [idx t, cB]
  blk_simp [iblk]
  entry_read
  pointwise
  rw [e]

/-- The norm's gain. -/
theorem in4_read (k : Fin 1024) : in4 m c t (ix2 0 k) = m ((c : Thread nD τ).loc main_arg5) (ix2 1 k) := by
  show (show FVec Ideal S1x1024 .f32 from iblk m c 4 t) (ix2 0 k) = _
  have e : ((View.whole main_v34).slice (win0_4.rect t)).emb (ix2 0 k) = ix2 0 k := by
    blk_ext [idx t]
  blk_simp [iblk]
  entry_read
  rw [e]
  pointwise

/-- The norm's bias. -/
theorem in5_read (k : Fin 1024) : in5 m c t (ix2 0 k) = m ((c : Thread nD τ).loc main_arg6) (ix2 1 k) := by
  show (show FVec Ideal S1x1024 .f32 from iblk m c 5 t) (ix2 0 k) = _
  have e : ((View.whole main_v35).slice (win0_5.rect t)).emb (ix2 0 k) = ix2 0 k := by
    blk_ext [idx t]
  blk_simp [iblk]
  entry_read
  rw [e]
  pointwise

/-- The scale, one more than the argument. -/
theorem in6_read (k : Fin 1024) : in6 m c t (ix3 0 0 k) = Ideal.ofBits .f32 0x3F800000#32 + (show EReal from m ((c : Thread nD τ).loc main_arg3) (ix3 (cB t) 0 k)) := by
  show (show FVec Ideal S1x1x1024 .f32 from iblk m c 6 t) (ix3 0 0 k) = _
  have e : ((View.whole main_v32).slice (win0_6.rect t)).emb (ix3 0 0 k) = ix3 (cB t) 0 k := by
    blk_ext [idx t, cB]
  blk_simp [iblk]
  entry_read
  pointwise
  rw [e]

/-- The shift. -/
theorem in7_read (k : Fin 1024) : in7 m c t (ix3 0 0 k) = m ((c : Thread nD τ).loc main_arg4) (ix3 (cB t) 0 k) := by
  show (show FVec Ideal S1x1x1024 .f32 from iblk m c 7 t) (ix3 0 0 k) = _
  blk_ext [iblk, V, idx t, cB]

/-- The router's matrix. -/
theorem in8_read (q : Fin 40) (k : Fin 1024) : in8 m c t (ix2 q k) = weight (m ((c : Thread nD τ).loc main_arg8)) (m ((c : Thread nD τ).loc main_arg10)) 1 q k := by
  show (show FVec Ideal S40x1024 .f32 from iblk m c 8 t) (ix2 q k) = _
  have e : ((View.whole main_v11).slice (win0_8.rect t)).emb (ix2 q k) = ix2 q k := by
    blk_ext [idx t]
  blk_simp [iblk]
  entry_read
  rw [e]
  refine router_rows scatter_S40x1024_S1_S32x1024_01_n_0_0 scatter_S40x1024_S1_S4x1024_01_n_0_0 rfl rfl rfl rfl rfl rfl _ _ _ _ _ _ _ 1 ?_ (by rfl) (by rfl) ?_ ?_ q k
  · intro q k
    pointwise
  · intro q k
    pointwise
  · intro q k
    pointwise

/-- The router's bias. -/
theorem in9_read (q : Fin 40) : in9 m c t (ix2 q 0) = bias (m ((c : Thread nD τ).loc main_arg9)) (m ((c : Thread nD τ).loc main_arg11)) 1 q := by
  show (show FVec Ideal S40x1 .f32 from iblk m c 9 t) (ix2 q 0) = _
  have e : ((View.whole main_v24).slice (win0_9.rect t)).emb (ix2 q 0) = ix2 q 0 := by
    blk_ext [idx t]
  blk_simp [iblk]
  entry_read
  rw [e]
  refine router_entries scatter_S40x1_S2_S32_0_1_01_0 scatter_S40x1_S2_S4_0_1_01_0 rfl rfl rfl rfl rfl rfl _ _ _ _ _ _ _ 1 ?_ (by rfl) (by rfl) (by rfl) (by rfl) ?_ ?_ q
  · intro q
    pointwise
  · intro q
    pointwise
  · intro q
    pointwise

/-- The residual sum of a point's row. -/
theorem in_read (r : Fin 256) (e : Fin 1024) : blockX (in0 m c t) (in1 m c t) (in2 m c t) (in3 m c t) (in4 m c t) (in5 m c t) r e
    = outX (mix (m ((c : Thread nD τ).loc main_arg0)) (m ((c : Thread nD τ).loc main_arg7))) (m ((c : Thread nD τ).loc main_arg1)) (m ((c : Thread nD τ).loc main_arg2))
      (m ((c : Thread nD τ).loc main_arg5)) (m ((c : Thread nD τ).loc main_arg6)) 1 (cB t) (cS t r) e := by
  have h : blockY (in0 m c t) (in1 m c t) (in2 m c t) (in3 m c t) r = resid (fun k => m ((c : Thread nD τ).loc main_arg1) (ix3 (cB t) (cS t r) k))
      (fun k => m ((c : Thread nD τ).loc main_arg2) (ix3 (cB t) 0 k)) (mix (m ((c : Thread nD τ).loc main_arg0)) (m ((c : Thread nD τ).loc main_arg7)) (cB t) (cS t r)) := by
    funext k
    simp only [blockY, resid, mix, in0_read, in1_read, in2_read, in3_read]
  unfold blockX outX
  simp only [h, in4_read, in5_read]

/-- The kernel's first output array. -/
theorem final10 : (dats m 0 c).arrAt 10 cfg0.N = fun j : S4x8192x1024.Idx =>
    outX (mix (m ((c : Thread nD τ).loc main_arg0)) (m ((c : Thread nD τ).loc main_arg7))) (m ((c : Thread nD τ).loc main_arg1)) (m ((c : Thread nD τ).loc main_arg2))
      (m ((c : Thread nD τ).loc main_arg5)) (m ((c : Thread nD τ).loc main_arg6)) 1 (j 0) (j 1) (j 2) := by
  refine (dats m 0 c).arrAt_eq_of_covers 10 _ (by decide +kernel) fun t hf y => ?_
  refine (show _ = _ from congrFun (Value.flushed10 m c t) y).trans ?_
  blk_simp
  idx_vars y
  obtain rfl : y0 = 0 := Subsingleton.elim _ _
  refine (show _ = _ from block10 (in0 m c t) (in1 m c t) (in2 m c t) (in3 m c t) (in4 m c t) (in5 m c t) (in6 m c t) (in7 m c t) (in8 m c t) (in9 m c t) y1 y2).trans ?_
  have e0 : ((View.whole main_v36_0).slice (win0_10.rect t)).emb (ix3 0 y1 y2) = ix3 (cB t) (cS t y1) y2 := by
    blk_ext [idx t, cB, cS]
  rw [e0, in_read]
  rfl

/-- The kernel's second output array. -/
theorem final11 : (dats m 0 c).arrAt 11 cfg0.N = fun j : S4x8192x1024.Idx =>
    outU (mix (m ((c : Thread nD τ).loc main_arg0)) (m ((c : Thread nD τ).loc main_arg7))) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) 1 (j 0) (j 1) (j 2) := by
  refine (dats m 0 c).arrAt_eq_of_covers 11 _ (by decide +kernel) fun t hf y => ?_
  refine (show _ = _ from congrFun (Value.flushed11 m c t) y).trans ?_
  blk_simp
  idx_vars y
  obtain rfl : y0 = 0 := Subsingleton.elim _ _
  refine (show _ = _ from block11 (in0 m c t) (in1 m c t) (in2 m c t) (in3 m c t) (in4 m c t) (in5 m c t) (in6 m c t) (in7 m c t) (in8 m c t) (in9 m c t) y1 y2).trans ?_
  have e0 : ((View.whole main_v36_1).slice (win0_11.rect t)).emb (ix3 0 y1 y2) = ix3 (cB t) (cS t y1) y2 := by
    blk_ext [idx t, cB, cS]
  rw [e0, in_read, in6_read, in7_read]
  rfl

/-- The kernel's third output array. -/
theorem final12 : (dats m 0 c).arrAt 12 cfg0.N = fun j : S40x32768.Idx =>
    outL (mix (m ((c : Thread nD τ).loc main_arg0)) (m ((c : Thread nD τ).loc main_arg7))) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg8)) (m ((c : Thread nD τ).loc main_arg9)) (m ((c : Thread nD τ).loc main_arg10)) (m ((c : Thread nD τ).loc main_arg11)) 1
      (j 0) (rowB (j 1)) (rowS (j 1)) := by
  refine (dats m 0 c).arrAt_eq_of_covers 12 _ (by decide +kernel) fun t hf y => ?_
  refine (show _ = _ from congrFun (Value.flushed12 m c t) y).trans ?_
  blk_simp
  idx_vars y
  refine (show _ = _ from block12 (in0 m c t) (in1 m c t) (in2 m c t) (in3 m c t) (in4 m c t) (in5 m c t) (in6 m c t) (in7 m c t) (in8 m c t) (in9 m c t) y0 y1).trans ?_
  have e0 : ((View.whole main_v36_2).slice (win0_12.rect t)).emb (ix2 y0 y1) = ix2 y0 (cN t y1) := by
    blk_ext [idx t, cN]
  rw [e0]
  show _ = outL _ _ _ _ _ _ _ _ _ _ _ 1 y0 (rowB (cN t y1)) (rowS (cN t y1))
  rw [rowB_cN, rowS_cN]
  simp only [in_read, in6_read, in7_read, in8_read, in9_read]
  rfl

end Kernel

section Reference
open Cert.Reference6Ideal Cert.Reference6Ideal.Gen Cert.OutRef

variable (m : (ℓ : Loc nD τ sig) → Buf (Elt Ideal) ℓ) (c : Dev nD)

/-- The reference's mix, as its operations. -/
def refMix (a : FVec Ideal S4x8192x1024 .bf16) (w : FVec Ideal S1x1024x1024 .f32) : FVec Ideal S4x8192x1024 .f32 :=
  Host.dotGeneral dot_S4x8192x1024_S1024x1024_S4x8192x1024_2_0_01_1_n_n none (extf .f32 a bitsLt_bf16_f32) (shapeCast S1024x1024 w shapeCasts_S1x1024x1024_S1024x1024)

/-- The reference's mix at an index. -/
theorem refMix_read (a : FVec Ideal S4x8192x1024 .bf16) (w : FVec Ideal S1x1024x1024 .f32) (b : Fin 4) (s : Fin 8192) (e : Fin 1024) :
    refMix a w (ix3 b s e) = mix a w b s e := by
  pointwise [refMix, mix]

/-- This layer's row of a norm's parameter. -/
def refV (v : FVec Ideal S2x1024 .f32) : FVec Ideal S1024 .f32 :=
  shapeCast S1024 (extractStridedSlice S1x1024 ![1, 0] v slices_S2x1024_S1x1024_1_0) shapeCasts_S1x1024_S1024

/-- This layer's row at an index. -/
theorem refV_read (v : FVec Ideal S2x1024 .f32) (k : Fin 1024) : refV v (ix1 k) = v (ix2 1 k) := by
  pointwise [refV]

/-- The reference's first result is the norm of its residual sum. -/
theorem res0_eq : Value.res_out0 m c = refN (refY (m ((c : Thread nD τ).loc main_arg1)) (m ((c : Thread nD τ).loc main_arg2))
    (refMix (m ((c : Thread nD τ).loc main_arg0)) (m ((c : Thread nD τ).loc main_arg7)))) (refV (m ((c : Thread nD τ).loc main_arg5))) (refV (m ((c : Thread nD τ).loc main_arg6))) := rfl

/-- The reference's second result is its first, scaled and shifted. -/
theorem res1_eq : Value.res_out1 m c = refU (Value.res_out0 m c) (m ((c : Thread nD τ).loc main_arg3)) (m ((c : Thread nD τ).loc main_arg4)) := rfl

/-- The reference's third result is the logits of its second. -/
theorem res2_eq : Value.res_out2 m c = refL
    (refE (Value.res_out1 m c) (shapeCast S1024x32 (extractStridedSlice S1x1024x32 ![1, 0, 0] (m ((c : Thread nD τ).loc main_arg10)) slices_S2x1024x32_S1x1024x32_1_0_0) shapeCasts_S1x1024x32_S1024x32)
      (shapeCast S32 (extractStridedSlice S1x32 ![1, 0] (m ((c : Thread nD τ).loc main_arg11)) slices_S2x32_S1x32_1_0) shapeCasts_S1x32_S32))
    (refG (Value.res_out1 m c) (shapeCast S1024x4 (extractStridedSlice S1x1024x4 ![1, 0, 0] (m ((c : Thread nD τ).loc main_arg8)) slices_S2x1024x4_S1x1024x4_1_0_0) shapeCasts_S1x1024x4_S1024x4)
      (shapeCast S4 (extractStridedSlice S1x4 ![1, 0] (m ((c : Thread nD τ).loc main_arg9)) slices_S2x4_S1x4_1_0) shapeCasts_S1x4_S4)) := rfl

/-- The reference's first result. -/
theorem ref0 : Value.res_out0 m c = fun j : S4x8192x1024.Idx =>
    outX (mix (m ((c : Thread nD τ).loc main_arg0)) (m ((c : Thread nD τ).loc main_arg7))) (m ((c : Thread nD τ).loc main_arg1)) (m ((c : Thread nD τ).loc main_arg2))
      (m ((c : Thread nD τ).loc main_arg5)) (m ((c : Thread nD τ).loc main_arg6)) 1 (j 0) (j 1) (j 2) := by
  rw [res0_eq]
  funext j
  idx_vars j
  exact x_read (refMix_read _ _) _ _ (refV_read _) (refV_read _) j0 j1 j2

/-- The reference's second result. -/
theorem ref1 : Value.res_out1 m c = fun j : S4x8192x1024.Idx =>
    outU (mix (m ((c : Thread nD τ).loc main_arg0)) (m ((c : Thread nD τ).loc main_arg7))) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) 1 (j 0) (j 1) (j 2) := by
  rw [res1_eq, res0_eq]
  funext j
  idx_vars j
  exact u_read (refMix_read _ _) _ _ _ _ (refV_read _) (refV_read _) j0 j1 j2

/-- The reference's third result. -/
theorem ref2 : Value.res_out2 m c = fun j : S40x32768.Idx =>
    outL (mix (m ((c : Thread nD τ).loc main_arg0)) (m ((c : Thread nD τ).loc main_arg7))) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg8)) (m ((c : Thread nD τ).loc main_arg9)) (m ((c : Thread nD τ).loc main_arg10)) (m ((c : Thread nD τ).loc main_arg11)) 1
      (j 0) (rowB (j 1)) (rowS (j 1)) := by
  rw [res2_eq, res1_eq, res0_eq]
  funext j
  idx_vars j
  refine l_read (refMix_read _ _) _ _ _ _ (refV_read _) (refV_read _) (fun k q => ?_) (fun q => ?_) (fun k q => ?_) (fun q => ?_) j0 j1
  all_goals pointwise

end Reference

end Cert.Out6
-- ==== Proof.StickFold.lean ====
module

public import proofs.«01_k».proof.Proof.Gen.Kernel2Ideal.Value
public import Idealize.ShloMosaic.Lib.VecWindow
public import Idealize.ShloMosaic.Lib.WholeRead
public import Idealize.ShloMosaic.Lib.LoopRemainder

/-! What one grid point of the stick-breaking kernel leaves in its output block, as a plain function of its input
    blocks: for each of the two heads the state after the diagonal key block, folded over the earlier key blocks. -/

@[expose] public section

set_option maxRecDepth 16384

noncomputable section

namespace Cert.Stick

open Cert.Kernel2Ideal Cert.Kernel2Ideal.Gen
open Idealize.ShloMosaic Idealize.ShloMosaic.TcCoe

variable {F : FTy → Type} [FloatOps F]

/-- The running accumulators and the running carries of the 256 rows. -/
abbrev Rows (F : FTy → Type) := FVec F S256x128 .f32 × FVec F S256x128 .f32

/-- The 256 key rows the loop's trip `k` reads. -/
def trunk (i : grid0.Coords) (k : Fin (k0_t1_loop i).trips) (x : Vec F S1x8192x128 .bf16) : Vec F S1x256x128 .bf16 :=
  fun y => x ((Rect.unit (s := S1x8192x128) (k0_off2 i k) S1x256x128.size (Facts₀.k0_off2_inb i k)).toLoadRect.idx y)

/-- The 256 key rows of the diagonal block. -/
def diagonal (i : grid0.Coords) (x : Vec F S1x8192x128 .bf16) : Vec F S1x256x128 .bf16 :=
  fun y => x ((Rect.unit (s := S1x8192x128) (k0_off1 i) S1x256x128.size (Facts₀.k0_off1_inb i)).toLoadRect.idx y)

/-- One trip of the loop over the earlier key blocks. -/
def trip (qs : FVec F S256x128 .bf16) (kb vb : Vec F S1x256x128 .bf16) (s : Rows F) : Rows F :=
  (k0_pay6 k0_pay24 qs kb vb s.2 s.1, k0_pay1 (k0_pay7 k0_pay25 qs kb s.2))

/-- The state after the first `n` trips. -/
def walk (i : grid0.Coords) (qs : FVec F S256x128 .bf16) (xk xv : Vec F S1x8192x128 .bf16) (s : Rows F) : ℕ → Rows F
  | 0 => s
  | n + 1 => if h : n < (k0_t1_loop i).trips then trip qs (trunk i ⟨n, h⟩ xk) (trunk i ⟨n, h⟩ xv) (walk i qs xk xv s n)
      else walk i qs xk xv s n

/-- The state after the diagonal key block. -/
def start (qs : FVec F S256x128 .bf16) (kb vb : Vec F S1x256x128 .bf16) : Rows F :=
  (k0_pay50 k0_pay23 k0_pay24 (k0_pay45 vb) (k0_pay3 qs kb) k0_pay47 k0_pay30 k0_pay29,
   k0_pay51 k0_pay23 k0_pay25 (k0_pay3 qs kb) k0_pay47 k0_pay30)

/-- The accumulators when the loop is over. -/
def last (i : grid0.Coords) (qs : FVec F S256x128 .bf16) (xk xv : Vec F S1x8192x128 .bf16) : Rows F :=
  walk i qs xk xv (start qs (diagonal i xk) (diagonal i xv)) (k0_t1_loop i).trips

/-- The scaled queries of the first head of the pair, zero in the other head's lanes. -/
def q0 (x : Vec F S1x256x128 .bf16) : FVec F S256x128 .bf16 := k0_pay28 (k0_pay27 x)

/-- The scaled queries of the second head of the pair, zero in the other head's lanes. -/
def q1 (x : Vec F S1x256x128 .bf16) : FVec F S256x128 .bf16 :=
  k0_pay42 kernelRun0_A.sl.v0 (k0_pay26 x) 64#32 (k0_pay40 kernelRun0_A.sl.v0) (k0_pay41 kernelRun0_A.sl.v0) 1#32 0#1

section Reads
variable (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S256x128 .f32) (harg7 : arg7.IsWhole) (arg8 : Memref sig .tc .vmem S256x128 .f32) (harg8 : arg8.IsWhole)

/-- In the first head's loop, before trip `n` the two scratch buffers read the state after `n` trips. -/
theorem reads_first (qs : FVec F S256x128 .bf16) (v61 : FVec F S256x128 .bf16) (v62 v74 : FVec F S256x256 .f32) (v75 : FVec F S256x256 .bf16) (v76 : Vec F S256x128 .f32) (v79 : FVec F S256x256 .f32)
    (xk xv : Vec F S1x8192x128 .bf16) (g7 : BufTy.Contents (Elt F) arg7.view.ty) (g8 : BufTy.Contents (Elt F) arg8.view.ty) (init : BitVec 32)
    (s : Rows F) (h7 : arg7.view.read (Elt F) g7 = s.1) (h8 : arg8.view.read (Elt F) g8 = s.2) (n : ℕ) :
    let st := st_k0_t1 (F := F) Variants.none c none i arg3 harg3 arg4 harg4 arg5 harg5 arg6 harg6 arg7 harg7 arg8 harg8 (BitVec.ofNat 32 (i 2).val) kernelRun0_A.sl.v0 k0_pay23 k0_pay24 k0_pay25 qs v61 v62 v74 v75 v76 v79 (harg4.unread xk) (harg5.unread xv) g7 g8 init n
    arg7.view.read (Elt F) (arg7.view.writes (Elt F) g7 st.2.1) = (walk i qs xk xv s n).1
    ∧ arg8.view.read (Elt F) (arg8.view.writes (Elt F) g8 st.2.2) = (walk i qs xk xv s n).2 := by
  have e4 : ∀ k, View.readAt (Elt F) arg4.view (Rect.unit (s := S1x8192x128) (k0_off2 i k) S1x256x128.size (Facts₀.k0_off2_inb i k)).toLoadRect (harg4.unread xk) = trunk i k xk :=
    fun k => funext fun y => harg4.readAt_unread xk _ y
  have e5 : ∀ k, View.readAt (Elt F) arg5.view (Rect.unit (s := S1x8192x128) (k0_off2 i k) S1x256x128.size (Facts₀.k0_off2_inb i k)).toLoadRect (harg5.unread xv) = trunk i k xv :=
    fun k => funext fun y => harg5.readAt_unread xv _ y
  induction n with
  | zero => exact ⟨h7, h8⟩
  | succ n ih =>
    intro st
    by_cases h : n < (k0_t1_loop i).trips
    · simp only [walk, dif_pos h]
      have hst := st_k0_t1_succ (F := F) Variants.none c none i arg3 harg3 arg4 harg4 arg5 harg5 arg6 harg6 arg7 harg7 arg8 harg8 (BitVec.ofNat 32 (i 2).val) kernelRun0_A.sl.v0 k0_pay23 k0_pay24 k0_pay25 qs v61 v62 v74 v75 v76 v79 (harg4.unread xk) (harg5.unread xv) g7 g8 init ⟨n, h⟩
      obtain ⟨i7, i8⟩ := ih
      have f7 := (View.readAt_full arg7.view _ inb_S256x128_S256x128_0_0).trans i7
      have f8 := (View.readAt_full arg8.view _ inb_S256x128_S256x128_0_0).trans i8
      simp only [st, hst, tripL_k0_t1]
      unfold trip_k0_t1
      dsimp only
      refine ⟨(View.read_writes_full _ _ _ _ _).trans ?_, (View.read_writes_full _ _ _ _ _).trans ?_⟩
      · exact (congrArg₂ (fun kb a => k0_pay6 k0_pay24 qs kb _ a _) (e4 _) f8).trans (congrArg₂ (fun vb a => k0_pay6 k0_pay24 qs _ vb _ a) (e5 _) f7)
      · unfold trip_k0_t1.sl.r
        exact congrArg₂ (fun kb a => k0_pay38 (k0_pay7 k0_pay25 qs kb a)) (e4 _) f8
    · have hst : st = st_k0_t1 (F := F) Variants.none c none i arg3 harg3 arg4 harg4 arg5 harg5 arg6 harg6 arg7 harg7 arg8 harg8 (BitVec.ofNat 32 (i 2).val) kernelRun0_A.sl.v0 k0_pay23 k0_pay24 k0_pay25 qs v61 v62 v74 v75 v76 v79 (harg4.unread xk) (harg5.unread xv) g7 g8 init n := by
        simp only [st]
        rw [st_k0_t1.eq_2]; unfold st_k0_t1Step; exact dif_neg h
      simp only [walk, dif_neg h]
      rw [hst]
      exact ih

/-- The same in the second head's loop. -/
theorem reads_second (qs : FVec F S256x128 .bf16) (v154 : FVec F S256x128 .bf16) (v155 v156 : FVec F S256x256 .f32)
    (xk xv : Vec F S1x8192x128 .bf16) (g7 : BufTy.Contents (Elt F) arg7.view.ty) (g8 : BufTy.Contents (Elt F) arg8.view.ty) (init : BitVec 32)
    (s : Rows F) (h7 : arg7.view.read (Elt F) g7 = s.1) (h8 : arg8.view.read (Elt F) g8 = s.2) (n : ℕ) :
    let st := st_k0_t3 (F := F) Variants.none c none i arg3 harg3 arg4 harg4 arg5 harg5 arg6 harg6 arg7 harg7 arg8 harg8 (BitVec.ofNat 32 (i 2).val) k0_pay23 k0_pay24 k0_pay25 qs v154 v155 v156 (harg4.unread xk) (harg5.unread xv) g7 g8 init n
    arg7.view.read (Elt F) (arg7.view.writes (Elt F) g7 st.2.1) = (walk i qs xk xv s n).1
    ∧ arg8.view.read (Elt F) (arg8.view.writes (Elt F) g8 st.2.2) = (walk i qs xk xv s n).2 := by
  have e4 : ∀ k, View.readAt (Elt F) arg4.view (Rect.unit (s := S1x8192x128) (k0_off4 i k) S1x256x128.size (Facts₀.k0_off4_inb i k)).toLoadRect (harg4.unread xk) = trunk i k xk :=
    fun k => funext fun y => harg4.readAt_unread xk _ y
  have e5 : ∀ k, View.readAt (Elt F) arg5.view (Rect.unit (s := S1x8192x128) (k0_off4 i k) S1x256x128.size (Facts₀.k0_off4_inb i k)).toLoadRect (harg5.unread xv) = trunk i k xv :=
    fun k => funext fun y => harg5.readAt_unread xv _ y
  induction n with
  | zero => exact ⟨h7, h8⟩
  | succ n ih =>
    intro st
    by_cases h : n < (k0_t1_loop i).trips
    · simp only [walk, dif_pos h]
      have hst := st_k0_t3_succ (F := F) Variants.none c none i arg3 harg3 arg4 harg4 arg5 harg5 arg6 harg6 arg7 harg7 arg8 harg8 (BitVec.ofNat 32 (i 2).val) k0_pay23 k0_pay24 k0_pay25 qs v154 v155 v156 (harg4.unread xk) (harg5.unread xv) g7 g8 init ⟨n, h⟩
      obtain ⟨i7, i8⟩ := ih
      have f7 := (View.readAt_full arg7.view _ inb_S256x128_S256x128_0_0).trans i7
      have f8 := (View.readAt_full arg8.view _ inb_S256x128_S256x128_0_0).trans i8
      simp only [st, hst, tripL_k0_t3]
      unfold trip_k0_t3
      dsimp only
      refine ⟨(View.read_writes_full _ _ _ _ _).trans ?_, (View.read_writes_full _ _ _ _ _).trans ?_⟩
      · exact (congrArg₂ (fun kb a => k0_pay16 k0_pay24 qs kb _ a _) (e4 _) f8).trans (congrArg₂ (fun vb a => k0_pay16 k0_pay24 qs _ vb _ a) (e5 _) f7)
      · unfold trip_k0_t3.sl.r
        exact congrArg₂ (fun kb a => k0_pay52 (k0_pay17 k0_pay25 qs kb a)) (e4 _) f8
    · have hst : st = st_k0_t3 (F := F) Variants.none c none i arg3 harg3 arg4 harg4 arg5 harg5 arg6 harg6 arg7 harg7 arg8 harg8 (BitVec.ofNat 32 (i 2).val) k0_pay23 k0_pay24 k0_pay25 qs v154 v155 v156 (harg4.unread xk) (harg5.unread xv) g7 g8 init n := by
        simp only [st]
        rw [st_k0_t3.eq_2]; unfold st_k0_t3Step; exact dif_neg h
      simp only [walk, dif_neg h]
      rw [hst]
      exact ih

set_option maxHeartbeats 2000000 in
/-- What the body leaves in the output block. -/
theorem block (x0 : Vec F S1x256x128 .bf16) (x1 x2 : Vec F S1x8192x128 .bf16) :
    out0_A_3 c i arg3 harg3 arg4 harg4 arg5 harg5 arg6 harg6 arg7 harg7 arg8 harg8 x0 x1 x2
      = k0_pay2 kernelRun0_A.sl.v0 (last i (q0 x0) x1 x2).1 (last i (q1 x0) x1 x2).1 := by
  have e0 : kernelRun0_A.sl.r c arg3 harg3 x0 = k0_pay26 x0 := congrArg k0_pay26 ((View.readAt_full _ _ _).trans (harg3.read_unread x0))
  have e1 : kernelRun0_A.sl.r_1 c arg3 harg3 x0 = k0_pay27 x0 := congrArg k0_pay27 ((View.readAt_full _ _ _).trans (harg3.read_unread x0))
  have e2 : kernelRun0_A.sl.r_2 c arg3 harg3 x0 = q0 x0 := congrArg k0_pay28 e1
  have e8 : kernelRun0_A.sl.r_8 c arg3 harg3 x0 = q1 x0 := by unfold kernelRun0_A.sl.r_8; rw [e0]; rfl
  have ek : View.readAt (Elt F) arg4.view (Rect.unit (s := S1x8192x128) (k0_off1 i) S1x256x128.size (Facts₀.k0_off1_inb i)).toLoadRect (harg4.unread x1) = diagonal i x1 :=
    funext fun y => harg4.readAt_unread x1 _ y
  have e3 : kernelRun0_A.sl.r_3 c i arg5 harg5 x2 = k0_pay31 (diagonal i x2) := congrArg k0_pay31 (funext fun y => harg5.readAt_unread x2 _ y)
  have e9 : kernelRun0_A.sl.r_9 i arg5 harg5 x2 = k0_pay45 (diagonal i x2) := congrArg k0_pay45 (funext fun y => harg5.readAt_unread x2 _ y)
  have e4 : kernelRun0_A.sl.r_4 c i arg3 harg3 arg4 harg4 x0 x1 = k0_pay3 (q0 x0) (diagonal i x1) := by unfold kernelRun0_A.sl.r_4; rw [e1, ek]; rfl
  have e10 : kernelRun0_A.sl.r_10 c i arg3 harg3 arg4 harg4 x0 x1 = k0_pay3 (q1 x0) (diagonal i x1) := by unfold kernelRun0_A.sl.r_10; rw [e0, ek]; rfl
  have c7 : kernelRun0_A.sl.v85 (F := F) c arg7 = k0_pay29 := View.readCov_full _ _ _ _ _
  have c8 : kernelRun0_A.sl.v76 (F := F) c arg8 = k0_pay30 := View.readCov_full _ _ _ _ _
  have d7 : kernelRun0_A.sl.v178 c i arg3 harg3 arg4 harg4 arg5 harg5 arg6 harg6 arg7 harg7 arg8 harg8 x0 x1 x2 = k0_pay29 := View.readCov_full _ _ _ _ _
  have d8 : kernelRun0_A.sl.v169 c i arg3 harg3 arg4 harg4 arg5 harg5 arg6 harg6 arg7 harg7 arg8 harg8 x0 x1 x2 = k0_pay30 := View.readCov_full _ _ _ _ _
  have s7 : arg7.view.read (Elt F) (arg7.view.writes (Elt F) arg7.view.junk (kernelRun0_A.sl.HS0_2 c i arg3 harg3 arg4 harg4 arg5 harg5 arg7 arg8 x0 x1 x2))
      = (start (q0 x0) (diagonal i x1) (diagonal i x2)).1 := by
    unfold kernelRun0_A.sl.HS0_2 kernelRun0_A.sl.r_5 kernelRun0_A.sl.r_7
    rw [e3, e4, e1, ek, c7, c8]
    exact View.read_writes_full _ _ _ _ _
  have s8 : arg8.view.read (Elt F) (arg8.view.writes (Elt F) arg8.view.junk (kernelRun0_A.sl.HS1_2 c i arg3 harg3 arg4 harg4 arg8 x0 x1))
      = (start (q0 x0) (diagonal i x1) (diagonal i x2)).2 := by
    unfold kernelRun0_A.sl.HS1_2 kernelRun0_A.sl.r_6
    rw [e1, ek, c8]
    exact View.read_writes_full _ _ _ _ _
  have t2 : (k0_t2_loop i).trips = 0 := Scf.rem_trips _ _
  have t4 : (k0_t4_loop i).trips = 0 := Scf.rem_trips _ _
  have w0 : kernelRun0_A.sl.v104 c i arg3 harg3 arg4 harg4 arg5 harg5 arg6 harg6 arg7 harg7 arg8 harg8 x0 x1 x2 = (last i (q0 x0) x1 x2).1 := by
    unfold kernelRun0_A.sl.v104
    rw [e2, show Scf.trips (k0_t2_loop i).lb (k0_t2_loop i).ub (k0_t2_loop i).st = 0 from t2, st_k0_t2.eq_1]
    refine (View.readAt_full _ _ _).trans ((congrArg _ (View.writes_append ..)).trans ?_)
    refine (congrArg (fun f => arg7.view.read (Elt F) (arg7.view.writes (Elt F) f [])) (View.writes_append ..)).trans ?_
    exact (reads_first (F := F) c i arg3 harg3 arg4 harg4 arg5 harg5 arg6 harg6 arg7 harg7 arg8 harg8 (q0 x0) _ _ _ _ _ _ x1 x2 _ _ 0#32 _ s7 s8 (k0_t1_loop i).trips).1
  have w1 : kernelRun0_A.sl.v197 c i arg3 harg3 arg4 harg4 arg5 harg5 arg6 harg6 arg7 harg7 arg8 harg8 x0 x1 x2 = (last i (q1 x0) x1 x2).1 := by
    unfold kernelRun0_A.sl.v197
    rw [e8, e9, e10, d7, d8, show Scf.trips (k0_t4_loop i).lb (k0_t4_loop i).ub (k0_t4_loop i).st = 0 from t4, st_k0_t4.eq_1]
    refine (View.readAt_full _ _ _).trans ((congrArg _ (View.writes_append ..)).trans ?_)
    refine (congrArg (fun f => arg7.view.read (Elt F) (arg7.view.writes (Elt F) f [])) (View.writes_append ..)).trans ?_
    exact (reads_second (F := F) c i arg3 harg3 arg4 harg4 arg5 harg5 arg6 harg6 arg7 harg7 arg8 harg8 (q1 x0) _ _ _ x1 x2 _ _ 0#32
      (start (q1 x0) (diagonal i x1) (diagonal i x2)) (View.read_writes_full _ _ _ _ _) (View.read_writes_full _ _ _ _ _) (k0_t1_loop i).trips).1
  unfold out0_A_3 kernelRun0_A
  dsimp only
  refine (View.read_writes_full _ _ _ _ _).trans ?_
  rw [w0, w1]

end Reads

end Cert.Stick
-- ==== Proof.StickSum.lean ====
module

public import proofs.«01_k».proof.Proof.Mean

/-! Stick-breaking attention of one row over the reals: the weight of a key is its logistic value times the chance that no
    later visible key was taken, written with the softplus of the scores. -/

@[expose] public section

noncomputable section

namespace Cert.Stick

open Idealize.ShloMosaic

/-- The softplus of a score. -/
def sp (z : ℝ) : ℝ := max z 0 + Real.log (1 + Real.exp (-|z|))

/-- The softplus of the negated score. -/
theorem sp_neg (z : ℝ) : sp (-z) = sp z - z := by
  unfold sp
  rw [abs_neg]
  rcases le_total z 0 with h | h
  · rw [max_eq_left (by linarith), max_eq_right h]; ring
  · rw [max_eq_right (by linarith), max_eq_left h]; ring

/-- The weight of key `k` for the query at position `p`. -/
def weight (z : ℕ → ℝ) (p k : ℕ) : ℝ := Real.exp (z k - sp (z k) - ∑ j ∈ Finset.Ico (k + 1) p, sp (z j))

/-- The weighted sum of the values of the earlier keys from key `a` on. -/
def partSum (z v : ℕ → ℝ) (a p : ℕ) : ℝ := ∑ k ∈ Finset.Ico a p, weight z p k * v k

/-- The softplus values of the earlier keys from key `a` on. -/
def partSp (z : ℕ → ℝ) (a p : ℕ) : ℝ := ∑ k ∈ Finset.Ico a p, sp (z k)

/-- A sum over a block's places from `lo` on and before `hi`. -/
theorem sum_places (n lo hi A : ℕ) (h : hi ≤ n) (f : ℕ → ℝ) :
    ∑ l : Fin n, (if lo ≤ l.val ∧ l.val < hi then f (A + l.val) else 0) = ∑ k ∈ Finset.Ico (A + lo) (A + hi), f k := by
  rw [Fin.sum_univ_eq_sum_range (fun l => if lo ≤ l ∧ l < hi then f (A + l) else 0) n, ← Finset.sum_filter, Nat.add_comm A lo, Nat.add_comm A hi, ← Finset.sum_Ico_add]
  refine Finset.sum_congr (Finset.ext fun l => ?_) fun l _ => by rw [Nat.add_comm]
  simp only [Finset.mem_filter, Finset.mem_range, Finset.mem_Ico]
  omega

/-- A sum over a whole block. -/
theorem sum_block (n A : ℕ) (f : ℕ → ℝ) : ∑ l : Fin n, f (A + l.val) = ∑ k ∈ Finset.Ico A (A + n), f k := by
  have := sum_places n 0 n A le_rfl f
  rw [add_zero] at this
  rw [← this]
  exact Finset.sum_congr rfl fun l _ => by rw [if_pos ⟨Nat.zero_le _, l.isLt⟩]

/-- The softplus values split at a later key. -/
theorem partSp_split (z : ℕ → ℝ) (a b p : ℕ) (h : a ≤ b) (h' : b ≤ p) : partSp z a b + partSp z b p = partSp z a p :=
  Finset.sum_Ico_consecutive _ h h'

/-- The weighted sums split at a later key. -/
theorem partSum_split (z v : ℕ → ℝ) (a b p : ℕ) (h : a ≤ b) (h' : b ≤ p) :
    ∑ k ∈ Finset.Ico a b, weight z p k * v k + partSum z v b p = partSum z v a p :=
  Finset.sum_Ico_consecutive _ h h'

/-- The kernel's softplus, on a real. -/
theorem softplus_coe (z : ℝ) : max ((z : ℝ) : EReal) 0 + Ideal.log (((1 : ℝ) : EReal) + Ideal.exp (0 - max ((z : ℝ) : EReal) (-((z : ℝ) : EReal)))) = ((sp z : ℝ) : EReal) := by
  have h0 : max ((z : ℝ) : EReal) 0 = ((max z 0 : ℝ) : EReal) := (EReal.coe_strictMono.monotone.map_max (a := z) (b := 0)).symm
  have h1 : max ((z : ℝ) : EReal) (-((z : ℝ) : EReal)) = ((|z| : ℝ) : EReal) := (EReal.coe_strictMono.monotone.map_max (a := z) (b := -z)).symm
  have h2 : (0 : EReal) - ((|z| : ℝ) : EReal) = ((-|z| : ℝ) : EReal) := by rw [← EReal.coe_zero, ← EReal.coe_sub, zero_sub]
  have h3 : (0:ℝ) < 1 + Real.exp (-|z|) := by positivity
  rw [h0, h1, h2, Ideal.exp_coe, ← EReal.coe_add, Ideal.log_coe, if_neg (not_le.2 h3), ← EReal.coe_add]
  rfl

/-- The scores of the query at position `s` in head `h`. -/
def zrow (X : (⟨3, ![4, 8192, 3584]⟩ : Shape).Idx → ℝ) (b : Fin 4) (h : Fin 8) (s : Fin 8192) (n : ℕ) : ℝ :=
  Diff.score (fun d => X (ix3 b s ⟨h.val * 64 + d.val, by omega⟩))
    (fun d => X (ix3 b ⟨n % 8192, Nat.mod_lt _ (by norm_num)⟩ ⟨512 + (h.val * 64 + d.val), by omega⟩))

/-- One lane of the values of head `h`. -/
def vrow (X : (⟨3, ![4, 8192, 3584]⟩ : Shape).Idx → ℝ) (b : Fin 4) (h : Fin 8) (d : Fin 64) (n : ℕ) : ℝ :=
  X (ix3 b ⟨n % 8192, Nat.mod_lt _ (by norm_num)⟩ ⟨1024 + (h.val * 64 + d.val), by omega⟩)

/-- The output at a batch, a position and a lane. -/
def value (X : (⟨3, ![4, 8192, 3584]⟩ : Shape).Idx → ℝ) (b : Fin 4) (s : Fin 8192) (e : Fin 512) : ℝ :=
  partSum (zrow X b ⟨e.val / 64, by omega⟩ s) (vrow X b ⟨e.val / 64, by omega⟩ ⟨e.val % 64, Nat.mod_lt _ (by norm_num)⟩) 0 s.val

end Cert.Stick
-- ==== Proof.StickRow.lean ====
module

public import proofs.«01_k».proof.Proof.StickFold
public import proofs.«01_k».proof.Proof.StickSum
public import proofs.«01_k».proof.Proof.Mean
public import proofs.«01_k».proof.Proof.Words
public import Idealize.ShloMosaic.Lib.Pointwise

/-! One row of the stick-breaking kernel's block: the folded state holds the weighted sum of the values and the negated sum
    of the softplus values. -/

@[expose] public section

set_option maxRecDepth 16384

noncomputable section

namespace Cert.Stick

open Cert.Kernel2Ideal Cert.Kernel2Ideal.Gen Cert.Diff
open Idealize.ShloMosaic Idealize.ShloMosaic.TcCoe

/-- The patterns of minus one. -/
theorem ofBits_neg_one : Ideal.ofBits .f32 0xBF800000#32 = ((-1 : ℝ) : EReal) := by
  simp [Ideal.ofBits, Ideal.ieee, ← EReal.coe_mul, ← EReal.coe_neg]
  norm_num

/-- The half word of minus one is minus one. -/
theorem ofBits_neg_one_half : Ideal.ofBits .bf16 0xBF80#16 = ((-1 : ℝ) : EReal) := by
  simp [Ideal.ofBits, Ideal.ieee, ← EReal.coe_mul, ← EReal.coe_neg]
  norm_num

/-- The selection on the first half of the lanes. -/
theorem lane_first (n : ℕ) (h : n < 128) {α : Type} (x y : α) :
    Scalar.select (IntOp.cmpi CmpIPredicate.eq
        (Scalar.select
          (IntOp.andi
            (IntOp.cmpi CmpIPredicate.ne
              (IntOp.subi (BitVec.setWidth 32 (IntOp.cmpi CmpIPredicate.sgt (BitVec.ofNat 32 n) 0#32))
                (BitVec.setWidth 32 (IntOp.cmpi CmpIPredicate.slt (BitVec.ofNat 32 n) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n) 64#32) 0#32))
          (IntOp.subi (IntOp.divsi ArithUnit.vector (BitVec.ofNat 32 n) 64#32) 1#32)
          (IntOp.divsi ArithUnit.vector (BitVec.ofNat 32 n) 64#32))
        0#32) x y = if n / 64 = 0 then x else y := by
  rw [← select_ofBool (n / 64 = 0)]
  exact congrArg (fun b => Scalar.select b x y) ((by decide +kernel : ∀ n : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n.val) 64#32) 0#32))
          (IntOp.subi (IntOp.divsi ArithUnit.vector (BitVec.ofNat 32 n.val) 64#32) 1#32)
          (IntOp.divsi ArithUnit.vector (BitVec.ofNat 32 n.val) 64#32))
        0#32) = BitVec.ofBool (decide (n.val / 64 = 0))) ⟨n, h⟩)

/-- The selection on the second half of the lanes. -/
theorem lane_second (n : ℕ) (h : n < 128) {α : Type} (x y : α) :
    Scalar.select (IntOp.cmpi CmpIPredicate.eq
        (Scalar.select
          (IntOp.andi
            (IntOp.cmpi CmpIPredicate.ne
              (IntOp.subi (BitVec.setWidth 32 (IntOp.cmpi CmpIPredicate.sgt (BitVec.ofNat 32 n) 0#32))
                (BitVec.setWidth 32 (IntOp.cmpi CmpIPredicate.slt (BitVec.ofNat 32 n) 0#32)))
              (Scalar.subi (1#32) (Scalar.extui 0#1)))
            (IntOp.cmpi CmpIPredicate.ne (IntOp.remsi ArithUnit.vector (BitVec.ofNat 32 n) 64#32) 0#32))
          (IntOp.subi (IntOp.divsi ArithUnit.vector (BitVec.ofNat 32 n) 64#32) 1#32)
          (IntOp.divsi ArithUnit.vector (BitVec.ofNat 32 n) 64#32))
        1#32) x y = if n / 64 = 1 then x else y := by
  rw [← select_ofBool (n / 64 = 1)]
  exact congrArg (fun b => Scalar.select b x y) ((by decide +kernel : ∀ n : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (1#32) (Scalar.extui 0#1)))
            (IntOp.cmpi CmpIPredicate.ne (IntOp.remsi ArithUnit.vector (BitVec.ofNat 32 n.val) 64#32) 0#32))
          (IntOp.subi (IntOp.divsi ArithUnit.vector (BitVec.ofNat 32 n.val) 64#32) 1#32)
          (IntOp.divsi ArithUnit.vector (BitVec.ofNat 32 n.val) 64#32))
        1#32) = BitVec.ofBool (decide (n.val / 64 = 1))) ⟨n, h⟩)

/-- The first head's scaled queries. -/
theorem q0_read (x : FVec Ideal S1x256x128 .bf16) (r : Fin 256) (l : Fin 128) :
    q0 (F := Ideal) x (ix2 r l) = (if l.val / 64 = 0 then x (ix3 0 r l) else 0) * Ideal.ofBits .f32 0x3E000000#32 := by
  pointwise [q0, k0_pay28, k0_pay27, k0_pay26]
  rw [lane_first l.val l.isLt]
  split <;> simp

/-- The second head's scaled queries. -/
theorem q1_read (x : FVec Ideal S1x256x128 .bf16) (r : Fin 256) (l : Fin 128) :
    q1 (F := Ideal) x (ix2 r l) = (if l.val / 64 = 1 then x (ix3 0 r l) else 0) * Ideal.ofBits .f32 0x3E000000#32 := by
  pointwise [q1, k0_pay42, k0_pay41, k0_pay40, kernelRun0_A.sl.v0, k0_pay26]
  rw [lane_second l.val l.isLt]
  split <;> simp

/-- The scores of a key block. -/
theorem z_read (qs : FVec Ideal S256x128 .bf16) (kb : FVec Ideal S1x256x128 .bf16) (r l : Fin 256) :
    k0_pay3 (F := Ideal) qs kb (ix2 r l) = ∑ x, qs (ix2 r x) * kb (ix3 0 l x) := by
  pointwise [k0_pay3]

/-- Two half sums are the sum over a block. -/
theorem merge (f : Fin 256 → EReal) : ∑ x : Fin 128, f ⟨x.val, by omega⟩ + ∑ x : Fin 128, f ⟨128 + x.val, by omega⟩ = ∑ x, f x :=
  (Fin.sum_univ_add (a := 128) (b := 128) f).symm

/-- The negated softplus values of a block's later keys. -/
theorem later (z : ℕ → ℝ) (A hi l : ℕ) (h : hi ≤ 256) (hl : l < 256) (g : Fin 256 → EReal)
    (hg : ∀ x : Fin 256, g x = if x.val < hi then ((sp (z (A + x.val)) : ℝ) : EReal) * ((-1 : ℝ) : EReal) else 0) :
    ∑ x : Fin 256, Scalar.select (IntOp.cmpi .sgt (BitVec.ofNat 32 x.val) (BitVec.ofNat 32 l)) (g x) 0
      = ((-∑ k ∈ Finset.Ico (A + l + 1) (A + hi), sp (z k) : ℝ) : EReal) := by
  rw [add_assoc, ← sum_places 256 (l + 1) hi A h fun k => sp (z k), ← Finset.sum_neg_distrib, ← sum_coe]
  refine Finset.sum_congr rfl fun x _ => ?_
  refine (select_slt l x.val (by omega) (by omega) (g x) 0).trans ?_
  rw [hg]
  by_cases h1 : l < x.val
  · rw [if_pos h1]
    by_cases h2 : x.val < hi
    · rw [if_pos h2, if_pos ⟨h1, h2⟩, ← EReal.coe_mul]; congr 1; ring
    · rw [if_neg h2, if_neg (by omega)]; simp
  · rw [if_neg h1, if_neg (by omega)]; simp

/-- A term of the weighted sum. -/
theorem term (z v : ℕ → ℝ) (A hi p k : ℕ) (h1 : k < A + hi) (h2 : A + hi ≤ p) :
    Ideal.exp (((z k : ℝ) : EReal) - ((sp (z k) : ℝ) : EReal) + (((-∑ j ∈ Finset.Ico (k + 1) (A + hi), sp (z j) : ℝ) : EReal) + ((-partSp z (A + hi) p : ℝ) : EReal))) * ((v k : ℝ) : EReal)
      = ((weight z p k * v k : ℝ) : EReal) := by
  rw [← EReal.coe_add, ← EReal.coe_sub, ← EReal.coe_add, Ideal.exp_coe, ← EReal.coe_mul]
  congr 3
  rw [← Finset.sum_Ico_consecutive (fun j => sp (z j)) (show k + 1 ≤ A + hi by omega) h2, partSp]
  ring

section Step
variable (z v : ℕ → ℝ) (qs : FVec Ideal S256x128 .bf16) (kb vb : FVec Ideal S1x256x128 .bf16) (r : Fin 256) (e : Fin 128) (A p : ℕ)
  (hz : ∀ l : Fin 256, k0_pay3 (F := Ideal) qs kb (ix2 r l) = ((z (A + l.val) : ℝ) : EReal))
include hz

/-- The softplus values of a key block. -/
theorem sp_read (l : Fin 256) : k0_pay4 (F := Ideal) qs kb (ix2 r l) = ((sp (z (A + l.val)) : ℝ) : EReal) := by
  have e : k0_pay4 (F := Ideal) qs kb (ix2 r l) = max (k0_pay3 (F := Ideal) qs kb (ix2 r l)) 0
      + Ideal.log (((1 : ℝ) : EReal) + Ideal.exp (0 - max (k0_pay3 (F := Ideal) qs kb (ix2 r l)) (-(k0_pay3 (F := Ideal) qs kb (ix2 r l))))) := by
    pointwise [k0_pay4]
    rfl
  rw [e, hz, softplus_coe]

/-- A trip adds its block's softplus values. -/
theorem trip_carry (s : Rows Ideal) (hp : A + 256 ≤ p) (hc : ∀ x, s.2 (ix2 r x) = ((-partSp z (A + 256) p : ℝ) : EReal)) :
    (trip qs kb vb s).2 (ix2 r e) = ((-partSp z A p : ℝ) : EReal) := by
  pointwise [trip, k0_pay7, k0_pay5, k0_pay25, k0_pay1]
  rw [ofBits_neg_one_half, hc, Finset.sum_congr rfl fun l _ => by rw [sp_read z qs kb r A hz l, ← EReal.coe_mul], sum_coe, ← EReal.coe_add, ← partSp_split z A (A + 256) p (by omega) hp,
    ← Finset.sum_mul, sum_block 256 A fun k => sp (z k)]
  congr 1
  unfold partSp
  ring

/-- A trip adds its block's weighted values. -/
theorem trip_acc (s : Rows Ideal) (hp : A + 256 ≤ p) (hv : ∀ l : Fin 256, vb (ix3 0 l e) = ((v (A + l.val) : ℝ) : EReal))
    (hc : ∀ x, s.2 (ix2 r x) = ((-partSp z (A + 256) p : ℝ) : EReal)) (ha : s.1 (ix2 r e) = ((partSum z v (A + 256) p : ℝ) : EReal)) :
    (trip qs kb vb s).1 (ix2 r e) = ((partSum z v A p : ℝ) : EReal) := by
  pointwise [trip, k0_pay6, k0_pay5, k0_pay24]
  have hl := fun n (hn : n < 256) => later z A 256 n le_rfl hn (fun x => k0_pay4 (F := Ideal) qs kb (ix2 r x) * Ideal.ofBits .f32 0xBF800000#32) fun x => by
    rw [if_pos x.isLt, sp_read z qs kb r A hz, ofBits_neg_one]
  have ht : ∀ l : Fin 256, Ideal.exp (k0_pay3 (F := Ideal) qs kb (ix2 r l) - k0_pay4 (F := Ideal) qs kb (ix2 r l)
      + (∑ x : Fin 256, Scalar.select (IntOp.cmpi .sgt (BitVec.ofNat 32 x.val) (BitVec.ofNat 32 l.val)) (k0_pay4 (F := Ideal) qs kb (ix2 r x) * Ideal.ofBits .f32 0xBF800000#32) 0
        + ((-partSp z (A + 256) p : ℝ) : EReal))) * vb (ix3 0 l e) = ((weight z p (A + l.val) * v (A + l.val) : ℝ) : EReal) := fun l => by
    rw [hl l.val l.isLt, hz, sp_read z qs kb r A hz, hv, term z v A 256 p (A + l.val) (by omega) hp]
  simp only [hc]
  refine (congrArg (_ + ·) ((merge fun l => Ideal.exp (k0_pay3 (F := Ideal) qs kb (ix2 r l) - k0_pay4 (F := Ideal) qs kb (ix2 r l)
      + (∑ x : Fin 256, Scalar.select (IntOp.cmpi .sgt (BitVec.ofNat 32 x.val) (BitVec.ofNat 32 l.val)) (k0_pay4 (F := Ideal) qs kb (ix2 r x) * Ideal.ofBits .f32 0xBF800000#32) 0
        + ((-partSp z (A + 256) p : ℝ) : EReal))) * vb (ix3 0 l e)))).trans ?_
  rw [Finset.sum_congr rfl fun l _ => ht l, sum_coe, ha, ← EReal.coe_add, ← partSum_split z v A (A + 256) p (by omega) hp, sum_block 256 A fun k => weight z p k * v k, add_comm]

/-- The softplus values of the diagonal block, zero at the keys that are not earlier. -/
theorem sp_masked (l : Fin 256) : k0_pay48 (F := Ideal) k0_pay23 (k0_pay3 (F := Ideal) qs kb) k0_pay47 (ix2 r l) = if l.val < r.val then ((sp (z (A + l.val)) : ℝ) : EReal) else 0 := by
  have e : k0_pay48 (F := Ideal) k0_pay23 (k0_pay3 (F := Ideal) qs kb) k0_pay47 (ix2 r l) = Scalar.select (IntOp.cmpi .slt (BitVec.ofNat 32 l.val) (BitVec.ofNat 32 r.val))
      (max (k0_pay3 (F := Ideal) qs kb (ix2 r l)) 0
      + Ideal.log (((1 : ℝ) : EReal) + Ideal.exp (0 - max (k0_pay3 (F := Ideal) qs kb (ix2 r l)) (-(k0_pay3 (F := Ideal) qs kb (ix2 r l)))))) 0 := by
    pointwise [k0_pay48, k0_pay47, k0_pay23]
    rfl
  rw [e, hz, softplus_coe, select_slt _ _ (by omega) (by omega)]

/-- The carry after the diagonal block. -/
theorem start_carry : (start qs kb vb).2 (ix2 r e) = ((-partSp z A (A + r.val) : ℝ) : EReal) := by
  have e : (start qs kb vb).2 (ix2 r e) = ∑ l, k0_pay48 (F := Ideal) k0_pay23 (k0_pay3 (F := Ideal) qs kb) k0_pay47 (ix2 r l) * Ideal.ofBits .bf16 0xBF80#16 := by
    pointwise [start, k0_pay51, k0_pay49, k0_pay25, k0_pay30]
  rw [e, ofBits_neg_one_half]
  have h := sum_places 256 0 r.val A r.isLt.le fun k => sp (z k)
  rw [add_zero] at h
  rw [partSp, ← h, ← Finset.sum_neg_distrib, ← sum_coe]
  refine Finset.sum_congr rfl fun l _ => ?_
  rw [sp_masked z qs kb r A hz]
  by_cases hl : l.val < r.val
  · rw [if_pos hl, if_pos ⟨Nat.zero_le _, hl⟩, ← EReal.coe_mul]; congr 1; ring
  · rw [if_neg hl, if_neg (by omega)]; simp

/-- The weighted values of the diagonal block. -/
theorem start_acc (hv : ∀ l : Fin 256, vb (ix3 0 l e) = ((v (A + l.val) : ℝ) : EReal)) : (start qs kb vb).1 (ix2 r e) = ((partSum z v A (A + r.val) : ℝ) : EReal) := by
  have hl := fun n (hn : n < 256) => later z A r.val n r.isLt.le hn (fun x => k0_pay48 (F := Ideal) k0_pay23 (k0_pay3 (F := Ideal) qs kb) k0_pay47 (ix2 r x) * Ideal.ofBits .f32 0xBF800000#32) fun x => by
    rw [sp_masked z qs kb r A hz, ofBits_neg_one]
    split
    · rfl
    · rw [zero_mul]
  have h := sum_places 256 0 r.val A r.isLt.le fun k => weight z (A + r.val) k * v k
  rw [add_zero] at h
  rw [partSum, ← h, ← sum_coe]
  have h0 : ((-partSp z (A + r.val) (A + r.val) : ℝ) : EReal) = 0 := by simp [partSp]
  refine Eq.trans (b := ∑ l : Fin 256, Scalar.select (IntOp.cmpi .slt (BitVec.ofNat 32 l.val) (BitVec.ofNat 32 r.val))
      (Ideal.exp (k0_pay3 (F := Ideal) qs kb (ix2 r l) - k0_pay48 (F := Ideal) k0_pay23 (k0_pay3 (F := Ideal) qs kb) k0_pay47 (ix2 r l)
      + ∑ x : Fin 256, Scalar.select (IntOp.cmpi .sgt (BitVec.ofNat 32 x.val) (BitVec.ofNat 32 l.val)) (k0_pay48 (F := Ideal) k0_pay23 (k0_pay3 (F := Ideal) qs kb) k0_pay47 (ix2 r x) * Ideal.ofBits .f32 0xBF800000#32) 0)
        * vb (ix3 0 l e)) 0) ?_ (Finset.sum_congr rfl fun l _ => ?_)
  · rw [← merge]
    pointwise [start, k0_pay50, k0_pay49, k0_pay45, k0_pay24, k0_pay29, k0_pay30, k0_pay23]
  · rw [select_slt _ _ (by omega) (by omega), hl l.val l.isLt, hz, sp_masked z qs kb r A hz, hv]
    by_cases hlr : l.val < r.val
    · rw [if_pos hlr, if_pos hlr, if_pos ⟨Nat.zero_le _, hlr⟩, ← term z v A r.val (A + r.val) (A + l.val) (by omega) le_rfl, h0, add_zero]
    · rw [if_neg hlr, if_neg (by omega)]; simp

end Step

end Cert.Stick
-- ==== Proof.StickPoint.lean ====
module

public import proofs.«01_k».proof.Proof.StickRow
public import proofs.«01_k».proof.Proof.Gen.Kernel2Ideal.Value
public import Idealize.ShloMosaic.Lib.Pipeline.ValueKit
public import Idealize.ShloMosaic.Lib.Claim

/-! The stick-breaking kernel's output array. -/

@[expose] public section

set_option maxRecDepth 16384

noncomputable section

namespace Cert.Stick

open Cert.Kernel2Ideal Cert.Kernel2Ideal.Gen Cert.Kernel2Ideal.Value Cert.Diff
open Idealize.ShloMosaic Idealize.ShloMosaic.TcCoe Idealize.SL.Sem

/-- The loop has one trip per earlier key block. -/
theorem trips_eq (i : grid0.Coords) : (k0_t1_loop i).trips = (i 2).val :=
  (by decide +kernel : ∀ n : Fin 32, Scf.trips 0#32 (Scalar.addi 0#32 (Scalar.muli (Scalar.divsi (Scalar.subi (BitVec.ofNat 32 n.val) 0#32) 1#32) 1#32)) 1#32 = n.val) (i 2)

/-- A trip's number is less than the block's own. -/
theorem trip_lt (i : grid0.Coords) (k : Fin (k0_t1_loop i).trips) : k.val < (i 2).val := (trips_eq i) ▸ k.isLt

/-- Where the diagonal block begins. -/
theorem off1 (i : grid0.Coords) : k0_off1 i = ![0, (i 2).val * 256, 0] :=
  (by decide +kernel : ∀ n : Fin 32, ![0, (Scalar.indexCast (Scalar.muli (BitVec.ofNat 32 n.val) 256#32)).toNat, 0] = ![0, n.val * 256, 0]) (i 2)

/-- Where the block of a trip begins: the blocks are taken from the last one down. -/
theorem off2 (i : grid0.Coords) (k : Fin (k0_t1_loop i).trips) : k0_off2 i k = ![0, ((i 2).val - 1 - k.val) * 256, 0] :=
  (by decide +kernel : ∀ n k : Fin 32, k.val < n.val → ![0, (Scalar.indexCast (Scalar.muli (Scalar.subi (Scalar.subi (BitVec.ofNat 32 n.val) 1#32) (Scf.iv 0#32 1#32 k.val)) 256#32)).toNat, 0] = ![0, (n.val - 1 - k.val) * 256, 0])
    (i 2) ⟨k.val, (trip_lt i k).trans (i 2).isLt⟩ (trip_lt i k)

/-- The diagonal key rows, read at an index. -/
theorem diagonal_read (i : grid0.Coords) (x : FVec Ideal S1x8192x128 .bf16) (l : Fin 256) (e : Fin 128) :
    diagonal (F := Ideal) i x (ix3 0 l e) = x (ix3 0 ⟨(i 2).val * 256 + l.val, by have : (i 2).val < 32 := (i 2).isLt; omega⟩ e) := by
  refine congrArg x (funext fun a => Fin.ext ?_)
  show (k0_off1 i) a + 1 * ((ix3 0 l e : S1x256x128.Idx) a).val = _
  rw [off1]
  fin_cases a <;> simp

/-- The key rows of an earlier block, read at an index. -/
theorem trunk_read (i : grid0.Coords) (k : Fin (k0_t1_loop i).trips) (x : FVec Ideal S1x8192x128 .bf16) (l : Fin 256) (e : Fin 128) :
    trunk (F := Ideal) i k x (ix3 0 l e) = x (ix3 0 ⟨((i 2).val - 1 - k.val) * 256 + l.val, by have : (i 2).val < 32 := (i 2).isLt; have := trip_lt i k; omega⟩ e) := by
  refine congrArg x (funext fun a => Fin.ext ?_)
  show (k0_off2 i k) a + 1 * ((ix3 0 l e : S1x256x128.Idx) a).val = _
  rw [off2]
  fin_cases a <;> simp

section Row
variable (i : grid0.Coords) (z v : ℕ → ℝ) (qs : FVec Ideal S256x128 .bf16) (xk xv : FVec Ideal S1x8192x128 .bf16) (r : Fin 256) (e : Fin 128)
  (hz : ∀ n : Fin 8192, ∑ x, qs (ix2 r x) * xk (ix3 0 n x) = ((z n.val : ℝ) : EReal))
  (hv : ∀ n : Fin 8192, xv (ix3 0 n e) = ((v n.val : ℝ) : EReal))
include hz hv

/-- After `n` trips the state holds the sums from the last block taken on. -/
theorem walk_row (n : ℕ) (hn : n ≤ (i 2).val) :
    let st := walk (F := Ideal) i qs xk xv (start qs (diagonal i xk) (diagonal i xv)) n
    st.1 (ix2 r e) = ((partSum z v (((i 2).val - n) * 256) ((i 2).val * 256 + r.val) : ℝ) : EReal)
      ∧ ∀ x, st.2 (ix2 r x) = ((-partSp z (((i 2).val - n) * 256) ((i 2).val * 256 + r.val) : ℝ) : EReal) := by
  have hi : (i 2).val < 32 := (i 2).isLt
  induction n with
  | zero =>
    have h : ∀ l : Fin 256, k0_pay3 (F := Ideal) qs (diagonal i xk) (ix2 r l) = ((z ((i 2).val * 256 + l.val) : ℝ) : EReal) := fun l => by
      rw [z_read, ← hz ⟨(i 2).val * 256 + l.val, by omega⟩]
      exact Finset.sum_congr rfl fun x _ => by rw [diagonal_read]
    exact ⟨start_acc z v qs _ _ r e _ h fun l => (diagonal_read i xv l e).trans (hv _), fun x => start_carry z qs _ _ r x _ h⟩
  | succ n ih =>
    have hlt : n < (k0_t1_loop i).trips := by rw [trips_eq]; omega
    have e1 : (i 2).val - (n + 1) = (i 2).val - 1 - n := by omega
    have e2 : ((i 2).val - n) * 256 = ((i 2).val - 1 - n) * 256 + 256 := by omega
    have ih := ih (by omega)
    rw [e2] at ih
    have h : ∀ l : Fin 256, k0_pay3 (F := Ideal) qs (trunk i ⟨n, hlt⟩ xk) (ix2 r l) = ((z (((i 2).val - 1 - n) * 256 + l.val) : ℝ) : EReal) := fun l => by
      rw [z_read, ← hz ⟨((i 2).val - 1 - n) * 256 + l.val, by omega⟩]
      exact Finset.sum_congr rfl fun x _ => by rw [trunk_read]
    intro st
    simp only [st, walk, dif_pos hlt, e1]
    exact ⟨trip_acc z v qs _ _ r e _ _ h _ (by omega) (fun l => by rw [trunk_read, hv]) ih.2 ih.1, fun x => trip_carry z qs _ _ r x _ _ h _ (by omega) ih.2⟩

/-- When the loop is over the accumulator holds the whole row. -/
theorem last_row : (last (F := Ideal) i qs xk xv).1 (ix2 r e) = ((partSum z v 0 ((i 2).val * 256 + r.val) : ℝ) : EReal) := by
  have h := (walk_row i z v qs xk xv r e hz hv (i 2).val le_rfl).1
  rw [Nat.sub_self, Nat.zero_mul] at h
  unfold last
  rw [trips_eq]
  exact h

end Row

/-- The packed output block: the first head's accumulator in the first half of the lanes, the second head's in the other. -/
theorem pack_read (a b : FVec Ideal S256x128 .f32) (r : Fin 256) (e : Fin 128) :
    k0_pay2 (F := Ideal) kernelRun0_A.sl.v0 a b (ix3 0 r e) = if e.val < 64 then a (ix2 r e) else b (ix2 r e) := by
  pointwise [k0_pay2, kernelRun0_A.sl.v0]
  exact select_slt e.val 64 (by omega) (by omega) _ _

/-- The windows' block indices at a grid point. -/
theorem idx : ∀ t : Fin cfg0.N, win0_0.index t = ![(grid0.coords t 0).val, (grid0.coords t 2).val, (grid0.coords t 1).val]
    ∧ win0_1.index t = ![(grid0.coords t 0).val, 0, 4 + (grid0.coords t 1).val] ∧ win0_2.index t = ![(grid0.coords t 0).val, 0, 8 + (grid0.coords t 1).val]
    ∧ win0_3.index t = ![(grid0.coords t 0).val, (grid0.coords t 2).val, (grid0.coords t 1).val] :=
  (by decide +kernel : ∀ t : Fin grid0.N, _)

section
variable (m : (ℓ : Loc nD τ sig) → Buf (Elt Ideal) ℓ) (c : Dev nD) (t : Fin cfg0.N)

/-- The batch of a grid point. -/
def cB : Fin 4 := ⟨(grid0.coords t 0).val, (grid0.coords t 0).isLt⟩
/-- The pair of heads of a grid point. -/
def cP : Fin 4 := ⟨(grid0.coords t 1).val, (grid0.coords t 1).isLt⟩
/-- The positions of a grid point. -/
def cS (r : Fin 256) : Fin 8192 := ⟨(grid0.coords t 2).val * 256 + r.val, by have := (grid0.coords t 2).isLt; simp at *; omega⟩

/-- The query block of a grid point. -/
def in0 : FVec Ideal S1x256x128 .bf16 := iblk m c 0 t
/-- The keys of a grid point. -/
def in1 : FVec Ideal S1x8192x128 .bf16 := iblk m c 1 t
/-- The values of a grid point. -/
def in2 : FVec Ideal S1x8192x128 .bf16 := iblk m c 2 t

/-- The queries. -/
theorem in0_read (r : Fin 256) (l : Fin 128) : in0 m c t (ix3 0 r l)
    = m ((c : Thread nD τ).loc main_arg0) (ix3 (cB t) (cS t r) ⟨(cP t).val * 128 + l.val, by omega⟩) := by
  show (show FVec Ideal S1x256x128 .bf16 from iblk m c 0 t) (ix3 0 r l) = _
  blk_ext [iblk, V, idx t, cB, cP, cS]

/-- The keys. -/
theorem in1_read (r : Fin 8192) (l : Fin 128) : in1 m c t (ix3 0 r l)
    = m ((c : Thread nD τ).loc main_arg0) (ix3 (cB t) r ⟨512 + ((cP t).val * 128 + l.val), by omega⟩) := by
  show (show FVec Ideal S1x8192x128 .bf16 from iblk m c 1 t) (ix3 0 r l) = _
  blk_ext [iblk, V, idx t, cB, cP, cS]

/-- The values. -/
theorem in2_read (r : Fin 8192) (l : Fin 128) : in2 m c t (ix3 0 r l)
    = m ((c : Thread nD τ).loc main_arg0) (ix3 (cB t) r ⟨1024 + ((cP t).val * 128 + l.val), by omega⟩) := by
  show (show FVec Ideal S1x8192x128 .bf16 from iblk m c 2 t) (ix3 0 r l) = _
  blk_ext [iblk, V, idx t, cB, cP, cS]

end

section
variable (m : (ℓ : Loc nD τ sig) → Buf (Elt Ideal) ℓ) (c : Dev nD) (X : S4x8192x3584.Idx → ℝ) (hX : ∀ j, m ((c : Thread nD τ).loc main_arg0) j = ((X j : ℝ) : EReal))
include hX

/-- The scores of one head of the pair. -/
theorem head_scores (t : Fin cfg0.N) (h : Fin 2) (qs : FVec Ideal S256x128 .bf16) (r : Fin 256)
    (hq : ∀ l : Fin 128, qs (ix2 r l) = (if l.val / 64 = h.val then in0 m c t (ix3 0 r l) else 0) * Ideal.ofBits .f32 0x3E000000#32) (n : Fin 8192) :
    ∑ x, qs (ix2 r x) * in1 m c t (ix3 0 n x) = ((zrow X (cB t) ⟨(cP t).val * 2 + h.val, by omega⟩ (cS t r) n.val : ℝ) : EReal) := by
  refine (Finset.sum_congr rfl fun x _ => ?_).trans ((half_dot h.val h.isLt (fun x => X (ix3 (cB t) (cS t r) ⟨(cP t).val * 128 + x.val, by omega⟩))
    (fun x => X (ix3 (cB t) n ⟨512 + ((cP t).val * 128 + x.val), by omega⟩))).trans ?_)
  · rw [hq, in0_read, in1_read, hX, hX]
  · unfold zrow
    congr 2
    · funext d
      congr 2
      exact Fin.ext (by show (cP t).val * 128 + (64 * h.val + d.val) = ((cP t).val * 2 + h.val) * 64 + d.val; omega)
    · funext d
      congr 2
      · exact Fin.ext (Nat.mod_eq_of_lt n.isLt).symm
      · exact Fin.ext (by show 512 + ((cP t).val * 128 + (64 * h.val + d.val)) = 512 + (((cP t).val * 2 + h.val) * 64 + d.val); omega)

/-- One head's accumulator holds the head's output. -/
theorem head_acc (t : Fin cfg0.N) (h : Fin 2) (qs : FVec Ideal S256x128 .bf16) (r : Fin 256) (e : Fin 128) (he : e.val / 64 = h.val)
    (hq : ∀ l : Fin 128, qs (ix2 r l) = (if l.val / 64 = h.val then in0 m c t (ix3 0 r l) else 0) * Ideal.ofBits .f32 0x3E000000#32) :
    (last (F := Ideal) (grid0.coords t) qs (in1 m c t) (in2 m c t)).1 (ix2 r e) = ((value X (cB t) (cS t r) ⟨(cP t).val * 128 + e.val, by omega⟩ : ℝ) : EReal) := by
  have hh : ((cP t).val * 128 + e.val) / 64 = (cP t).val * 2 + h.val := by omega
  refine (last_row (grid0.coords t) (zrow X (cB t) ⟨(cP t).val * 2 + h.val, by omega⟩ (cS t r))
    (vrow X (cB t) ⟨(cP t).val * 2 + h.val, by omega⟩ ⟨e.val % 64, Nat.mod_lt _ (by norm_num)⟩) qs _ _ r e (head_scores m c X hX t h qs r hq) fun n => ?_).trans ?_
  · rw [in2_read, hX]
    unfold vrow
    congr 3
    · exact Fin.ext (Nat.mod_eq_of_lt n.isLt).symm
    · exact Fin.ext (by show 1024 + ((cP t).val * 128 + e.val) = 1024 + (((cP t).val * 2 + h.val) * 64 + e.val % 64); omega)
  · unfold value
    have hm : ((cP t).val * 128 + e.val) % 64 = e.val % 64 := by omega
    simp only [hh, hm]
    rfl

/-- A grid point's block, at an index. -/
theorem point_at (t : Fin cfg0.N) (r : Fin 256) (e : Fin 128) :
    k0_pay2 (F := Ideal) kernelRun0_A.sl.v0 (last (F := Ideal) (grid0.coords t) (q0 (F := Ideal) (in0 m c t)) (in1 m c t) (in2 m c t)).1
        (last (F := Ideal) (grid0.coords t) (q1 (F := Ideal) (in0 m c t)) (in1 m c t) (in2 m c t)).1 (ix3 0 r e)
      = ((value X (cB t) (cS t r) ⟨(cP t).val * 128 + e.val, by omega⟩ : ℝ) : EReal) := by
  rw [pack_read]
  split
  · exact head_acc m c X hX t 0 _ r e (by show _ = 0; omega) fun l => q0_read _ r l
  · exact head_acc m c X hX t 1 _ r e (by show _ = 1; omega) fun l => q1_read _ r l

/-- The kernel's output array is the common value of the argument. -/
theorem final : (dats m 0 c).arrAt 3 cfg0.N = fun j : S4x8192x512.Idx => ((value X (j 0) (j 1) (j 2) : ℝ) : EReal) := by
  refine (dats m 0 c).arrAt_eq_of_covers 3 _ (by decide +kernel) fun t hf y => ?_
  have e := congrFun (flushed3_A m c t) y
  rw [block] at e
  refine (show _ = _ from e).trans ?_
  blk_simp
  idx_vars y
  obtain rfl : y0 = 0 := Subsingleton.elim _ _
  refine (show _ = _ from point_at m c X hX t y1 y2).trans ?_
  have e0 : ((View.whole main_v0).slice (win0_3.rect t)).emb (ix3 0 y1 y2) = ix3 (cB t) (cS t y1) ⟨(cP t).val * 128 + y2.val, by omega⟩ := by
    blk_ext [idx t, cB, cS, cP]
  rw [e0]
  rfl

end

end Cert.Stick
-- ==== Proof.StickRef.lean ====
module

public import proofs.«01_k».proof.Proof.Gen.Reference2Ideal.Run
public import proofs.«01_k».proof.Proof.StickSum
public import proofs.«01_k».proof.Proof.Words
public import Idealize.ShloMosaic.Lib.Pointwise

/-! The stick-breaking reference in stages, each stage read at an index. -/

@[expose] public section

set_option maxRecDepth 16384

noncomputable section

namespace Cert.Stick.Ref

open Cert.Reference2Ideal Cert.Reference2Ideal.Gen Cert.Reference2Ideal.Value Cert.Diff
open Idealize.ShloMosaic Idealize.ShloMosaic.TcCoe

section Stages
variable {F : FTy → Type} [FloatOps F]

/-- Columns by batch, head, position, lane. -/
def heads (x : FVec F S4x8192x512 .bf16) : FVec F S4x8x8192x64 .f32 :=
  transpose S4x8x8192x64 [0, 2, 1, 3] (shapeCast S4x8192x8x64 (extf .f32 x bitsLt_bf16_f32) shapeCasts_S4x8192x512_S4x8192x8x64) transposes_S4x8192x8x64_S4x8x8192x64_0_2_1_3

/-- The queries. -/
def qh (x : FVec F S4x8192x3584 .bf16) : FVec F S4x8x8192x64 .f32 := heads (extractStridedSlice S4x8192x512 ![0, 0, 0] x slices_S4x8192x3584_S4x8192x512_0_0_0)
/-- The keys. -/
def kh (x : FVec F S4x8192x3584 .bf16) : FVec F S4x8x8192x64 .f32 := heads (extractStridedSlice S4x8192x512 ![0, 0, 512] x slices_S4x8192x3584_S4x8192x512_0_0_512)
/-- The values. -/
def vh (x : FVec F S4x8192x3584 .bf16) : FVec F S4x8x8192x64 .f32 := heads (extractStridedSlice S4x8192x512 ![0, 0, 1024] x slices_S4x8192x3584_S4x8192x512_0_0_1024)

/-- The scores. -/
def scores (x : FVec F S4x8192x3584 .bf16) : FVec F S4x8x8192x8192 .f32 :=
  mulf (Host.dotGeneral dot_S4x8x8192x64_S4x8x8192x64_S4x8x8192x8192_3_3_2_2_01_01 none (qh x) (kh x)) (broadcastInDim S4x8x8192x8192 ![] bcast_S_S4x8x8192x8192 (constant S_ .f32 0x3E000000#32))

/-- Which keys each query sees. -/
def mask : Vec F S8192x8192 .i1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The zero array. -/
def zeros : FVec F S4x8x8192x8192 .f32 := broadcastInDim S4x8x8192x8192 ![] bcast_S_S4x8x8192x8192 (constant S_ .f32 0x00000000#32)

/-- The library's softplus. -/
def softplus (y : FVec F S4x8x8192x8192 .f32) : FVec F S4x8x8192x8192 .f32 :=
  select (cmpf .une (subf y zeros) (subf y zeros)) (addf y zeros) (addf (maximumf y zeros) (Host.log1p (Host.exp (Host.negf (Host.absf (subf y zeros))))))

/-- The logarithm of the logistic function. -/
def lsig (y : FVec F S4x8x8192x8192 .f32) : FVec F S4x8x8192x8192 .f32 := Host.negf (softplus (Host.negf y))

/-- Zero at the keys a query does not see. -/
def masked (y : FVec F S4x8x8192x8192 .f32) : FVec F S4x8x8192x8192 .f32 :=
  select (broadcastInDim S4x8x8192x8192 ![2, 3] bcast_S8192x8192_S4x8x8192x8192_2_3 (mask (F := F))) y (broadcastInDim S4x8x8192x8192 ![] bcast_S_S4x8x8192x8192 (id (constant S_ .f32 0x00000000#32)))

/-- The sums over the keys from each key on. -/
def suffix (y : FVec F S4x8x8192x8192 .f32) : FVec F S4x8x8192x8192 .f32 :=
  Host.reduceWindowAdd ![1, 1, 1, 8192] ![1, 1, 1, 1] ![0, 0, 0, 0] ![0, 0, 0, 8191] y (broadcastInDim S_ ![] bcast_S_S_ (constant S_ .f32 0x00000000#32))
    reduceWindows_S4x8x8192x8192_S4x8x8192x8192_w1s1p0_0_w1s1p0_0_w1s1p0_0_w8192s1p0_8191 h_S_

/-- The logarithms of the chances that no later key was taken. -/
def between (y : FVec F S4x8x8192x8192 .f32) : FVec F S4x8x8192x8192 .f32 := subf (suffix y) y

/-- The weights. -/
def weights (z b : FVec F S4x8x8192x8192 .f32) : FVec F S4x8x8192x8192 .f32 := masked (Host.exp (addf (lsig z) b))

/-- The weighted sums of the values, heads back to columns, rounded to the result's type. -/
def packed (w : FVec F S4x8x8192x8192 .f32) (v : FVec F S4x8x8192x64 .f32) : FVec F S4x8192x512 .bf16 :=
  truncf .bf16 (shapeCast S4x8192x512 (transpose S4x8192x8x64 [0, 2, 1, 3] (Host.dotGeneral dot_S4x8x8192x8192_S4x8x8192x64_S4x8x8192x64_3_2_2_3_01_01 none w v) transposes_S4x8x8192x64_S4x8192x8x64_0_2_1_3)
    shapeCasts_S4x8192x8x64_S4x8192x512) bitsLt_bf16_f32

/-- The reference as a function of its argument. -/
def whole (x : FVec F S4x8192x3584 .bf16) : FVec F S4x8192x512 .bf16 :=
  packed (weights (scores x) (between (masked (lsig (Host.negf (scores x)))))) (vh x)

set_option maxHeartbeats 4000000 in
/-- The run's result is the stages' composition. -/
theorem res_eq (m : (ℓ : Loc nD τ sig) → Buf (Elt F) ℓ) (c : Dev nD) :
    res_out0 m c = whole (F := F) (m ((c.tc : Thread nD τ).loc main_arg0)) := rfl

end Stages

/-- A left fold that adds is the sum. -/
theorem foldl_add {n : ℕ} (g : Fin n → EReal) : (List.finRange n).foldl (fun r k => r + g k) 0 = ∑ k, g k := by
  rw [Fin.sum_univ_def, List.sum_eq_foldl, List.foldl_map]

/-- Windows that reach from each place to the end of the last axis sum the places from there on. -/
theorem suffix_sum {n0 n1 n2 N : ℕ} {u : Shape} (x : FVec Ideal ⟨4, ![n0, n1, n2, N]⟩ .f32) (init : u.Idx → EReal) (hi : Fin 4 → ℕ)
    (h : (⟨4, ![n0, n1, n2, N]⟩ : Shape).ReduceWindows ![1, 1, 1, N] ![1, 1, 1, 1] ![0, 0, 0, 0] hi ⟨4, ![n0, n1, n2, N]⟩) (hu : 0 < u.numel) (h0 : init (Shape.Idx.first hu) = 0)
    (a : Fin n0) (b : Fin n1) (c : Fin n2) (k : Fin N) :
    Host.reduceWindowAdd (F := Ideal) (φ := .f32) ![1, 1, 1, N] ![1, 1, 1, 1] ![0, 0, 0, 0] hi x init h hu (ix4 a b c k)
      = ∑ n : Fin N, if hn : k.val + n.val < N then x (ix4 a b c ⟨k.val + n.val, hn⟩) else 0 := by
  show Host.reduceWindow (fun r e : EReal => r + e) ![1, 1, 1, N] ![1, 1, 1, 1] ![0, 0, 0, 0] hi x _ h _ (ix4 a b c k) = _
  unfold Host.reduceWindow
  dsimp only
  rw [h0, foldl_add]
  let G : (⟨4, ![1, 1, 1, N]⟩ : Shape).Idx → EReal := fun w => if hn : k.val + (w 3).val < N then x (ix4 a b c ⟨k.val + (w 3).val, hn⟩) else 0
  refine (Finset.sum_congr rfl fun n _ => ?_).trans (((Shape.rowMajor ⟨4, ![1, 1, 1, N]⟩).symm.sum_comp G).trans ?_)
  · show _ = G ((Shape.rowMajor ⟨4, ![1, 1, 1, N]⟩).symm n)
    have w0 : ((Shape.rowMajor ⟨4, ![1, 1, 1, N]⟩).symm n 0).val = 0 := Nat.lt_one_iff.1 ((Shape.rowMajor ⟨4, ![1, 1, 1, N]⟩).symm n 0).isLt
    have w1 : ((Shape.rowMajor ⟨4, ![1, 1, 1, N]⟩).symm n 1).val = 0 := Nat.lt_one_iff.1 ((Shape.rowMajor ⟨4, ![1, 1, 1, N]⟩).symm n 1).isLt
    have w2 : ((Shape.rowMajor ⟨4, ![1, 1, 1, N]⟩).symm n 2).val = 0 := Nat.lt_one_iff.1 ((Shape.rowMajor ⟨4, ![1, 1, 1, N]⟩).symm n 2).isLt
    simp only [G]
    by_cases hn : k.val + ((Shape.rowMajor ⟨4, ![1, 1, 1, N]⟩).symm n 3).val < N
    · rw [dif_pos hn, dif_pos fun a' => by fin_cases a' <;> simp [hn, w0, w1, w2]]
      refine congrArg x (funext fun a' => Fin.ext ?_)
      fin_cases a' <;> simp [w0, w1, w2]
    · rw [dif_neg hn, dif_neg fun h' => hn (by simpa using (h' 3).2)]
  · rw [sum_idx4]
    simp only [Finset.univ_unique, Finset.sum_singleton]
    exact Finset.sum_congr rfl fun n _ => rfl

/-- The queries. -/
theorem qh_read (x : FVec Ideal S4x8192x3584 .bf16) (b : Fin 4) (h : Fin 8) (s : Fin 8192) (d : Fin 64) :
    qh x (ix4 b h s d) = x (ix3 b s ⟨h.val * 64 + d.val, by omega⟩) := by
  pointwise [qh, heads]

/-- The keys. -/
theorem kh_read (x : FVec Ideal S4x8192x3584 .bf16) (b : Fin 4) (h : Fin 8) (s : Fin 8192) (d : Fin 64) :
    kh x (ix4 b h s d) = x (ix3 b s ⟨512 + (h.val * 64 + d.val), by omega⟩) := by
  pointwise [kh, heads]

/-- The values. -/
theorem vh_read (x : FVec Ideal S4x8192x3584 .bf16) (b : Fin 4) (h : Fin 8) (s : Fin 8192) (d : Fin 64) :
    vh x (ix4 b h s d) = x (ix3 b s ⟨1024 + (h.val * 64 + d.val), by omega⟩) := by
  pointwise [vh, heads]

/-- The logarithm of the logistic function, on a real. -/
theorem lsig_read (y : FVec Ideal S4x8x8192x8192 .f32) (b : Fin 4) (h : Fin 8) (q k : Fin 8192) (r : ℝ) (hy : y (ix4 b h q k) = ((r : ℝ) : EReal)) :
    lsig y (ix4 b h q k) = ((-sp (-r) : ℝ) : EReal) := by
  pointwise [lsig, softplus, zeros]
  rw [hy, if_neg (by simp), ← EReal.coe_neg]
  have e := softplus_coe (-r)
  rw [zero_sub, EReal.coe_one] at e
  exact (congrArg (-·) e).trans (EReal.coe_neg _).symm

/-- Zero at the keys a query does not see. -/
theorem masked_read (y : FVec Ideal S4x8x8192x8192 .f32) (b : Fin 4) (h : Fin 8) (q k : Fin 8192) :
    masked y (ix4 b h q k) = if k.val < q.val then y (ix4 b h q k) else 0 := by
  pointwise [masked, mask]
  have e : (id (constant (F := Ideal) S_ .f32 0x00000000#32)) ix0 = (0 : EReal) := by simp only [id, pointwise]
  rw [e]
  exact select_slt k.val q.val (by omega) (by omega) _ _

/-- The sums over the keys from each key on. -/
theorem suffix_read (y : FVec Ideal S4x8x8192x8192 .f32) (b : Fin 4) (h : Fin 8) (q k : Fin 8192) :
    suffix y (ix4 b h q k) = ∑ n : Fin 8192, if hn : k.val + n.val < 8192 then y (ix4 b h q ⟨k.val + n.val, hn⟩) else 0 :=
  suffix_sum (n0 := 4) (n1 := 8) (n2 := 8192) (N := 8192) y _ _ reduceWindows_S4x8x8192x8192_S4x8x8192x8192_w1s1p0_0_w1s1p0_0_w1s1p0_0_w8192s1p0_8191 h_S_
    (by simp only [pointwise]) b h q k

/-- A weight, from the score and the later keys' part. -/
theorem weights_read (z y : FVec Ideal S4x8x8192x8192 .f32) (b : Fin 4) (h : Fin 8) (q k : Fin 8192) :
    weights z y (ix4 b h q k) = if k.val < q.val then Ideal.exp (lsig z (ix4 b h q k) + y (ix4 b h q k)) else 0 := by
  unfold weights
  rw [masked_read]
  refine if_congr Iff.rfl ?_ rfl
  pointwise

/-- The weighted sums of the values. -/
theorem packed_read (w : FVec Ideal S4x8x8192x8192 .f32) (v : FVec Ideal S4x8x8192x64 .f32) (b : Fin 4) (s : Fin 8192) (c : Fin 512) :
    packed w v (ix3 b s c) = ∑ k : Fin 8192, w (ix4 b ⟨c.val / 64, by omega⟩ s k) * v (ix4 b ⟨c.val / 64, by omega⟩ k ⟨c.val % 64, by omega⟩) := by
  pointwise [packed]

section Row
variable (X : S4x8192x3584.Idx → ℝ) (b : Fin 4) (h : Fin 8) (q : Fin 8192)

/-- The scores of a row. -/
theorem scores_row (k : Fin 8192) : scores (F := Ideal) (fun j => ((X j : ℝ) : EReal)) (ix4 b h q k) = ((zrow X b h q k.val : ℝ) : EReal) := by
  pointwise [scores]
  have e : ∀ x : Fin 64, qh (F := Ideal) (fun j => ((X j : ℝ) : EReal)) (ix4 b h q x) * kh (F := Ideal) (fun j => ((X j : ℝ) : EReal)) (ix4 b h k x)
      = ((X (ix3 b q ⟨h.val * 64 + x.val, by omega⟩) * X (ix3 b ⟨k.val % 8192, Nat.mod_lt _ (by norm_num)⟩ ⟨512 + (h.val * 64 + x.val), by omega⟩) : ℝ) : EReal) := fun x => by
    rw [qh_read, kh_read, ← EReal.coe_mul]
    congr 4
    exact Fin.ext (Nat.mod_eq_of_lt k.isLt).symm
  rw [Finset.sum_congr rfl fun x _ => e x, sum_coe, ofBits_eighth, ← EReal.coe_mul]
  rfl

variable (z : ℕ → ℝ) (y : FVec Ideal S4x8x8192x8192 .f32) (hy : ∀ k : Fin 8192, y (ix4 b h q k) = ((z k.val : ℝ) : EReal))
include hy

/-- The negated softplus values of a row, zero at the keys the query does not see. -/
theorem masked_row (k : Fin 8192) : masked (lsig (Host.negf y)) (ix4 b h q k) = if k.val < q.val then ((-sp (z k.val) : ℝ) : EReal) else 0 := by
  have e : Host.negf (F := Ideal) y (ix4 b h q k) = ((-z k.val : ℝ) : EReal) := (congrArg (fun t : EReal => -t) (hy k)).trans (EReal.coe_neg _).symm
  rw [masked_read, lsig_read _ b h q k _ e, neg_neg]

/-- The later keys' part of a row. -/
theorem between_row (k : Fin 8192) (hk : k.val < q.val) :
    between (masked (lsig (Host.negf y))) (ix4 b h q k) = ((-∑ j ∈ Finset.Ico (k.val + 1) q.val, sp (z j) : ℝ) : EReal) := by
  have e : suffix (masked (lsig (Host.negf y))) (ix4 b h q k) = ((-∑ j ∈ Finset.Ico k.val q.val, sp (z j) : ℝ) : EReal) := by
    have hs := sum_places 8192 0 (q.val - k.val) k.val (by omega) fun j => sp (z j)
    rw [add_zero, Nat.add_sub_cancel' hk.le] at hs
    rw [suffix_read, ← hs, ← Finset.sum_neg_distrib, ← sum_coe]
    refine Finset.sum_congr rfl fun n _ => ?_
    by_cases hn : k.val + n.val < q.val
    · rw [dif_pos (by omega), masked_row b h q z y hy, if_pos hn, if_pos (by omega)]
    · rw [if_neg (by omega), neg_zero, EReal.coe_zero]
      by_cases hn' : k.val + n.val < 8192
      · rw [dif_pos hn', masked_row b h q z y hy, if_neg hn]
      · rw [dif_neg hn']
  have r : (-∑ j ∈ Finset.Ico k.val q.val, sp (z j)) - -sp (z k.val) = -∑ j ∈ Finset.Ico (k.val + 1) q.val, sp (z j) := by
    rw [Finset.sum_eq_sum_Ico_succ_bot hk]
    ring
  have d : ∀ w : FVec Ideal S4x8x8192x8192 .f32, between w (ix4 b h q k) = suffix w (ix4 b h q k) - w (ix4 b h q k) := fun w => by
    unfold between
    simp only [pointwise]
  rw [d, e, masked_row b h q z y hy, if_pos hk, ← EReal.coe_sub, r]

/-- The weights of a row. -/
theorem weights_row (k : Fin 8192) : weights y (between (masked (lsig (Host.negf y)))) (ix4 b h q k) = ((if k.val < q.val then weight z q.val k.val else 0 : ℝ) : EReal) := by
  rw [weights_read]
  by_cases hk : k.val < q.val
  · rw [if_pos hk, if_pos hk, lsig_read _ b h q k _ (hy k), between_row b h q z y hy k hk, ← EReal.coe_add, Ideal.exp_coe, sp_neg]
    unfold weight
    congr 2
    ring
  · rw [if_neg hk, if_neg hk, EReal.coe_zero]

end Row

/-- The reference at an index. -/
theorem whole_read (X : S4x8192x3584.Idx → ℝ) (x : FVec Ideal S4x8192x3584 .bf16) (hx : ∀ j, x j = ((X j : ℝ) : EReal)) (b : Fin 4) (s : Fin 8192) (c : Fin 512) :
    whole x (ix3 b s c) = ((value X b s c : ℝ) : EReal) := by
  obtain rfl : x = fun j => ((X j : ℝ) : EReal) := funext hx
  unfold whole
  rw [packed_read]
  unfold value
  generalize hh : (⟨c.val / 64, by omega⟩ : Fin 8) = h
  generalize hd : (⟨c.val % 64, by omega⟩ : Fin 64) = d
  have e : ∀ k : Fin 8192, weights (scores (F := Ideal) fun j => ((X j : ℝ) : EReal)) (between (masked (lsig (Host.negf (scores (F := Ideal) fun j => ((X j : ℝ) : EReal)))))) (ix4 b h s k)
        * vh (F := Ideal) (fun j => ((X j : ℝ) : EReal)) (ix4 b h k d)
      = ((if 0 ≤ k.val ∧ k.val < s.val then weight (zrow X b h s) s.val (0 + k.val) * vrow X b h d (0 + k.val) else 0 : ℝ) : EReal) := fun k => by
    have hv : vh (F := Ideal) (fun j => ((X j : ℝ) : EReal)) (ix4 b h k d) = ((vrow X b h d k.val : ℝ) : EReal) := by
      rw [vh_read]
      unfold vrow
      congr 3
      exact Fin.ext (Nat.mod_eq_of_lt k.isLt).symm
    rw [weights_row b h s (zrow X b h s) _ (scores_row X b h s) k, hv, ← EReal.coe_mul, Nat.zero_add]
    by_cases hk : k.val < s.val
    · rw [if_pos hk, if_pos ⟨Nat.zero_le _, hk⟩]
    · rw [if_neg hk, if_neg (by omega), zero_mul]
  rw [Finset.sum_congr rfl fun k _ => e k, sum_coe, sum_places 8192 0 s.val 0 s.isLt.le fun k => weight (zrow X b h s) s.val k * vrow X b h d k, Nat.zero_add, Nat.zero_add]
  rfl

end Cert.Stick.Ref
-- ==== Proof.StickPre.lean ====
module

public import proofs.«01_k».proof.Proof.Pre
public import proofs.«01_k».proof.Proof.Gen.Pre_finite2

/-! What the stick-breaking precondition says: every projection is a real number. -/

@[expose] public section

noncomputable section

namespace Cert.Stick

open Idealize.ShloMosaic

/-- The precondition read. -/
theorem reals_of_pre [Cert.Pre_finite2.Facts] (a : FVec Ideal Cert.Pre_finite2.S4x8192x3584 .bf16) (e : Cert.Pre_finite2.fn (F := Ideal) a = fun _ => 1#1) :
    ∃ X : Cert.Pre_finite2.S4x8192x3584.Idx → ℝ, ∀ i, a i = ↑(X i) := by
  have e := congrFun e (fun k => k.elim0)
  unfold Cert.Pre_finite2.fn at e
  dsimp only at e
  exact Cert.Diff.reals_of_all _ _ (fun _ => rfl) _ _ _ _ e

end Cert.Stick

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite2
public import proofs.«01_k».proof.Proof.KValue
public import proofs.«01_k».proof.Proof.RRead
public import proofs.«01_k».proof.Proof.Pre
public import proofs.«01_k».proof.Proof.Proj4
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite8
public import proofs.«01_k».proof.Proof.RetKernel
public import proofs.«01_k».proof.Proof.RetEnd
public import proofs.«01_k».proof.Proof.RetPre
public import proofs.«01_k».proof.Proof.Ada
public import proofs.«01_k».proof.Proof.Out5
public import proofs.«01_k».proof.Proof.Out6
public import proofs.«01_k».proof.Proof.StickPoint
public import proofs.«01_k».proof.Proof.StickRef
public import proofs.«01_k».proof.Proof.StickPre
public import Idealize.ShloMosaic.Adequacy
public import Idealize.ShloMosaic.Init

@[expose] public section

noncomputable section

namespace Cert.Proof

open Idealize.ShloMosaic Idealize.SL.Sem

/-- The reference runs, keeps its arguments, and counts nothing. -/
theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel and the reference end with the same array, on real projections and lambda rows. -/
theorem same_value : Cert.algebraic_KernelIdeal_ReferenceIdeal_pre_finite := by
  intro m ρ m' ρ' hpre hag
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨⟨X, hX⟩, h1, h2, h3, h4⟩ := Cert.Diff.reals_of_pre _ _ _ _ _ _ (hpre c)
  obtain ⟨σ, hσ⟩ := Cert.Diff.slopev_real
  obtain ⟨L, hL⟩ := Cert.Diff.lamv_real _ _ _ _ h1 h2 h3 h4
  obtain ⟨e0, e1, e2, e3, e4, e5⟩ := hag c
  refine Eq.trans ?_ (Cert.Diff.final m c X hX σ hσ L hL).symm
  refine (Cert.Diff.Ref.res_eq m' c).trans ?_
  rw [e0, e1, e2, e3, e4, e5]
  funext j
  idx_vars j
  exact Cert.Diff.Ref.whole_read X σ hσ L _ hX _ _ _ _ hL _ _ _ _

/-- The stick-breaking reference runs, keeps its argument, and counts nothing. -/
theorem reference2_frame : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The stick-breaking kernel and its reference end with the same array, on real projections. -/
theorem same_value2 : Cert.algebraic_Kernel2Ideal_Reference2Ideal_pre_finite2 := by
  intro m ρ m' ρ' hpre hag
  refine ⟨fun c => (Cert.Kernel2Ideal.Gen.dats m 0 c).arrAt 3 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run (F := Ideal) m' ρ')
  obtain ⟨X, hX⟩ := Cert.Stick.reals_of_pre _ (hpre c)
  refine Eq.trans ?_ (Cert.Stick.final m c X hX).symm
  refine (Cert.Stick.Ref.res_eq m' c).trans ?_
  rw [hag c]
  funext j
  idx_vars j
  exact Cert.Stick.Ref.whole_read X _ hX _ _ _

/-- The even layer's projection reference runs, keeps its arguments, and counts nothing. -/
theorem reference3_frame : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The even layer's projection: the kernel and the reference end with the same array. -/
theorem same_value3 : Cert.algebraic_Kernel3Ideal_Reference3Ideal := by
  intro m ρ m' ρ' _ hag
  refine ⟨fun c => (Cert.Kernel3Ideal.Gen.dats m 0 c).arrAt 4 Cert.Kernel3Ideal.cfg0.N, Cert.Kernel3Ideal.Value.run_blocks m ρ, ?_⟩
  refine (θ_run Cert.Reference3Ideal.defs _ _).mono (fun r h c => ⟨(h c).1.trans ?_, (h c).2⟩) (Cert.Reference3Ideal.Value.run (F := Ideal) m' ρ')
  obtain ⟨e0, e1, e2, e3⟩ := hag c
  refine Eq.trans ?_ (Cert.Proj.final m c).symm
  rw [e0, e1, e2, e3]
  funext j
  idx_vars j
  exact Cert.Proj.ref_read _ _ _ _ _ _ _

/-- The odd layer's projection reference runs, keeps its arguments, and counts nothing. -/
theorem reference4_frame : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The odd layer's projection: the kernel and the reference end with the same array. -/
theorem same_value4 : Cert.algebraic_Kernel4Ideal_Reference4Ideal := by
  intro m ρ m' ρ' _ hag
  refine ⟨fun c => (Cert.Kernel4Ideal.Gen.dats m 0 c).arrAt 4 Cert.Kernel4Ideal.cfg0.N, Cert.Kernel4Ideal.Value.run_blocks m ρ, ?_⟩
  refine (θ_run Cert.Reference4Ideal.defs _ _).mono (fun r h c => ⟨(h c).1.trans ?_, (h c).2⟩) (Cert.Reference4Ideal.Value.run (F := Ideal) m' ρ')
  obtain ⟨e0, e1, e2, e3⟩ := hag c
  refine Eq.trans ?_ (Cert.Proj4.final m c).symm
  rw [e0, e1, e2, e3]
  funext j
  idx_vars j
  exact Cert.Proj4.ref_read _ _ _ _ _ _ _

/-- The even layer's output projection reference runs, keeps its arguments, and counts nothing. -/
theorem reference5_frame : Cert.quiescent_Reference5Ideal := by
  intro m ρ _
  exact (θ_run Cert.Reference5Ideal.defs _ _).mono (fun r h => ⟨fun c => (h c).2.2.2, sem_eq_zero_of_no_sems (by decide) r.2⟩)
    (Cert.Reference5Ideal.Value.run (F := Ideal) m ρ)

/-- The even layer's output projection: the kernel and the reference end with the same three arrays. -/
theorem same_value5 : Cert.algebraic_Kernel5Ideal_Reference5Ideal := by
  intro m ρ m' ρ' _ hag
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N,
    fun c => (Cert.Kernel5Ideal.Gen.dats m 0 c).arrAt 14 Cert.Kernel5Ideal.cfg0.N, Cert.Kernel5Ideal.Value.run_blocks m ρ, ?_⟩
  refine (θ_run Cert.Reference5Ideal.defs _ _).mono (fun r h c => ⟨(h c).1.trans ?_, (h c).2.1.trans ?_, (h c).2.2.1.trans ?_, (h c).2.2.2⟩)
    (Cert.Reference5Ideal.Value.run (F := Ideal) m' ρ')
  all_goals obtain ⟨e0, e1, e2, e3, e4, e5, e6, e7, e8, e9, e10, e11, e12⟩ := hag c
  · refine (Cert.Out5.ref0 m' c).trans (Eq.trans ?_ (Cert.Out5.final12 m c).symm)
    simp only [e0, e1, e2, e3, e4, e5, e6, e7, e8, e9, e10, e11, e12]
  · refine (Cert.Out5.ref1 m' c).trans (Eq.trans ?_ (Cert.Out5.final13 m c).symm)
    simp only [e0, e1, e2, e3, e4, e5, e6, e7, e8, e9, e10, e11, e12]
  · refine (Cert.Out5.ref2 m' c).trans (Eq.trans ?_ (Cert.Out5.final14 m c).symm)
    simp only [e0, e1, e2, e3, e4, e5, e6, e7, e8, e9, e10, e11, e12]

/-- The odd layer's output projection reference runs, keeps its arguments, and counts nothing. -/
theorem reference6_frame : Cert.quiescent_Reference6Ideal := by
  intro m ρ _
  exact (θ_run Cert.Reference6Ideal.defs _ _).mono (fun r h => ⟨fun c => (h c).2.2.2, sem_eq_zero_of_no_sems (by decide) r.2⟩)
    (Cert.Reference6Ideal.Value.run (F := Ideal) m ρ)

/-- The odd layer's output projection: the kernel and the reference end with the same three arrays. -/
theorem same_value6 : Cert.algebraic_Kernel6Ideal_Reference6Ideal := by
  intro m ρ m' ρ' _ hag
  refine ⟨fun c => (Cert.Kernel6Ideal.Gen.dats m 0 c).arrAt 10 Cert.Kernel6Ideal.cfg0.N, fun c => (Cert.Kernel6Ideal.Gen.dats m 0 c).arrAt 11 Cert.Kernel6Ideal.cfg0.N,
    fun c => (Cert.Kernel6Ideal.Gen.dats m 0 c).arrAt 12 Cert.Kernel6Ideal.cfg0.N, Cert.Kernel6Ideal.Value.run_blocks m ρ, ?_⟩
  refine (θ_run Cert.Reference6Ideal.defs _ _).mono (fun r h c => ⟨(h c).1.trans ?_, (h c).2.1.trans ?_, (h c).2.2.1.trans ?_, (h c).2.2.2⟩)
    (Cert.Reference6Ideal.Value.run (F := Ideal) m' ρ')
  all_goals obtain ⟨e0, e1, e2, e3, e4, e5, e6, e7, e8, e9, e10, e11⟩ := hag c
  · refine (Cert.Out6.ref0 m' c).trans (Eq.trans ?_ (Cert.Out6.final10 m c).symm)
    simp only [e0, e1, e2, e3, e4, e5, e6, e7, e8, e9, e10, e11]
  · refine (Cert.Out6.ref1 m' c).trans (Eq.trans ?_ (Cert.Out6.final11 m c).symm)
    simp only [e0, e1, e2, e3, e4, e5, e6, e7, e8, e9, e10, e11]
  · refine (Cert.Out6.ref2 m' c).trans (Eq.trans ?_ (Cert.Out6.final12 m c).symm)
    simp only [e0, e1, e2, e3, e4, e5, e6, e7, e8, e9, e10, e11]

/-- The modulation's reference runs, keeps its arguments, and counts nothing. -/
theorem reference7_frame : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- The modulation of both layers: the kernel and the reference end with the same array. -/
theorem same_value7 : Cert.algebraic_Kernel7Ideal_Reference7Ideal := by
  intro m ρ m' ρ' _ hag
  refine ⟨fun c => (Cert.Kernel7Ideal.Gen.dats m 0 c).arrAt 3 Cert.Kernel7Ideal.cfg0.N, Cert.Kernel7Ideal.Value.run_blocks m ρ, ?_⟩
  refine (θ_run Cert.Reference7Ideal.defs _ _).mono (fun r h c => ⟨(h c).1.trans ?_, (h c).2⟩) (Cert.Reference7Ideal.Value.run (F := Ideal) m' ρ')
  obtain ⟨e0, e1, e2⟩ := hag c
  refine Eq.trans ?_ (Cert.Ada.final m c).symm
  rw [e0, e1, e2]
  funext j; idx_vars j
  exact Cert.Ada.ref_read _ _ _ _ _ _

/-- The retention's reference runs, keeps its arguments, and counts nothing. -/
theorem reference8_frame : Cert.quiescent_Reference8Ideal := by
  intro m ρ _
  exact (θ_run Cert.Reference8Ideal.defs _ _).mono (fun r h => ⟨fun c => ⟨(h c Cert.Reference8Ideal.main_arg0 rfl).trans (Cert.Ret.ref_keeps m c).1,
    (h c Cert.Reference8Ideal.main_arg1 rfl).trans (Cert.Ret.ref_keeps m c).2⟩, sem_eq_zero_of_no_sems (by decide) r.2⟩)
    (Cert.Reference8Ideal.Value.run_fold (F := Ideal) m ρ)

/-- The retention kernel and its reference end with the same array, on real projections. -/
theorem same_value8 : Cert.algebraic_Kernel8Ideal_Reference8Ideal_pre_finite8 := by
  intro m ρ m' ρ' hpre hag
  refine ⟨fun c => (Cert.Kernel8Ideal.Gen.dats m 0 c).arrAt 6 Cert.Kernel8Ideal.cfg0.N, Cert.Kernel8Ideal.Value.run_blocks m ρ, ?_⟩
  refine (θ_run Cert.Reference8Ideal.defs _ _).mono (fun r h c => ⟨(h c Cert.Reference8Ideal.main_v106 rfl).trans ?_, (h c Cert.Reference8Ideal.main_arg0 rfl).trans (Cert.Ret.ref_keeps m' c).1,
    (h c Cert.Reference8Ideal.main_arg1 rfl).trans (Cert.Ret.ref_keeps m' c).2⟩) (Cert.Reference8Ideal.Value.run_fold (F := Ideal) m' ρ')
  obtain ⟨X, hX⟩ := Cert.Ret.reals_of_pre _ _ (hpre c)
  obtain ⟨l, hl⟩ := Cert.Ret.lgv_real
  obtain ⟨a, ha⟩ := Cert.Ret.sc_real
  obtain ⟨e0, e1⟩ := hag c
  refine Eq.trans ?_ (Cert.Ret.final m c X hX l hl a ha).symm
  exact Cert.Ret.ref_result m' c _ e0 _ e1 X hX l hl a ha

/-- The claims, from the frames of the compiled programs and the equalities above. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts, Cert.Pre_finite2.Gen.facts, Cert.Pre_finite8.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, fun m ρ _ => Cert.Kernel8Ideal.Gen.frame m ρ,
  reference8_frame, fun m ρ _ => reference8_frame m ρ trivial,
  trivial, same_value, trivial, same_value2, trivial, same_value3, trivial, same_value4, trivial, same_value5, trivial, same_value6, trivial, same_value7,
  trivial, same_value8⟩

end Cert.Proof

end
